-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v370)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v370) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v431) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x1x32768 : Shape := ⟨3, ![4, 1, 32768]⟩
abbrev S64x1x7 : Shape := ⟨3, ![64, 1, 7]⟩
abbrev S64 : Shape := ⟨1, ![64]⟩
abbrev S128x64x7 : Shape := ⟨3, ![128, 64, 7]⟩
abbrev S128 : Shape := ⟨1, ![128]⟩
abbrev S256x128x7 : Shape := ⟨3, ![256, 128, 7]⟩
abbrev S256 : Shape := ⟨1, ![256]⟩
abbrev S512x256x7 : Shape := ⟨3, ![512, 256, 7]⟩
abbrev S512 : Shape := ⟨1, ![512]⟩
abbrev S1024x512 : Shape := ⟨2, ![1024, 512]⟩
abbrev S512x512 : Shape := ⟨2, ![512, 512]⟩
abbrev S1024 : Shape := ⟨1, ![1024]⟩
abbrev S256x512x7 : Shape := ⟨3, ![256, 512, 7]⟩
abbrev S128x256x7 : Shape := ⟨3, ![128, 256, 7]⟩
abbrev S64x128x7 : Shape := ⟨3, ![64, 128, 7]⟩
abbrev S1x64x7 : Shape := ⟨3, ![1, 64, 7]⟩
abbrev S1 : Shape := ⟨1, ![1]⟩
abbrev S_ : Shape := ⟨0, ![]⟩

class Facts : Prop where
  bcast_S_S4x1x32768 : S_.BroadcastsInDim S4x1x32768 (![] : Fin 0 → Fin S4x1x32768.rank)
  reducesTo_S4x1x32768_S_d0_1_2 : S4x1x32768.ReducesTo [0, 1, 2] S_
  h_S_ : 0 < S_.numel
  bcast_S_S64x1x7 : S_.BroadcastsInDim S64x1x7 (![] : Fin 0 → Fin S64x1x7.rank)
  reducesTo_S64x1x7_S_d0_1_2 : S64x1x7.ReducesTo [0, 1, 2] S_
  bcast_S_S64 : S_.BroadcastsInDim S64 (![] : Fin 0 → Fin S64.rank)
  reducesTo_S64_S_d0 : S64.ReducesTo [0] S_
  bcast_S_S128x64x7 : S_.BroadcastsInDim S128x64x7 (![] : Fin 0 → Fin S128x64x7.rank)
  reducesTo_S128x64x7_S_d0_1_2 : S128x64x7.ReducesTo [0, 1, 2] S_
  bcast_S_S128 : S_.BroadcastsInDim S128 (![] : Fin 0 → Fin S128.rank)
  reducesTo_S128_S_d0 : S128.ReducesTo [0] S_
  bcast_S_S256x128x7 : S_.BroadcastsInDim S256x128x7 (![] : Fin 0 → Fin S256x128x7.rank)
  reducesTo_S256x128x7_S_d0_1_2 : S256x128x7.ReducesTo [0, 1, 2] S_
  bcast_S_S256 : S_.BroadcastsInDim S256 (![] : Fin 0 → Fin S256.rank)
  reducesTo_S256_S_d0 : S256.ReducesTo [0] S_
  bcast_S_S512x256x7 : S_.BroadcastsInDim S512x256x7 (![] : Fin 0 → Fin S512x256x7.rank)
  reducesTo_S512x256x7_S_d0_1_2 : S512x256x7.ReducesTo [0, 1, 2] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x256x7 .f32) (main_arg8 : FVec F S512 .f32) (main_v33 : IVec S_ 1) : IVec S_ 1 :=
  let main_v34 : FVec F S512x256x7 .f32 := Host.absf main_arg7
  let main_cst_12 : FVec F S_ .f32 := constant S_ .f32 0x7F800000#32
  let main_v35 : FVec F S512x256x7 .f32 := broadcastInDim S512x256x7 ![] bcast_S_S512x256x7 main_cst_12
  let main_v36 : IVec S512x256x7 1 := cmpf .olt main_v34 main_v35
  let main_c_13 : IVec S_ 1 := constantI S_ 1 1#1
  let main_v37 : IVec S_ 1 := (fun x v => Host.reduce IntOp.andi x v reducesTo_S512x256x7_S_d0_1_2 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S128 .f32) (main_arg5 : FVec F S256x128x7 .f32) (main_arg6 : FVec F S256 .f32) (main_arg7 : FVec F S512x256x7 .f32) (main_arg8 : FVec F S512 .f32) (main_v13 : IVec S_ 1) (main_v16 : IVec S128x64x7 1) : IVec S_ 1 :=
  let main_c_5 : IVec S_ 1 := constantI S_ 1 1#1
  let main_v17 : IVec S_ 1 := (fun x v => Host.reduce IntOp.andi x v reducesTo_S128x64x7_S_d0_1_2 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128x7 .f32 := Host.absf main_arg5
  let main_cst_8 : FVec F S_ .f32 := constant S_ .f32 0x7F800000#32
  let main_v25 : FVec F S256x128x7 .f32 := broadcastInDim S256x128x7 ![] bcast_S_S256x128x7 main_cst_8
  let main_v26 : IVec S256x128x7 1 := cmpf .olt main_v24 main_v25
  let main_c_9 : IVec S_ 1 := constantI S_ 1 1#1
  let main_v27 : IVec S_ 1 := (fun x v => Host.reduce IntOp.andi x v reducesTo_S256x128x7_S_d0_1_2 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4x1x32768 .f32) (main_arg1 : FVec F S64x1x7 .f32) (main_arg2 : FVec F S64 .f32) (main_arg3 : FVec F S128x64x7 .f32) (main_arg4 : FVec F S128 .f32) (main_arg5 : FVec F S256x128x7 .f32) (main_arg6 : FVec F S256 .f32) (main_arg7 : FVec F S512x256x7 .f32) (main_arg8 : FVec F S512 .f32) (main_arg9 : FVec F S1024x512 .f32) (main_arg10 : FVec F S512x512 .f32) (main_arg11 : FVec F S512 .f32) (main_arg12 : FVec F S1024x512 .f32) (main_arg13 : FVec F S1024 .f32) (main_arg14 : FVec F S256x512x7 .f32) (main_arg15 : FVec F S256 .f32) (main_arg16 : FVec F S128x256x7 .f32) (main_arg17 : FVec F S128 .f32) (main_arg18 : FVec F S64x128x7 .f32) (main_arg19 : FVec F S64 .f32) (main_arg20 : FVec F S1x64x7 .f32) (main_arg21 : FVec F S1 .f32) : IVec S_ 1 :=
  let main_v0 : FVec F S4x1x32768 .f32 := Host.absf main_arg0
  let main_cst : FVec F S_ .f32 := constant S_ .f32 0x7F800000#32
  let main_v1 : FVec F S4x1x32768 .f32 := broadcastInDim S4x1x32768 ![] bcast_S_S4x1x32768 main_cst
  let main_v2 : IVec S4x1x32768 1 := cmpf .olt main_v0 main_v1
  let main_c : IVec S_ 1 := constantI S_ 1 1#1
  let main_v3 : IVec S_ 1 := (fun x v => Host.reduce IntOp.andi x v reducesTo_S4x1x32768_S_d0_1_2 h_S_) main_v2 main_c
  let main_v4 : FVec F S64x1x7 .f32 := Host.absf main_arg1
  let main_cst_0 : FVec F S_ .f32 := constant S_ .f32 0x7F800000#32
  let main_v5 : FVec F S64x1x7 .f32 := broadcastInDim S64x1x7 ![] bcast_S_S64x1x7 main_cst_0
  let main_v6 : IVec S64x1x7 1 := cmpf .olt main_v4 main_v5
  let main_c_1 : IVec S_ 1 := constantI S_ 1 1#1
  let main_v7 : IVec S_ 1 := (fun x v => Host.reduce IntOp.andi x v reducesTo_S64x1x7_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64x7 .f32 := Host.absf main_arg3
  let main_cst_4 : FVec F S_ .f32 := constant S_ .f32 0x7F800000#32
  let main_v15 : FVec F S128x64x7 .f32 := broadcastInDim S128x64x7 ![] bcast_S_S128x64x7 main_cst_4
  let main_v16 : IVec S128x64x7 1 := cmpf .olt main_v14 main_v15
  fn_part1 (F := F) main_arg4 main_arg5 main_arg6 main_arg7 main_arg8 main_v13 main_v16
-- ==== Kernel.lean ====
abbrev S4x1x32768 : Shape := ⟨3, ![4, 1, 32768]⟩
abbrev S64x1x7 : Shape := ⟨3, ![64, 1, 7]⟩
abbrev S64 : Shape := ⟨1, ![64]⟩
abbrev S128x64x7 : Shape := ⟨3, ![128, 64, 7]⟩
abbrev S128 : Shape := ⟨1, ![128]⟩
abbrev S256x128x7 : Shape := ⟨3, ![256, 128, 7]⟩
abbrev S256 : Shape := ⟨1, ![256]⟩
abbrev S512x256x7 : Shape := ⟨3, ![512, 256, 7]⟩
abbrev S512 : Shape := ⟨1, ![512]⟩
abbrev S1024x512 : Shape := ⟨2, ![1024, 512]⟩
abbrev S512x512 : Shape := ⟨2, ![512, 512]⟩
abbrev S1024 : Shape := ⟨1, ![1024]⟩
abbrev S256x512x7 : Shape := ⟨3, ![256, 512, 7]⟩
abbrev S128x256x7 : Shape := ⟨3, ![128, 256, 7]⟩
abbrev S64x128x7 : Shape := ⟨3, ![64, 128, 7]⟩
abbrev S1x64x7 : Shape := ⟨3, ![1, 64, 7]⟩
abbrev S1 : Shape := ⟨1, ![1]⟩
abbrev S4x256x128 : Shape := ⟨3, ![4, 256, 128]⟩
abbrev S7x128x16x4 : Shape := ⟨4, ![7, 128, 16, 4]⟩
abbrev S_ : Shape := ⟨0, ![]⟩
abbrev S64x7 : Shape := ⟨2, ![64, 7]⟩
abbrev S128x16x4x64 : Shape := ⟨4, ![128, 16, 4, 64]⟩
abbrev S128x4096 : Shape := ⟨2, ![128, 4096]⟩
abbrev S1x64 : Shape := ⟨2, ![1, 64]⟩
abbrev S64x64 : Shape := ⟨2, ![64, 64]⟩
abbrev S4096 : Shape := ⟨1, ![4096]⟩
abbrev S1x4096 : Shape := ⟨2, ![1, 4096]⟩
abbrev S1024x128 : Shape := ⟨2, ![1024, 128]⟩
abbrev S1024x4096 : Shape := ⟨2, ![1024, 4096]⟩
abbrev S256x128 : Shape := ⟨2, ![256, 128]⟩
abbrev S256x4096 : Shape := ⟨2, ![256, 4096]⟩
abbrev S1x128 : Shape := ⟨2, ![1, 128]⟩
abbrev S255x128 : Shape := ⟨2, ![255, 128]⟩
abbrev S4x4096x256 : Shape := ⟨3, ![4, 4096, 256]⟩
abbrev S128x64x1 : Shape := ⟨3, ![128, 64, 1]⟩
abbrev S128x64 : Shape := ⟨2, ![128, 64]⟩
abbrev S64x128 : Shape := ⟨2, ![64, 128]⟩
abbrev S16384x256 : Shape := ⟨2, ![16384, 256]⟩
abbrev S16384x128 : Shape := ⟨2, ![16384, 128]⟩
abbrev S2048x256 : Shape := ⟨2, ![2048, 256]⟩
abbrev S2048x128 : Shape := ⟨2, ![2048, 128]⟩
abbrev S1x256 : Shape := ⟨2, ![1, 256]⟩
abbrev S2047x256 : Shape := ⟨2, ![2047, 256]⟩
abbrev S4x1024x512 : Shape := ⟨3, ![4, 1024, 512]⟩
abbrev S512x256 : Shape := ⟨2, ![512, 256]⟩
abbrev S256x128x1 : Shape := ⟨3, ![256, 128, 1]⟩
abbrev S128x256 : Shape := ⟨2, ![128, 256]⟩
abbrev S4096x512 : Shape := ⟨2, ![4096, 512]⟩
abbrev S4096x256 : Shape := ⟨2, ![4096, 256]⟩
abbrev S1024x256 : Shape := ⟨2, ![1024, 256]⟩
abbrev S1x512 : Shape := ⟨2, ![1, 512]⟩
abbrev S1023x512 : Shape := ⟨2, ![1023, 512]⟩
abbrev S4x256x1024 : Shape := ⟨3, ![4, 256, 1024]⟩
abbrev S512x256x1 : Shape := ⟨3, ![512, 256, 1]⟩
abbrev S256x512 : Shape := ⟨2, ![256, 512]⟩
abbrev S1024x1024 : Shape := ⟨2, ![1024, 1024]⟩
abbrev S256x1024 : Shape := ⟨2, ![256, 1024]⟩
abbrev S1x1024 : Shape := ⟨2, ![1, 1024]⟩
abbrev S255x1024 : Shape := ⟨2, ![255, 1024]⟩
abbrev S1024x1 : Shape := ⟨2, ![1024, 1]⟩
abbrev S4x1024 : Shape := ⟨2, ![4, 1024]⟩
abbrev S4x512 : Shape := ⟨2, ![4, 512]⟩
abbrev S4x256x512 : Shape := ⟨3, ![4, 256, 512]⟩
abbrev S512x1024 : Shape := ⟨2, ![512, 1024]⟩
abbrev S256x512x1 : Shape := ⟨3, ![256, 512, 1]⟩
abbrev S4x256 : Shape := ⟨2, ![4, 256]⟩
abbrev S255x512 : Shape := ⟨2, ![255, 512]⟩
abbrev S4x1024x256 : Shape := ⟨3, ![4, 1024, 256]⟩
abbrev S128x256x1 : Shape := ⟨3, ![128, 256, 1]⟩
abbrev S4x128 : Shape := ⟨2, ![4, 128]⟩
abbrev S1023x256 : Shape := ⟨2, ![1023, 256]⟩
abbrev S4x4096x128 : Shape := ⟨3, ![4, 4096, 128]⟩
abbrev S64x128x1 : Shape := ⟨3, ![64, 128, 1]⟩
abbrev S4x64 : Shape := ⟨2, ![4, 64]⟩
abbrev S2047x128 : Shape := ⟨2, ![2047, 128]⟩
abbrev S4x256x4096 : Shape := ⟨3, ![4, 256, 4096]⟩
abbrev S7x64x64x2 : Shape := ⟨4, ![7, 64, 64, 2]⟩
abbrev S64x64x64x2 : Shape := ⟨4, ![64, 64, 64, 2]⟩
abbrev S4096x128 : Shape := ⟨2, ![4096, 128]⟩
abbrev S255x4096 : Shape := ⟨2, ![255, 4096]⟩

abbrev nBuf : Space → Nat
  | .hbm => 474
  | .vmem => 103
  | .smem => 0
  | _ => 0

abbrev hbmTy0_0 (i : Nat) : BufTy := match i % 128 with
  | 0 => ⟨S4x1x32768, .f32⟩
  | 1 => ⟨S64x1x7, .f32⟩
  | 2 => ⟨S64, .f32⟩
  | 3 => ⟨S128x64x7, .f32⟩
  | 4 => ⟨S128, .f32⟩
  | 5 => ⟨S256x128x7, .f32⟩
  | 6 => ⟨S256, .f32⟩
  | 7 => ⟨S512x256x7, .f32⟩
  | 8 => ⟨S512, .f32⟩
  | 9 => ⟨S1024x512, .f32⟩
  | 10 => ⟨S512x512, .f32⟩
  | 11 => ⟨S512, .f32⟩
  | 12 => ⟨S1024x512, .f32⟩
  | 13 => ⟨S1024, .f32⟩
  | 14 => ⟨S256x512x7, .f32⟩
  | 15 => ⟨S256, .f32⟩
  | 16 => ⟨S128x256x7, .f32⟩
  | 17 => ⟨S128, .f32⟩
  | 18 => ⟨S64x128x7, .f32⟩
  | 19 => ⟨S64, .f32⟩
  | 20 => ⟨S1x64x7, .f32⟩
  | 21 => ⟨S1, .f32⟩
  | 22 => ⟨S4x256x128, .f32⟩
  | 23 => ⟨S7x128x16x4, .i32⟩
  | 24 => ⟨S7x128x16x4, .i32⟩
  | 25 => ⟨S7x128x16x4, .i32⟩
  | 26 => ⟨S7x128x16x4, .i32⟩
  | 27 => ⟨S_, .i32⟩
  | 28 => ⟨S7x128x16x4, .i32⟩
  | 29 => ⟨S7x128x16x4, .i32⟩
  | 30 => ⟨S_, .i32⟩
  | 31 => ⟨S7x128x16x4, .i32⟩
  | 32 => ⟨S7x128x16x4, .i32⟩
  | 33 => ⟨S7x128x16x4, .i32⟩
  | 34 => ⟨S7x128x16x4, .i32⟩
  | 35 => ⟨S_, .i32⟩
  | 36 => ⟨S7x128x16x4, .i32⟩
  | 37 => ⟨S7x128x16x4, .i32⟩
  | 38 => ⟨S_, .i32⟩
  | 39 => ⟨S7x128x16x4, .i32⟩
  | 40 => ⟨S7x128x16x4, .i32⟩
  | 41 => ⟨S7x128x16x4, .i1⟩
  | 42 => ⟨S7x128x16x4, .f32⟩
  | 43 => ⟨S64x7, .f32⟩
  | 44 => ⟨S128x16x4x64, .f32⟩
  | 45 => ⟨S128x4096, .f32⟩
  | 46 => ⟨S_, .i32⟩
  | 47 => ⟨S7x128x16x4, .i32⟩
  | 48 => ⟨S7x128x16x4, .i32⟩
  | 49 => ⟨S_, .i32⟩
  | 50 => ⟨S7x128x16x4, .i32⟩
  | 51 => ⟨S7x128x16x4, .i32⟩
  | 52 => ⟨S7x128x16x4, .i32⟩
  | 53 => ⟨S7x128x16x4, .i32⟩
  | 54 => ⟨S_, .i32⟩
  | 55 => ⟨S7x128x16x4, .i32⟩
  | 56 => ⟨S7x128x16x4, .i32⟩
  | 57 => ⟨S_, .i32⟩
  | 58 => ⟨S7x128x16x4, .i32⟩
  | 59 => ⟨S7x128x16x4, .i32⟩
  | 60 => ⟨S7x128x16x4, .i1⟩
  | 61 => ⟨S7x128x16x4, .f32⟩
  | 62 => ⟨S64x7, .f32⟩
  | 63 => ⟨S128x16x4x64, .f32⟩
  | 64 => ⟨S128x4096, .f32⟩
  | 65 => ⟨S_, .i32⟩
  | 66 => ⟨S7x128x16x4, .i32⟩
  | 67 => ⟨S7x128x16x4, .i32⟩
  | 68 => ⟨S_, .i32⟩
  | 69 => ⟨S7x128x16x4, .i32⟩
  | 70 => ⟨S7x128x16x4, .i32⟩
  | 71 => ⟨S7x128x16x4, .i32⟩
  | 72 => ⟨S7x128x16x4, .i32⟩
  | 73 => ⟨S_, .i32⟩
  | 74 => ⟨S7x128x16x4, .i32⟩
  | 75 => ⟨S7x128x16x4, .i32⟩
  | 76 => ⟨S_, .i32⟩
  | 77 => ⟨S7x128x16x4, .i32⟩
  | 78 => ⟨S7x128x16x4, .i32⟩
  | 79 => ⟨S7x128x16x4, .i1⟩
  | 80 => ⟨S7x128x16x4, .f32⟩
  | 81 => ⟨S64x7, .f32⟩
  | 82 => ⟨S128x16x4x64, .f32⟩
  | 83 => ⟨S128x4096, .f32⟩
  | 84 => ⟨S1x64, .f32⟩
  | 85 => ⟨S64x64, .f32⟩
  | 86 => ⟨S4096, .f32⟩
  | 87 => ⟨S1x4096, .f32⟩
  | 88 => ⟨S1024x128, .f32⟩
  | 89 => ⟨S1024x4096, .bf16⟩
  | 90 => ⟨S4x4096x256, .bf16⟩
  | 91 => ⟨S_, .f32⟩
  | 92 => ⟨S256x128, .f32⟩
  | 93 => ⟨S128x64x1, .f32⟩
  | 94 => ⟨S128x64, .f32⟩
  | 95 => ⟨S64x128, .f32⟩
  | 96 => ⟨S_, .i32⟩
  | 97 => ⟨S1, .i32⟩
  | 98 => ⟨S256x128, .f32⟩
  | 99 => ⟨S_, .f32⟩
  | 100 => ⟨S256x128, .f32⟩
  | 101 => ⟨S128x64x1, .f32⟩
  | 102 => ⟨S128x64, .f32⟩
  | 103 => ⟨S64x128, .f32⟩
  | 104 => ⟨S_, .i32⟩
  | 105 => ⟨S1, .i32⟩
  | 106 => ⟨S256x128, .f32⟩
  | 107 => ⟨S128x64x1, .f32⟩
  | 108 => ⟨S128x64, .f32⟩
  | 109 => ⟨S64x128, .f32⟩
  | 110 => ⟨S_, .i32⟩
  | 111 => ⟨S1, .i32⟩
  | 112 => ⟨S256x128, .f32⟩
  | 113 => ⟨S128x64x1, .f32⟩
  | 114 => ⟨S128x64, .f32⟩
  | 115 => ⟨S64x128, .f32⟩
  | 116 => ⟨S_, .i32⟩
  | 117 => ⟨S1, .i32⟩
  | 118 => ⟨S256x128, .f32⟩
  | 119 => ⟨S128x64x1, .f32⟩
  | 120 => ⟨S128x64, .f32⟩
  | 121 => ⟨S64x128, .f32⟩
  | 122 => ⟨S_, .i32⟩
  | 123 => ⟨S1, .i32⟩
  | 124 => ⟨S256x128, .f32⟩
  | 125 => ⟨S_, .f32⟩
  | 126 => ⟨S256x128, .f32⟩
  | 127 => ⟨S128x64x1, .f32⟩
  | _ => ⟨S4x1x32768, .f32⟩

abbrev hbmTy0_1 (i : Nat) : BufTy := match i % 128 with
  | 0 => ⟨S128x64, .f32⟩
  | 1 => ⟨S64x128, .f32⟩
  | 2 => ⟨S_, .i32⟩
  | 3 => ⟨S1, .i32⟩
  | 4 => ⟨S256x128, .f32⟩
  | 5 => ⟨S128x64x1, .f32⟩
  | 6 => ⟨S128x64, .f32⟩
  | 7 => ⟨S64x128, .f32⟩
  | 8 => ⟨S_, .i32⟩
  | 9 => ⟨S1, .i32⟩
  | 10 => ⟨S256x128, .f32⟩
  | 11 => ⟨S1x128, .f32⟩
  | 12 => ⟨S16384x256, .bf16⟩
  | 13 => ⟨S16384x128, .bf16⟩
  | 14 => ⟨S4x1024x512, .bf16⟩
  | 15 => ⟨S_, .f32⟩
  | 16 => ⟨S512x256, .f32⟩
  | 17 => ⟨S256x128x1, .f32⟩
  | 18 => ⟨S256x128, .f32⟩
  | 19 => ⟨S128x256, .f32⟩
  | 20 => ⟨S_, .i32⟩
  | 21 => ⟨S1, .i32⟩
  | 22 => ⟨S512x256, .f32⟩
  | 23 => ⟨S_, .f32⟩
  | 24 => ⟨S512x256, .f32⟩
  | 25 => ⟨S256x128x1, .f32⟩
  | 26 => ⟨S256x128, .f32⟩
  | 27 => ⟨S128x256, .f32⟩
  | 28 => ⟨S_, .i32⟩
  | 29 => ⟨S1, .i32⟩
  | 30 => ⟨S512x256, .f32⟩
  | 31 => ⟨S256x128x1, .f32⟩
  | 32 => ⟨S256x128, .f32⟩
  | 33 => ⟨S128x256, .f32⟩
  | 34 => ⟨S_, .i32⟩
  | 35 => ⟨S1, .i32⟩
  | 36 => ⟨S512x256, .f32⟩
  | 37 => ⟨S256x128x1, .f32⟩
  | 38 => ⟨S256x128, .f32⟩
  | 39 => ⟨S128x256, .f32⟩
  | 40 => ⟨S_, .i32⟩
  | 41 => ⟨S1, .i32⟩
  | 42 => ⟨S512x256, .f32⟩
  | 43 => ⟨S256x128x1, .f32⟩
  | 44 => ⟨S256x128, .f32⟩
  | 45 => ⟨S128x256, .f32⟩
  | 46 => ⟨S_, .i32⟩
  | 47 => ⟨S1, .i32⟩
  | 48 => ⟨S512x256, .f32⟩
  | 49 => ⟨S_, .f32⟩
  | 50 => ⟨S512x256, .f32⟩
  | 51 => ⟨S256x128x1, .f32⟩
  | 52 => ⟨S256x128, .f32⟩
  | 53 => ⟨S128x256, .f32⟩
  | 54 => ⟨S_, .i32⟩
  | 55 => ⟨S1, .i32⟩
  | 56 => ⟨S512x256, .f32⟩
  | 57 => ⟨S256x128x1, .f32⟩
  | 58 => ⟨S256x128, .f32⟩
  | 59 => ⟨S128x256, .f32⟩
  | 60 => ⟨S_, .i32⟩
  | 61 => ⟨S1, .i32⟩
  | 62 => ⟨S512x256, .f32⟩
  | 63 => ⟨S1x256, .f32⟩
  | 64 => ⟨S4096x512, .bf16⟩
  | 65 => ⟨S4096x256, .bf16⟩
  | 66 => ⟨S4x256x1024, .bf16⟩
  | 67 => ⟨S_, .f32⟩
  | 68 => ⟨S1024x512, .f32⟩
  | 69 => ⟨S512x256x1, .f32⟩
  | 70 => ⟨S512x256, .f32⟩
  | 71 => ⟨S256x512, .f32⟩
  | 72 => ⟨S_, .i32⟩
  | 73 => ⟨S1, .i32⟩
  | 74 => ⟨S1024x512, .f32⟩
  | 75 => ⟨S_, .f32⟩
  | 76 => ⟨S1024x512, .f32⟩
  | 77 => ⟨S512x256x1, .f32⟩
  | 78 => ⟨S512x256, .f32⟩
  | 79 => ⟨S256x512, .f32⟩
  | 80 => ⟨S_, .i32⟩
  | 81 => ⟨S1, .i32⟩
  | 82 => ⟨S1024x512, .f32⟩
  | 83 => ⟨S512x256x1, .f32⟩
  | 84 => ⟨S512x256, .f32⟩
  | 85 => ⟨S256x512, .f32⟩
  | 86 => ⟨S_, .i32⟩
  | 87 => ⟨S1, .i32⟩
  | 88 => ⟨S1024x512, .f32⟩
  | 89 => ⟨S512x256x1, .f32⟩
  | 90 => ⟨S512x256, .f32⟩
  | 91 => ⟨S256x512, .f32⟩
  | 92 => ⟨S_, .i32⟩
  | 93 => ⟨S1, .i32⟩
  | 94 => ⟨S1024x512, .f32⟩
  | 95 => ⟨S512x256x1, .f32⟩
  | 96 => ⟨S512x256, .f32⟩
  | 97 => ⟨S256x512, .f32⟩
  | 98 => ⟨S_, .i32⟩
  | 99 => ⟨S1, .i32⟩
  | 100 => ⟨S1024x512, .f32⟩
  | 101 => ⟨S_, .f32⟩
  | 102 => ⟨S1024x512, .f32⟩
  | 103 => ⟨S512x256x1, .f32⟩
  | 104 => ⟨S512x256, .f32⟩
  | 105 => ⟨S256x512, .f32⟩
  | 106 => ⟨S_, .i32⟩
  | 107 => ⟨S1, .i32⟩
  | 108 => ⟨S1024x512, .f32⟩
  | 109 => ⟨S512x256x1, .f32⟩
  | 110 => ⟨S512x256, .f32⟩
  | 111 => ⟨S256x512, .f32⟩
  | 112 => ⟨S_, .i32⟩
  | 113 => ⟨S1, .i32⟩
  | 114 => ⟨S1024x512, .f32⟩
  | 115 => ⟨S1x512, .f32⟩
  | 116 => ⟨S1024x1024, .bf16⟩
  | 117 => ⟨S1024x512, .f32⟩
  | 118 => ⟨S1x512, .f32⟩
  | 119 => ⟨S1x1024, .f32⟩
  | 120 => ⟨S1024x512, .bf16⟩
  | 121 => ⟨S4x256x512, .bf16⟩
  | 122 => ⟨S_, .f32⟩
  | 123 => ⟨S512x1024, .f32⟩
  | 124 => ⟨S256x512x1, .f32⟩
  | 125 => ⟨S256x512, .f32⟩
  | 126 => ⟨S512x256, .f32⟩
  | 127 => ⟨S_, .i32⟩
  | _ => ⟨S4x1x32768, .f32⟩

abbrev hbmTy0_2 (i : Nat) : BufTy := match i % 128 with
  | 0 => ⟨S1, .i32⟩
  | 1 => ⟨S512x1024, .f32⟩
  | 2 => ⟨S256x512x1, .f32⟩
  | 3 => ⟨S256x512, .f32⟩
  | 4 => ⟨S512x256, .f32⟩
  | 5 => ⟨S_, .i32⟩
  | 6 => ⟨S1, .i32⟩
  | 7 => ⟨S512x1024, .f32⟩
  | 8 => ⟨S_, .f32⟩
  | 9 => ⟨S512x1024, .f32⟩
  | 10 => ⟨S256x512x1, .f32⟩
  | 11 => ⟨S256x512, .f32⟩
  | 12 => ⟨S512x256, .f32⟩
  | 13 => ⟨S_, .i32⟩
  | 14 => ⟨S1, .i32⟩
  | 15 => ⟨S512x1024, .f32⟩
  | 16 => ⟨S256x512x1, .f32⟩
  | 17 => ⟨S256x512, .f32⟩
  | 18 => ⟨S512x256, .f32⟩
  | 19 => ⟨S_, .i32⟩
  | 20 => ⟨S1, .i32⟩
  | 21 => ⟨S512x1024, .f32⟩
  | 22 => ⟨S256x512x1, .f32⟩
  | 23 => ⟨S256x512, .f32⟩
  | 24 => ⟨S512x256, .f32⟩
  | 25 => ⟨S_, .i32⟩
  | 26 => ⟨S1, .i32⟩
  | 27 => ⟨S512x1024, .f32⟩
  | 28 => ⟨S256x512x1, .f32⟩
  | 29 => ⟨S256x512, .f32⟩
  | 30 => ⟨S512x256, .f32⟩
  | 31 => ⟨S_, .i32⟩
  | 32 => ⟨S1, .i32⟩
  | 33 => ⟨S512x1024, .f32⟩
  | 34 => ⟨S_, .f32⟩
  | 35 => ⟨S512x1024, .f32⟩
  | 36 => ⟨S256x512x1, .f32⟩
  | 37 => ⟨S256x512, .f32⟩
  | 38 => ⟨S512x256, .f32⟩
  | 39 => ⟨S_, .i32⟩
  | 40 => ⟨S1, .i32⟩
  | 41 => ⟨S512x1024, .f32⟩
  | 42 => ⟨S1x256, .f32⟩
  | 43 => ⟨S4x256, .f32⟩
  | 44 => ⟨S1024, .f32⟩
  | 45 => ⟨S1x1024, .f32⟩
  | 46 => ⟨S1024x512, .bf16⟩
  | 47 => ⟨S1024x1024, .bf16⟩
  | 48 => ⟨S4x1024x256, .bf16⟩
  | 49 => ⟨S_, .f32⟩
  | 50 => ⟨S256x512, .f32⟩
  | 51 => ⟨S128x256x1, .f32⟩
  | 52 => ⟨S128x256, .f32⟩
  | 53 => ⟨S256x128, .f32⟩
  | 54 => ⟨S_, .i32⟩
  | 55 => ⟨S1, .i32⟩
  | 56 => ⟨S256x512, .f32⟩
  | 57 => ⟨S128x256x1, .f32⟩
  | 58 => ⟨S128x256, .f32⟩
  | 59 => ⟨S256x128, .f32⟩
  | 60 => ⟨S_, .i32⟩
  | 61 => ⟨S1, .i32⟩
  | 62 => ⟨S256x512, .f32⟩
  | 63 => ⟨S_, .f32⟩
  | 64 => ⟨S256x512, .f32⟩
  | 65 => ⟨S128x256x1, .f32⟩
  | 66 => ⟨S128x256, .f32⟩
  | 67 => ⟨S256x128, .f32⟩
  | 68 => ⟨S_, .i32⟩
  | 69 => ⟨S1, .i32⟩
  | 70 => ⟨S256x512, .f32⟩
  | 71 => ⟨S128x256x1, .f32⟩
  | 72 => ⟨S128x256, .f32⟩
  | 73 => ⟨S256x128, .f32⟩
  | 74 => ⟨S_, .i32⟩
  | 75 => ⟨S1, .i32⟩
  | 76 => ⟨S256x512, .f32⟩
  | 77 => ⟨S128x256x1, .f32⟩
  | 78 => ⟨S128x256, .f32⟩
  | 79 => ⟨S256x128, .f32⟩
  | 80 => ⟨S_, .i32⟩
  | 81 => ⟨S1, .i32⟩
  | 82 => ⟨S256x512, .f32⟩
  | 83 => ⟨S128x256x1, .f32⟩
  | 84 => ⟨S128x256, .f32⟩
  | 85 => ⟨S256x128, .f32⟩
  | 86 => ⟨S_, .i32⟩
  | 87 => ⟨S1, .i32⟩
  | 88 => ⟨S256x512, .f32⟩
  | 89 => ⟨S_, .f32⟩
  | 90 => ⟨S256x512, .f32⟩
  | 91 => ⟨S128x256x1, .f32⟩
  | 92 => ⟨S128x256, .f32⟩
  | 93 => ⟨S256x128, .f32⟩
  | 94 => ⟨S_, .i32⟩
  | 95 => ⟨S1, .i32⟩
  | 96 => ⟨S256x512, .f32⟩
  | 97 => ⟨S1x128, .f32⟩
  | 98 => ⟨S4x128, .f32⟩
  | 99 => ⟨S512, .f32⟩
  | 100 => ⟨S1x512, .f32⟩
  | 101 => ⟨S4096x256, .bf16⟩
  | 102 => ⟨S4096x512, .bf16⟩
  | 103 => ⟨S4x4096x128, .bf16⟩
  | 104 => ⟨S_, .f32⟩
  | 105 => ⟨S128x256, .f32⟩
  | 106 => ⟨S64x128x1, .f32⟩
  | 107 => ⟨S64x128, .f32⟩
  | 108 => ⟨S128x64, .f32⟩
  | 109 => ⟨S_, .i32⟩
  | 110 => ⟨S1, .i32⟩
  | 111 => ⟨S128x256, .f32⟩
  | 112 => ⟨S64x128x1, .f32⟩
  | 113 => ⟨S64x128, .f32⟩
  | 114 => ⟨S128x64, .f32⟩
  | 115 => ⟨S_, .i32⟩
  | 116 => ⟨S1, .i32⟩
  | 117 => ⟨S128x256, .f32⟩
  | 118 => ⟨S_, .f32⟩
  | 119 => ⟨S128x256, .f32⟩
  | 120 => ⟨S64x128x1, .f32⟩
  | 121 => ⟨S64x128, .f32⟩
  | 122 => ⟨S128x64, .f32⟩
  | 123 => ⟨S_, .i32⟩
  | 124 => ⟨S1, .i32⟩
  | 125 => ⟨S128x256, .f32⟩
  | 126 => ⟨S64x128x1, .f32⟩
  | 127 => ⟨S64x128, .f32⟩
  | _ => ⟨S4x1x32768, .f32⟩

abbrev hbmTy0_3 (i : Nat) : BufTy := match i % 128 with
  | 0 => ⟨S128x64, .f32⟩
  | 1 => ⟨S_, .i32⟩
  | 2 => ⟨S1, .i32⟩
  | 3 => ⟨S128x256, .f32⟩
  | 4 => ⟨S64x128x1, .f32⟩
  | 5 => ⟨S64x128, .f32⟩
  | 6 => ⟨S128x64, .f32⟩
  | 7 => ⟨S_, .i32⟩
  | 8 => ⟨S1, .i32⟩
  | 9 => ⟨S128x256, .f32⟩
  | 10 => ⟨S64x128x1, .f32⟩
  | 11 => ⟨S64x128, .f32⟩
  | 12 => ⟨S128x64, .f32⟩
  | 13 => ⟨S_, .i32⟩
  | 14 => ⟨S1, .i32⟩
  | 15 => ⟨S128x256, .f32⟩
  | 16 => ⟨S_, .f32⟩
  | 17 => ⟨S128x256, .f32⟩
  | 18 => ⟨S64x128x1, .f32⟩
  | 19 => ⟨S64x128, .f32⟩
  | 20 => ⟨S128x64, .f32⟩
  | 21 => ⟨S_, .i32⟩
  | 22 => ⟨S1, .i32⟩
  | 23 => ⟨S128x256, .f32⟩
  | 24 => ⟨S1x64, .f32⟩
  | 25 => ⟨S4x64, .f32⟩
  | 26 => ⟨S256, .f32⟩
  | 27 => ⟨S1x256, .f32⟩
  | 28 => ⟨S16384x128, .bf16⟩
  | 29 => ⟨S16384x256, .bf16⟩
  | 30 => ⟨S4x256x4096, .bf16⟩
  | 31 => ⟨S7x64x64x2, .i32⟩
  | 32 => ⟨S7x64x64x2, .i32⟩
  | 33 => ⟨S7x64x64x2, .i32⟩
  | 34 => ⟨S7x64x64x2, .i32⟩
  | 35 => ⟨S_, .i32⟩
  | 36 => ⟨S7x64x64x2, .i32⟩
  | 37 => ⟨S7x64x64x2, .i32⟩
  | 38 => ⟨S7x64x64x2, .i32⟩
  | 39 => ⟨S_, .i32⟩
  | 40 => ⟨S7x64x64x2, .i32⟩
  | 41 => ⟨S7x64x64x2, .i32⟩
  | 42 => ⟨S_, .i32⟩
  | 43 => ⟨S7x64x64x2, .i32⟩
  | 44 => ⟨S7x64x64x2, .i32⟩
  | 45 => ⟨S7x64x64x2, .i32⟩
  | 46 => ⟨S7x64x64x2, .i1⟩
  | 47 => ⟨S7x64x64x2, .f32⟩
  | 48 => ⟨S64x7, .f32⟩
  | 49 => ⟨S64x64x64x2, .f32⟩
  | 50 => ⟨S64x64x64x2, .f32⟩
  | 51 => ⟨S4096x128, .f32⟩
  | 52 => ⟨S_, .i32⟩
  | 53 => ⟨S7x64x64x2, .i32⟩
  | 54 => ⟨S7x64x64x2, .i32⟩
  | 55 => ⟨S7x64x64x2, .i32⟩
  | 56 => ⟨S_, .i32⟩
  | 57 => ⟨S7x64x64x2, .i32⟩
  | 58 => ⟨S7x64x64x2, .i32⟩
  | 59 => ⟨S_, .i32⟩
  | 60 => ⟨S7x64x64x2, .i32⟩
  | 61 => ⟨S7x64x64x2, .i32⟩
  | 62 => ⟨S7x64x64x2, .i32⟩
  | 63 => ⟨S7x64x64x2, .i1⟩
  | 64 => ⟨S7x64x64x2, .f32⟩
  | 65 => ⟨S64x7, .f32⟩
  | 66 => ⟨S64x64x64x2, .f32⟩
  | 67 => ⟨S64x64x64x2, .f32⟩
  | 68 => ⟨S4096x128, .f32⟩
  | 69 => ⟨S_, .i32⟩
  | 70 => ⟨S7x64x64x2, .i32⟩
  | 71 => ⟨S7x64x64x2, .i32⟩
  | 72 => ⟨S7x64x64x2, .i32⟩
  | 73 => ⟨S_, .i32⟩
  | 74 => ⟨S7x64x64x2, .i32⟩
  | 75 => ⟨S7x64x64x2, .i32⟩
  | 76 => ⟨S_, .i32⟩
  | 77 => ⟨S7x64x64x2, .i32⟩
  | 78 => ⟨S7x64x64x2, .i32⟩
  | 79 => ⟨S7x64x64x2, .i32⟩
  | 80 => ⟨S7x64x64x2, .i1⟩
  | 81 => ⟨S7x64x64x2, .f32⟩
  | 82 => ⟨S64x7, .f32⟩
  | 83 => ⟨S64x64x64x2, .f32⟩
  | 84 => ⟨S64x64x64x2, .f32⟩
  | 85 => ⟨S4096x128, .f32⟩
  | 86 => ⟨S1x128, .f32⟩
  | 87 => ⟨S1024x4096, .bf16⟩
  | 88 => ⟨S1024x128, .f32⟩
  | 89 => ⟨S4x1x32768, .f32⟩
  | _ => ⟨S4x1x32768, .f32⟩

abbrev hbmTy (i : Nat) : BufTy := match i / 128 with
  | 0 => hbmTy0_0 i
  | 1 => hbmTy0_1 i
  | 2 => hbmTy0_2 i
  | 3 => hbmTy0_3 i
  | _ => ⟨S4x1x32768, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | .local _ .vmem, ⟨10, _⟩ => ⟨S256x4096, .bf16⟩
  | .local _ .vmem, ⟨11, _⟩ => ⟨S256x4096, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S1x128, .f32⟩
  | .local _ .vmem, ⟨22, _⟩ => ⟨S2048x128, .bf16⟩
  | .local _ .vmem, ⟨23, _⟩ => ⟨S2048x128, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S1x256, .f32⟩
  | .local _ .vmem, ⟨34, _⟩ => ⟨S1024x256, .bf16⟩
  | .local _ .vmem, ⟨35, _⟩ => ⟨S1024x256, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S1024x512, .f32⟩
  | .local _ .vmem, ⟨43, _⟩ => ⟨S1024x512, .f32⟩
  | .local _ .vmem, ⟨44, _⟩ => ⟨S1024x512, .f32⟩
  | .local _ .vmem, ⟨45, _⟩ => ⟨S1x512, .f32⟩
  | .local _ .vmem, ⟨46, _⟩ => ⟨S256x512, .f32⟩
  | .local _ .vmem, ⟨47, _⟩ => ⟨S256x512, .f32⟩
  | .local _ .vmem, ⟨48, _⟩ => ⟨S1024x512, .f32⟩
  | .local _ .vmem, ⟨49, _⟩ => ⟨S1024x512, .f32⟩
  | .local _ .vmem, ⟨50, _⟩ => ⟨S512x512, .f32⟩
  | .local _ .vmem, ⟨51, _⟩ => ⟨S1x512, .f32⟩
  | .local _ .vmem, ⟨52, _⟩ => ⟨S1024x512, .f32⟩
  | .local _ .vmem, ⟨53, _⟩ => ⟨S1x1024, .f32⟩
  | .local _ .vmem, ⟨54, _⟩ => ⟨S1024x512, .bf16⟩
  | .local _ .vmem, ⟨55, _⟩ => ⟨S256x512, .bf16⟩
  | .local _ .vmem, ⟨56, _⟩ => ⟨S256x512, .bf16⟩
  | .local _ .vmem, ⟨57, _⟩ => ⟨S256x512, .bf16⟩
  | .local _ .vmem, ⟨58, _⟩ => ⟨S256x512, .bf16⟩
  | .local _ .vmem, ⟨59, _⟩ => ⟨S256x512, .bf16⟩
  | .local _ .vmem, ⟨60, _⟩ => ⟨S256x512, .bf16⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S1x1024, .f32⟩
  | .local _ .vmem, ⟨65, _⟩ => ⟨S256x1024, .bf16⟩
  | .local _ .vmem, ⟨66, _⟩ => ⟨S256x1024, .bf16⟩
  | .local _ .vmem, ⟨67, _⟩ => ⟨S1024x256, .bf16⟩
  | .local _ .vmem, ⟨68, _⟩ => ⟨S1024x256, .bf16⟩
  | .local _ .vmem, ⟨69, _⟩ => ⟨S1024x256, .bf16⟩
  | .local _ .vmem, ⟨70, _⟩ => ⟨S1024x256, .bf16⟩
  | .local _ .vmem, ⟨71, _⟩ => ⟨S1024x256, .bf16⟩
  | .local _ .vmem, ⟨72, _⟩ => ⟨S1024x256, .bf16⟩
  | .local _ .vmem, ⟨73, _⟩ => ⟨S256x512, .f32⟩
  | .local _ .vmem, ⟨74, _⟩ => ⟨S256x512, .f32⟩
  | .local _ .vmem, ⟨75, _⟩ => ⟨S256x512, .f32⟩
  | .local _ .vmem, ⟨76, _⟩ => ⟨S1x512, .f32⟩
  | .local _ .vmem, ⟨77, _⟩ => ⟨S1024x512, .bf16⟩
  | .local _ .vmem, ⟨78, _⟩ => ⟨S1024x512, .bf16⟩
  | .local _ .vmem, ⟨79, _⟩ => ⟨S2048x128, .bf16⟩
  | .local _ .vmem, ⟨80, _⟩ => ⟨S2048x128, .bf16⟩
  | .local _ .vmem, ⟨81, _⟩ => ⟨S2048x128, .bf16⟩
  | .local _ .vmem, ⟨82, _⟩ => ⟨S2048x128, .bf16⟩
  | .local _ .vmem, ⟨83, _⟩ => ⟨S2048x128, .bf16⟩
  | .local _ .vmem, ⟨84, _⟩ => ⟨S2048x128, .bf16⟩
  | .local _ .vmem, ⟨85, _⟩ => ⟨S128x256, .f32⟩
  | .local _ .vmem, ⟨86, _⟩ => ⟨S128x256, .f32⟩
  | .local _ .vmem, ⟨87, _⟩ => ⟨S128x256, .f32⟩
  | .local _ .vmem, ⟨88, _⟩ => ⟨S1x256, .f32⟩
  | .local _ .vmem, ⟨89, _⟩ => ⟨S2048x256, .bf16⟩
  | .local _ .vmem, ⟨90, _⟩ => ⟨S2048x256, .bf16⟩
  | .local _ .vmem, ⟨91, _⟩ => ⟨S256x4096, .bf16⟩
  | .local _ .vmem, ⟨92, _⟩ => ⟨S256x4096, .bf16⟩
  | .local _ .vmem, ⟨93, _⟩ => ⟨S256x4096, .bf16⟩
  | .local _ .vmem, ⟨94, _⟩ => ⟨S256x4096, .bf16⟩
  | .local _ .vmem, ⟨95, _⟩ => ⟨S256x4096, .bf16⟩
  | .local _ .vmem, ⟨96, _⟩ => ⟨S256x4096, .bf16⟩
  | .local _ .vmem, ⟨97, _⟩ => ⟨S4096x128, .f32⟩
  | .local _ .vmem, ⟨98, _⟩ => ⟨S4096x128, .f32⟩
  | .local _ .vmem, ⟨99, _⟩ => ⟨S4096x128, .f32⟩
  | .local _ .vmem, ⟨100, _⟩ => ⟨S1x128, .f32⟩
  | .local _ .vmem, ⟨101, _⟩ => ⟨S256x128, .f32⟩
  | .local _ .vmem, ⟨102, _⟩ => ⟨S256x128, .f32⟩
  | _, _ => ⟨S4x1x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | _, _ => false

abbrev semScoped : Fin 0 → Bool
  | ⟨_, h⟩ => absurd h (Nat.not_lt_zero _)

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTc nBuf bufTy 0 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_v11 : Ref sig .tc := ⟨.hbm, 36, rfl⟩
abbrev main_v12 : Ref sig .tc := ⟨.hbm, 37, rfl⟩
abbrev main_c_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_9 : Ref sig .tc := ⟨.hbm, 73, rfl⟩
abbrev main_v41 : Ref sig .tc := ⟨.hbm, 74, rfl⟩
abbrev main_v42 : Ref sig .tc := ⟨.hbm, 75, rfl⟩
abbrev main_c_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_11 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_13 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_14 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_15 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_16 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_19 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_20 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_21 : Ref sig .tc := ⟨.hbm, 148, rfl⟩
abbrev main_v103 : Ref sig .tc := ⟨.hbm, 149, rfl⟩
abbrev main_v104 : Ref sig .tc := ⟨.hbm, 150, rfl⟩
abbrev main_cst_22 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_c_23 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_24 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_25 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_26 : Ref sig .tc := ⟨.hbm, 174, rfl⟩
abbrev main_v124 : Ref sig .tc := ⟨.hbm, 175, rfl⟩
abbrev main_v125 : Ref sig .tc := ⟨.hbm, 176, rfl⟩
abbrev main_cst_27 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_28 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_29 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_30 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_31 : Ref sig .tc := ⟨.hbm, 200, rfl⟩
abbrev main_v145 : Ref sig .tc := ⟨.hbm, 201, rfl⟩
abbrev main_v146 : Ref sig .tc := ⟨.hbm, 202, rfl⟩
abbrev main_cst_32 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_c_33 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_c_34 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_c_35 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_c_36 : Ref sig .tc := ⟨.hbm, 226, rfl⟩
abbrev main_v166 : Ref sig .tc := ⟨.hbm, 227, rfl⟩
abbrev main_v167 : Ref sig .tc := ⟨.hbm, 228, rfl⟩
abbrev main_cst_37 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_c_38 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_c_39 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_40 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_c_41 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_c_42 : Ref sig .tc := ⟨.hbm, 261, rfl⟩
abbrev main_v195 : Ref sig .tc := ⟨.hbm, 262, rfl⟩
abbrev main_v196 : Ref sig .tc := ⟨.hbm, 263, rfl⟩
abbrev main_cst_43 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_c_44 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_c_45 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_c_46 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_c_47 : Ref sig .tc := ⟨.hbm, 287, rfl⟩
abbrev main_v216 : Ref sig .tc := ⟨.hbm, 288, rfl⟩
abbrev main_v217 : Ref sig .tc := ⟨.hbm, 289, rfl⟩
abbrev main_cst_48 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_c_49 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_cst_50 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_c_51 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_c_52 : Ref sig .tc := ⟨.hbm, 316, rfl⟩
abbrev main_v240 : Ref sig .tc := ⟨.hbm, 317, rfl⟩
abbrev main_v241 : Ref sig .tc := ⟨.hbm, 318, rfl⟩
abbrev main_cst_53 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_c_54 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_c_55 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_c_56 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_c_57 : Ref sig .tc := ⟨.hbm, 342, rfl⟩
abbrev main_v261 : Ref sig .tc := ⟨.hbm, 343, rfl⟩
abbrev main_v262 : Ref sig .tc := ⟨.hbm, 344, rfl⟩
abbrev main_cst_58 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_c_59 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_cst_60 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_c_61 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_c_62 : Ref sig .tc := ⟨.hbm, 371, rfl⟩
abbrev main_v285 : Ref sig .tc := ⟨.hbm, 372, rfl⟩
abbrev main_v286 : Ref sig .tc := ⟨.hbm, 373, rfl⟩
abbrev main_cst_63 : Ref sig .tc := ⟨.hbm, 374, rfl⟩
abbrev main_v287 : Ref sig .tc := ⟨.hbm, 375, rfl⟩
abbrev main_v288 : Ref sig .tc := ⟨.hbm, 376, rfl⟩
abbrev main_v289 : Ref sig .tc := ⟨.hbm, 377, rfl⟩
abbrev main_v290 : Ref sig .tc := ⟨.hbm, 378, rfl⟩
abbrev main_c_64 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_c_65 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_c_66 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_c_67 : Ref sig .tc := ⟨.hbm, 397, rfl⟩
abbrev main_v306 : Ref sig .tc := ⟨.hbm, 398, rfl⟩
abbrev main_v307 : Ref sig .tc := ⟨.hbm, 399, rfl⟩
abbrev main_cst_68 : Ref sig .tc := ⟨.hbm, 400, rfl⟩
abbrev main_v308 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_c_69 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev main_v324 : Ref sig .tc := ⟨.hbm, 418, rfl⟩
abbrev main_c_70 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_c_71 : Ref sig .tc := ⟨.hbm, 423, rfl⟩
abbrev main_v328 : Ref sig .tc := ⟨.hbm, 424, rfl⟩
abbrev main_v329 : Ref sig .tc := ⟨.hbm, 425, rfl⟩
abbrev main_c_72 : Ref sig .tc := ⟨.hbm, 426, rfl⟩
abbrev main_v330 : Ref sig .tc := ⟨.hbm, 427, rfl⟩
abbrev main_v331 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_c_73 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_c_74 : Ref sig .tc := ⟨.hbm, 440, rfl⟩
abbrev main_v342 : Ref sig .tc := ⟨.hbm, 441, rfl⟩
abbrev main_v343 : Ref sig .tc := ⟨.hbm, 442, rfl⟩
abbrev main_c_75 : Ref sig .tc := ⟨.hbm, 443, rfl⟩
abbrev main_v344 : Ref sig .tc := ⟨.hbm, 444, rfl⟩
abbrev main_v345 : Ref sig .tc := ⟨.hbm, 445, rfl⟩
abbrev main_v346 : Ref sig .tc := ⟨.hbm, 446, rfl⟩
abbrev main_v347 : Ref sig .tc := ⟨.hbm, 447, rfl⟩
abbrev main_v348 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_v352 : Ref sig .tc := ⟨.hbm, 452, rfl⟩
abbrev main_c_76 : Ref sig .tc := ⟨.hbm, 453, rfl⟩
abbrev main_v353 : Ref sig .tc := ⟨.hbm, 454, rfl⟩
abbrev main_v354 : Ref sig .tc := ⟨.hbm, 455, rfl⟩
abbrev main_v355 : Ref sig .tc := ⟨.hbm, 456, rfl⟩
abbrev main_c_77 : Ref sig .tc := ⟨.hbm, 457, rfl⟩
abbrev main_v356 : Ref sig .tc := ⟨.hbm, 458, rfl⟩
abbrev main_v357 : Ref sig .tc := ⟨.hbm, 459, rfl⟩
abbrev main_c_78 : Ref sig .tc := ⟨.hbm, 460, rfl⟩
abbrev main_v358 : Ref sig .tc := ⟨.hbm, 461, rfl⟩
abbrev main_v359 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc4_stg0_0 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg7_0 : Ref sig .tc := ⟨.vmem, 65, rfl⟩
abbrev cc5_stg7_1 : Ref sig .tc := ⟨.vmem, 66, rfl⟩
abbrev cc6_stg0_0 : Ref sig .tc := ⟨.vmem, 67, rfl⟩
abbrev cc6_stg0_1 : Ref sig .tc := ⟨.vmem, 68, rfl⟩
abbrev cc6_stg1_0 : Ref sig .tc := ⟨.vmem, 69, rfl⟩
abbrev cc6_stg1_1 : Ref sig .tc := ⟨.vmem, 70, rfl⟩
abbrev cc6_stg2_0 : Ref sig .tc := ⟨.vmem, 71, rfl⟩
abbrev cc6_stg2_1 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc6_stg7_0 : Ref sig .tc := ⟨.vmem, 77, rfl⟩
abbrev cc6_stg7_1 : Ref sig .tc := ⟨.vmem, 78, rfl⟩
abbrev cc7_stg0_0 : Ref sig .tc := ⟨.vmem, 79, rfl⟩
abbrev cc7_stg0_1 : Ref sig .tc := ⟨.vmem, 80, rfl⟩
abbrev cc7_stg1_0 : Ref sig .tc := ⟨.vmem, 81, rfl⟩
abbrev cc7_stg1_1 : Ref sig .tc := ⟨.vmem, 82, rfl⟩
abbrev cc7_stg2_0 : Ref sig .tc := ⟨.vmem, 83, rfl⟩
abbrev cc7_stg2_1 : Ref sig .tc := ⟨.vmem, 84, rfl⟩
abbrev cc7_stg3_0 : Ref sig .tc := ⟨.vmem, 85, rfl⟩
abbrev cc7_stg4_0 : Ref sig .tc := ⟨.vmem, 86, rfl⟩
abbrev cc7_stg5_0 : Ref sig .tc := ⟨.vmem, 87, rfl⟩
abbrev cc7_stg6_0 : Ref sig .tc := ⟨.vmem, 88, rfl⟩
abbrev cc7_stg7_0 : Ref sig .tc := ⟨.vmem, 89, rfl⟩
abbrev cc7_stg7_1 : Ref sig .tc := ⟨.vmem, 90, rfl⟩
abbrev cc8_stg0_0 : Ref sig .tc := ⟨.vmem, 91, rfl⟩
abbrev cc8_stg0_1 : Ref sig .tc := ⟨.vmem, 92, rfl⟩
abbrev cc8_stg1_0 : Ref sig .tc := ⟨.vmem, 93, rfl⟩
abbrev cc8_stg1_1 : Ref sig .tc := ⟨.vmem, 94, rfl⟩
abbrev cc8_stg2_0 : Ref sig .tc := ⟨.vmem, 95, rfl⟩
abbrev cc8_stg2_1 : Ref sig .tc := ⟨.vmem, 96, rfl⟩
abbrev cc8_stg3_0 : Ref sig .tc := ⟨.vmem, 97, rfl⟩
abbrev cc8_stg4_0 : Ref sig .tc := ⟨.vmem, 98, rfl⟩
abbrev cc8_stg5_0 : Ref sig .tc := ⟨.vmem, 99, rfl⟩
abbrev cc8_stg6_0 : Ref sig .tc := ⟨.vmem, 100, rfl⟩
abbrev cc8_stg7_0 : Ref sig .tc := ⟨.vmem, 101, rfl⟩
abbrev cc8_stg7_1 : Ref sig .tc := ⟨.vmem, 102, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47
abbrev cc4_sem0_0 : DmaSem sig := 48
abbrev cc4_sem1_0 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem6_0 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem7_1 : DmaSem sig := 66
abbrev cc6_sem0_0 : DmaSem sig := 67
abbrev cc6_sem0_1 : DmaSem sig := 68
abbrev cc6_sem1_0 : DmaSem sig := 69
abbrev cc6_sem1_1 : DmaSem sig := 70
abbrev cc6_sem2_0 : DmaSem sig := 71
abbrev cc6_sem2_1 : DmaSem sig := 72
abbrev cc6_sem3_0 : DmaSem sig := 73
abbrev cc6_sem4_0 : DmaSem sig := 74
abbrev cc6_sem5_0 : DmaSem sig := 75
abbrev cc6_sem6_0 : DmaSem sig := 76
abbrev cc6_sem7_0 : DmaSem sig := 77
abbrev cc6_sem7_1 : DmaSem sig := 78
abbrev cc7_sem0_0 : DmaSem sig := 79
abbrev cc7_sem0_1 : DmaSem sig := 80
abbrev cc7_sem1_0 : DmaSem sig := 81
abbrev cc7_sem1_1 : DmaSem sig := 82
abbrev cc7_sem2_0 : DmaSem sig := 83
abbrev cc7_sem2_1 : DmaSem sig := 84
abbrev cc7_sem3_0 : DmaSem sig := 85
abbrev cc7_sem4_0 : DmaSem sig := 86
abbrev cc7_sem5_0 : DmaSem sig := 87
abbrev cc7_sem6_0 : DmaSem sig := 88
abbrev cc7_sem7_0 : DmaSem sig := 89
abbrev cc7_sem7_1 : DmaSem sig := 90
abbrev cc8_sem0_0 : DmaSem sig := 91
abbrev cc8_sem0_1 : DmaSem sig := 92
abbrev cc8_sem1_0 : DmaSem sig := 93
abbrev cc8_sem1_1 : DmaSem sig := 94
abbrev cc8_sem2_0 : DmaSem sig := 95
abbrev cc8_sem2_1 : DmaSem sig := 96
abbrev cc8_sem3_0 : DmaSem sig := 97
abbrev cc8_sem4_0 : DmaSem sig := 98
abbrev cc8_sem5_0 : DmaSem sig := 99
abbrev cc8_sem6_0 : DmaSem sig := 100
abbrev cc8_sem7_0 : DmaSem sig := 101
abbrev cc8_sem7_1 : DmaSem sig := 102

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := .none

abbrev stage4_0 : Fin 1 → Memref sig .tc .vmem S1024x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1024x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1024x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1024x512 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev grid5 : Pipeline.Grid := ⟨1, ![4], ![false]⟩

def cc5_transform_0 (i : grid5.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S512x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S256x1024 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1024x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S256x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x512 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1024x512 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2048x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2048x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2048x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2048x256 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S256x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x4096 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x4096 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S4096x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S4096x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S4096x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S256x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]
-- ==== ReferenceIdeal.lean ====
abbrev S4x1x32768 : Shape := ⟨3, ![4, 1, 32768]⟩
abbrev S64x1x7 : Shape := ⟨3, ![64, 1, 7]⟩
abbrev S64 : Shape := ⟨1, ![64]⟩
abbrev S128x64x7 : Shape := ⟨3, ![128, 64, 7]⟩
abbrev S128 : Shape := ⟨1, ![128]⟩
abbrev S256x128x7 : Shape := ⟨3, ![256, 128, 7]⟩
abbrev S256 : Shape := ⟨1, ![256]⟩
abbrev S512x256x7 : Shape := ⟨3, ![512, 256, 7]⟩
abbrev S512 : Shape := ⟨1, ![512]⟩
abbrev S1024x512 : Shape := ⟨2, ![1024, 512]⟩
abbrev S512x512 : Shape := ⟨2, ![512, 512]⟩
abbrev S1024 : Shape := ⟨1, ![1024]⟩
abbrev S256x512x7 : Shape := ⟨3, ![256, 512, 7]⟩
abbrev S128x256x7 : Shape := ⟨3, ![128, 256, 7]⟩
abbrev S64x128x7 : Shape := ⟨3, ![64, 128, 7]⟩
abbrev S1x64x7 : Shape := ⟨3, ![1, 64, 7]⟩
abbrev S1 : Shape := ⟨1, ![1]⟩
abbrev S_ : Shape := ⟨0, ![]⟩
abbrev S4x1x32773 : Shape := ⟨3, ![4, 1, 32773]⟩
abbrev S4x1x16384 : Shape := ⟨3, ![4, 1, 16384]⟩
abbrev S64x1x1 : Shape := ⟨3, ![64, 1, 1]⟩
abbrev S64x1 : Shape := ⟨2, ![64, 1]⟩
abbrev S64x4x16384 : Shape := ⟨3, ![64, 4, 16384]⟩
abbrev S4x64x16384 : Shape := ⟨3, ![4, 64, 16384]⟩
abbrev S1x64x1 : Shape := ⟨3, ![1, 64, 1]⟩
abbrev S4x64x16387 : Shape := ⟨3, ![4, 64, 16387]⟩
abbrev S4x64x4096 : Shape := ⟨3, ![4, 64, 4096]⟩
abbrev S128x64x1 : Shape := ⟨3, ![128, 64, 1]⟩
abbrev S128x64 : Shape := ⟨2, ![128, 64]⟩
abbrev S128x4x4096 : Shape := ⟨3, ![128, 4, 4096]⟩
abbrev S4x128x4096 : Shape := ⟨3, ![4, 128, 4096]⟩
abbrev S1x128x1 : Shape := ⟨3, ![1, 128, 1]⟩
abbrev S4x128x4099 : Shape := ⟨3, ![4, 128, 4099]⟩
abbrev S4x128x1024 : Shape := ⟨3, ![4, 128, 1024]⟩
abbrev S256x128x1 : Shape := ⟨3, ![256, 128, 1]⟩
abbrev S256x128 : Shape := ⟨2, ![256, 128]⟩
abbrev S256x4x1024 : Shape := ⟨3, ![256, 4, 1024]⟩
abbrev S4x256x1024 : Shape := ⟨3, ![4, 256, 1024]⟩
abbrev S1x256x1 : Shape := ⟨3, ![1, 256, 1]⟩
abbrev S4x256x1027 : Shape := ⟨3, ![4, 256, 1027]⟩
abbrev S4x256x256 : Shape := ⟨3, ![4, 256, 256]⟩
abbrev S512x256x1 : Shape := ⟨3, ![512, 256, 1]⟩
abbrev S512x256 : Shape := ⟨2, ![512, 256]⟩
abbrev S512x4x256 : Shape := ⟨3, ![512, 4, 256]⟩
abbrev S4x512x256 : Shape := ⟨3, ![4, 512, 256]⟩
abbrev S1x512x1 : Shape := ⟨3, ![1, 512, 1]⟩
abbrev S4x512 : Shape := ⟨2, ![4, 512]⟩
abbrev S4x256x512 : Shape := ⟨3, ![4, 256, 512]⟩
abbrev S1024x1 : Shape := ⟨2, ![1024, 1]⟩
abbrev S512x1024 : Shape := ⟨2, ![512, 1024]⟩
abbrev S1024x1024 : Shape := ⟨2, ![1024, 1024]⟩
abbrev S1x1024 : Shape := ⟨2, ![1, 1024]⟩
abbrev S1x1 : Shape := ⟨2, ![1, 1]⟩
abbrev S1x512 : Shape := ⟨2, ![1, 512]⟩
abbrev S4x1024 : Shape := ⟨2, ![4, 1024]⟩
abbrev S4x512x1 : Shape := ⟨3, ![4, 512, 1]⟩
abbrev S4x512x1030 : Shape := ⟨3, ![4, 512, 1030]⟩
abbrev S4x512x1024 : Shape := ⟨3, ![4, 512, 1024]⟩
abbrev S256x512x1 : Shape := ⟨3, ![256, 512, 1]⟩
abbrev S256x512 : Shape := ⟨2, ![256, 512]⟩
abbrev S4x256x4102 : Shape := ⟨3, ![4, 256, 4102]⟩
abbrev S4x256x4096 : Shape := ⟨3, ![4, 256, 4096]⟩
abbrev S128x256x1 : Shape := ⟨3, ![128, 256, 1]⟩
abbrev S128x256 : Shape := ⟨2, ![128, 256]⟩
abbrev S4x128x16390 : Shape := ⟨3, ![4, 128, 16390]⟩
abbrev S4x128x16384 : Shape := ⟨3, ![4, 128, 16384]⟩
abbrev S64x128x1 : Shape := ⟨3, ![64, 128, 1]⟩
abbrev S64x128 : Shape := ⟨2, ![64, 128]⟩
abbrev S4x64x32774 : Shape := ⟨3, ![4, 64, 32774]⟩
abbrev S4x64x32768 : Shape := ⟨3, ![4, 64, 32768]⟩
abbrev S1x64 : Shape := ⟨2, ![1, 64]⟩
abbrev S1x4x32768 : Shape := ⟨3, ![1, 4, 32768]⟩
abbrev S1x1x1 : Shape := ⟨3, ![1, 1, 1]⟩

abbrev nBuf : Space → Nat
  | .hbm => 505
  | .vmem => 0
  | .smem => 0
  | _ => 0

abbrev hbmTy0_0 (i : Nat) : BufTy := match i % 128 with
  | 0 => ⟨S4x1x32768, .f32⟩
  | 1 => ⟨S64x1x7, .f32⟩
  | 2 => ⟨S64, .f32⟩
  | 3 => ⟨S128x64x7, .f32⟩
  | 4 => ⟨S128, .f32⟩
  | 5 => ⟨S256x128x7, .f32⟩
  | 6 => ⟨S256, .f32⟩
  | 7 => ⟨S512x256x7, .f32⟩
  | 8 => ⟨S512, .f32⟩
  | 9 => ⟨S1024x512, .f32⟩
  | 10 => ⟨S512x512, .f32⟩
  | 11 => ⟨S512, .f32⟩
  | 12 => ⟨S1024x512, .f32⟩
  | 13 => ⟨S1024, .f32⟩
  | 14 => ⟨S256x512x7, .f32⟩
  | 15 => ⟨S256, .f32⟩
  | 16 => ⟨S128x256x7, .f32⟩
  | 17 => ⟨S128, .f32⟩
  | 18 => ⟨S64x128x7, .f32⟩
  | 19 => ⟨S64, .f32⟩
  | 20 => ⟨S1x64x7, .f32⟩
  | 21 => ⟨S1, .f32⟩
  | 22 => ⟨S_, .f32⟩
  | 23 => ⟨S4x1x32773, .f32⟩
  | 24 => ⟨S4x1x16384, .f32⟩
  | 25 => ⟨S64x1x1, .f32⟩
  | 26 => ⟨S64x1, .f32⟩
  | 27 => ⟨S64x4x16384, .f32⟩
  | 28 => ⟨S4x64x16384, .f32⟩
  | 29 => ⟨S4x1x16384, .f32⟩
  | 30 => ⟨S64x1x1, .f32⟩
  | 31 => ⟨S64x1, .f32⟩
  | 32 => ⟨S64x4x16384, .f32⟩
  | 33 => ⟨S4x64x16384, .f32⟩
  | 34 => ⟨S4x64x16384, .f32⟩
  | 35 => ⟨S4x1x16384, .f32⟩
  | 36 => ⟨S64x1x1, .f32⟩
  | 37 => ⟨S64x1, .f32⟩
  | 38 => ⟨S64x4x16384, .f32⟩
  | 39 => ⟨S4x64x16384, .f32⟩
  | 40 => ⟨S4x64x16384, .f32⟩
  | 41 => ⟨S4x1x16384, .f32⟩
  | 42 => ⟨S64x1x1, .f32⟩
  | 43 => ⟨S64x1, .f32⟩
  | 44 => ⟨S64x4x16384, .f32⟩
  | 45 => ⟨S4x64x16384, .f32⟩
  | 46 => ⟨S4x64x16384, .f32⟩
  | 47 => ⟨S4x1x16384, .f32⟩
  | 48 => ⟨S64x1x1, .f32⟩
  | 49 => ⟨S64x1, .f32⟩
  | 50 => ⟨S64x4x16384, .f32⟩
  | 51 => ⟨S4x64x16384, .f32⟩
  | 52 => ⟨S4x64x16384, .f32⟩
  | 53 => ⟨S4x1x16384, .f32⟩
  | 54 => ⟨S64x1x1, .f32⟩
  | 55 => ⟨S64x1, .f32⟩
  | 56 => ⟨S64x4x16384, .f32⟩
  | 57 => ⟨S4x64x16384, .f32⟩
  | 58 => ⟨S4x64x16384, .f32⟩
  | 59 => ⟨S4x1x16384, .f32⟩
  | 60 => ⟨S64x1x1, .f32⟩
  | 61 => ⟨S64x1, .f32⟩
  | 62 => ⟨S64x4x16384, .f32⟩
  | 63 => ⟨S4x64x16384, .f32⟩
  | 64 => ⟨S4x64x16384, .f32⟩
  | 65 => ⟨S1x64x1, .f32⟩
  | 66 => ⟨S4x64x16384, .f32⟩
  | 67 => ⟨S4x64x16384, .f32⟩
  | 68 => ⟨S_, .f32⟩
  | 69 => ⟨S4x64x16384, .f32⟩
  | 70 => ⟨S4x64x16384, .i1⟩
  | 71 => ⟨S_, .f32⟩
  | 72 => ⟨S4x64x16384, .f32⟩
  | 73 => ⟨S4x64x16384, .f32⟩
  | 74 => ⟨S4x64x16384, .f32⟩
  | 75 => ⟨S_, .f32⟩
  | 76 => ⟨S4x64x16387, .f32⟩
  | 77 => ⟨S4x64x4096, .f32⟩
  | 78 => ⟨S128x64x1, .f32⟩
  | 79 => ⟨S128x64, .f32⟩
  | 80 => ⟨S128x4x4096, .f32⟩
  | 81 => ⟨S4x128x4096, .f32⟩
  | 82 => ⟨S4x64x4096, .f32⟩
  | 83 => ⟨S128x64x1, .f32⟩
  | 84 => ⟨S128x64, .f32⟩
  | 85 => ⟨S128x4x4096, .f32⟩
  | 86 => ⟨S4x128x4096, .f32⟩
  | 87 => ⟨S4x128x4096, .f32⟩
  | 88 => ⟨S4x64x4096, .f32⟩
  | 89 => ⟨S128x64x1, .f32⟩
  | 90 => ⟨S128x64, .f32⟩
  | 91 => ⟨S128x4x4096, .f32⟩
  | 92 => ⟨S4x128x4096, .f32⟩
  | 93 => ⟨S4x128x4096, .f32⟩
  | 94 => ⟨S4x64x4096, .f32⟩
  | 95 => ⟨S128x64x1, .f32⟩
  | 96 => ⟨S128x64, .f32⟩
  | 97 => ⟨S128x4x4096, .f32⟩
  | 98 => ⟨S4x128x4096, .f32⟩
  | 99 => ⟨S4x128x4096, .f32⟩
  | 100 => ⟨S4x64x4096, .f32⟩
  | 101 => ⟨S128x64x1, .f32⟩
  | 102 => ⟨S128x64, .f32⟩
  | 103 => ⟨S128x4x4096, .f32⟩
  | 104 => ⟨S4x128x4096, .f32⟩
  | 105 => ⟨S4x128x4096, .f32⟩
  | 106 => ⟨S4x64x4096, .f32⟩
  | 107 => ⟨S128x64x1, .f32⟩
  | 108 => ⟨S128x64, .f32⟩
  | 109 => ⟨S128x4x4096, .f32⟩
  | 110 => ⟨S4x128x4096, .f32⟩
  | 111 => ⟨S4x128x4096, .f32⟩
  | 112 => ⟨S4x64x4096, .f32⟩
  | 113 => ⟨S128x64x1, .f32⟩
  | 114 => ⟨S128x64, .f32⟩
  | 115 => ⟨S128x4x4096, .f32⟩
  | 116 => ⟨S4x128x4096, .f32⟩
  | 117 => ⟨S4x128x4096, .f32⟩
  | 118 => ⟨S1x128x1, .f32⟩
  | 119 => ⟨S4x128x4096, .f32⟩
  | 120 => ⟨S4x128x4096, .f32⟩
  | 121 => ⟨S_, .f32⟩
  | 122 => ⟨S4x128x4096, .f32⟩
  | 123 => ⟨S4x128x4096, .i1⟩
  | 124 => ⟨S_, .f32⟩
  | 125 => ⟨S4x128x4096, .f32⟩
  | 126 => ⟨S4x128x4096, .f32⟩
  | 127 => ⟨S4x128x4096, .f32⟩
  | _ => ⟨S4x1x32768, .f32⟩

abbrev hbmTy0_1 (i : Nat) : BufTy := match i % 128 with
  | 0 => ⟨S_, .f32⟩
  | 1 => ⟨S4x128x4099, .f32⟩
  | 2 => ⟨S4x128x1024, .f32⟩
  | 3 => ⟨S256x128x1, .f32⟩
  | 4 => ⟨S256x128, .f32⟩
  | 5 => ⟨S256x4x1024, .f32⟩
  | 6 => ⟨S4x256x1024, .f32⟩
  | 7 => ⟨S4x128x1024, .f32⟩
  | 8 => ⟨S256x128x1, .f32⟩
  | 9 => ⟨S256x128, .f32⟩
  | 10 => ⟨S256x4x1024, .f32⟩
  | 11 => ⟨S4x256x1024, .f32⟩
  | 12 => ⟨S4x256x1024, .f32⟩
  | 13 => ⟨S4x128x1024, .f32⟩
  | 14 => ⟨S256x128x1, .f32⟩
  | 15 => ⟨S256x128, .f32⟩
  | 16 => ⟨S256x4x1024, .f32⟩
  | 17 => ⟨S4x256x1024, .f32⟩
  | 18 => ⟨S4x256x1024, .f32⟩
  | 19 => ⟨S4x128x1024, .f32⟩
  | 20 => ⟨S256x128x1, .f32⟩
  | 21 => ⟨S256x128, .f32⟩
  | 22 => ⟨S256x4x1024, .f32⟩
  | 23 => ⟨S4x256x1024, .f32⟩
  | 24 => ⟨S4x256x1024, .f32⟩
  | 25 => ⟨S4x128x1024, .f32⟩
  | 26 => ⟨S256x128x1, .f32⟩
  | 27 => ⟨S256x128, .f32⟩
  | 28 => ⟨S256x4x1024, .f32⟩
  | 29 => ⟨S4x256x1024, .f32⟩
  | 30 => ⟨S4x256x1024, .f32⟩
  | 31 => ⟨S4x128x1024, .f32⟩
  | 32 => ⟨S256x128x1, .f32⟩
  | 33 => ⟨S256x128, .f32⟩
  | 34 => ⟨S256x4x1024, .f32⟩
  | 35 => ⟨S4x256x1024, .f32⟩
  | 36 => ⟨S4x256x1024, .f32⟩
  | 37 => ⟨S4x128x1024, .f32⟩
  | 38 => ⟨S256x128x1, .f32⟩
  | 39 => ⟨S256x128, .f32⟩
  | 40 => ⟨S256x4x1024, .f32⟩
  | 41 => ⟨S4x256x1024, .f32⟩
  | 42 => ⟨S4x256x1024, .f32⟩
  | 43 => ⟨S1x256x1, .f32⟩
  | 44 => ⟨S4x256x1024, .f32⟩
  | 45 => ⟨S4x256x1024, .f32⟩
  | 46 => ⟨S_, .f32⟩
  | 47 => ⟨S4x256x1024, .f32⟩
  | 48 => ⟨S4x256x1024, .i1⟩
  | 49 => ⟨S_, .f32⟩
  | 50 => ⟨S4x256x1024, .f32⟩
  | 51 => ⟨S4x256x1024, .f32⟩
  | 52 => ⟨S4x256x1024, .f32⟩
  | 53 => ⟨S_, .f32⟩
  | 54 => ⟨S4x256x1027, .f32⟩
  | 55 => ⟨S4x256x256, .f32⟩
  | 56 => ⟨S512x256x1, .f32⟩
  | 57 => ⟨S512x256, .f32⟩
  | 58 => ⟨S512x4x256, .f32⟩
  | 59 => ⟨S4x512x256, .f32⟩
  | 60 => ⟨S4x256x256, .f32⟩
  | 61 => ⟨S512x256x1, .f32⟩
  | 62 => ⟨S512x256, .f32⟩
  | 63 => ⟨S512x4x256, .f32⟩
  | 64 => ⟨S4x512x256, .f32⟩
  | 65 => ⟨S4x512x256, .f32⟩
  | 66 => ⟨S4x256x256, .f32⟩
  | 67 => ⟨S512x256x1, .f32⟩
  | 68 => ⟨S512x256, .f32⟩
  | 69 => ⟨S512x4x256, .f32⟩
  | 70 => ⟨S4x512x256, .f32⟩
  | 71 => ⟨S4x512x256, .f32⟩
  | 72 => ⟨S4x256x256, .f32⟩
  | 73 => ⟨S512x256x1, .f32⟩
  | 74 => ⟨S512x256, .f32⟩
  | 75 => ⟨S512x4x256, .f32⟩
  | 76 => ⟨S4x512x256, .f32⟩
  | 77 => ⟨S4x512x256, .f32⟩
  | 78 => ⟨S4x256x256, .f32⟩
  | 79 => ⟨S512x256x1, .f32⟩
  | 80 => ⟨S512x256, .f32⟩
  | 81 => ⟨S512x4x256, .f32⟩
  | 82 => ⟨S4x512x256, .f32⟩
  | 83 => ⟨S4x512x256, .f32⟩
  | 84 => ⟨S4x256x256, .f32⟩
  | 85 => ⟨S512x256x1, .f32⟩
  | 86 => ⟨S512x256, .f32⟩
  | 87 => ⟨S512x4x256, .f32⟩
  | 88 => ⟨S4x512x256, .f32⟩
  | 89 => ⟨S4x512x256, .f32⟩
  | 90 => ⟨S4x256x256, .f32⟩
  | 91 => ⟨S512x256x1, .f32⟩
  | 92 => ⟨S512x256, .f32⟩
  | 93 => ⟨S512x4x256, .f32⟩
  | 94 => ⟨S4x512x256, .f32⟩
  | 95 => ⟨S4x512x256, .f32⟩
  | 96 => ⟨S1x512x1, .f32⟩
  | 97 => ⟨S4x512x256, .f32⟩
  | 98 => ⟨S4x512x256, .f32⟩
  | 99 => ⟨S_, .f32⟩
  | 100 => ⟨S4x512, .f32⟩
  | 101 => ⟨S_, .f32⟩
  | 102 => ⟨S4x512, .f32⟩
  | 103 => ⟨S4x512, .f32⟩
  | 104 => ⟨S4x256x512, .f32⟩
  | 105 => ⟨S1024x512, .f32⟩
  | 106 => ⟨S1024x512, .f32⟩
  | 107 => ⟨S_, .f32⟩
  | 108 => ⟨S1024, .f32⟩
  | 109 => ⟨S1024x1, .f32⟩
  | 110 => ⟨S_, .f32⟩
  | 111 => ⟨S1024x512, .f32⟩
  | 112 => ⟨S1024x512, .f32⟩
  | 113 => ⟨S512x1024, .f32⟩
  | 114 => ⟨S1024x1024, .f32⟩
  | 115 => ⟨S1024x1024, .f32⟩
  | 116 => ⟨S1024x1024, .f32⟩
  | 117 => ⟨S1024x512, .f32⟩
  | 118 => ⟨S_, .f32⟩
  | 119 => ⟨S1024, .f32⟩
  | 120 => ⟨S1x1024, .f32⟩
  | 121 => ⟨S1024x1024, .f32⟩
  | 122 => ⟨S1024x1024, .f32⟩
  | 123 => ⟨S1024x1024, .i32⟩
  | 124 => ⟨S_, .f32⟩
  | 125 => ⟨S_, .i32⟩
  | 126 => ⟨S1024, .f32⟩
  | 127 => ⟨S1024, .i32⟩
  | _ => ⟨S4x1x32768, .f32⟩

abbrev hbmTy0_2 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024x1, .i32⟩
  | 8 => ⟨S1, .i32⟩
  | 9 => ⟨S_, .i32⟩
  | 10 => ⟨S1024x1, .i32⟩
  | 11 => ⟨S1024x1, .i1⟩
  | 12 => ⟨S1x1, .i32⟩
  | 13 => ⟨S1024x1, .i32⟩
  | 14 => ⟨S1024x1, .i1⟩
  | 15 => ⟨S1024x1, .i1⟩
  | 16 => ⟨S_, .i1⟩
  | 17 => ⟨S1024, .i1⟩
  | 18 => ⟨S1024x512, .f32⟩
  | 19 => ⟨S1024x512, .i1⟩
  | 20 => ⟨S_, .f32⟩
  | 21 => ⟨S1024x512, .f32⟩
  | 22 => ⟨S1024x512, .f32⟩
  | 23 => ⟨S4x256x512, .f32⟩
  | 24 => ⟨S4x512x256, .f32⟩
  | 25 => ⟨S512x512, .f32⟩
  | 26 => ⟨S4x512, .f32⟩
  | 27 => ⟨S1x512, .f32⟩
  | 28 => ⟨S4x512, .f32⟩
  | 29 => ⟨S4x512, .f32⟩
  | 30 => ⟨S512x1024, .f32⟩
  | 31 => ⟨S4x1024, .f32⟩
  | 32 => ⟨S1x1024, .f32⟩
  | 33 => ⟨S4x1024, .f32⟩
  | 34 => ⟨S4x1024, .f32⟩
  | 35 => ⟨S4x512, .f32⟩
  | 36 => ⟨S4x512, .f32⟩
  | 37 => ⟨S4x512x1, .f32⟩
  | 38 => ⟨S4x512x256, .f32⟩
  | 39 => ⟨S4x512x256, .f32⟩
  | 40 => ⟨S4x512x1, .f32⟩
  | 41 => ⟨S4x512x256, .f32⟩
  | 42 => ⟨S4x512x256, .f32⟩
  | 43 => ⟨S_, .f32⟩
  | 44 => ⟨S4x512x1030, .f32⟩
  | 45 => ⟨S4x512x1024, .f32⟩
  | 46 => ⟨S256x512x1, .f32⟩
  | 47 => ⟨S256x512, .f32⟩
  | 48 => ⟨S256x4x1024, .f32⟩
  | 49 => ⟨S4x256x1024, .f32⟩
  | 50 => ⟨S4x512x1024, .f32⟩
  | 51 => ⟨S256x512x1, .f32⟩
  | 52 => ⟨S256x512, .f32⟩
  | 53 => ⟨S256x4x1024, .f32⟩
  | 54 => ⟨S4x256x1024, .f32⟩
  | 55 => ⟨S4x256x1024, .f32⟩
  | 56 => ⟨S4x512x1024, .f32⟩
  | 57 => ⟨S256x512x1, .f32⟩
  | 58 => ⟨S256x512, .f32⟩
  | 59 => ⟨S256x4x1024, .f32⟩
  | 60 => ⟨S4x256x1024, .f32⟩
  | 61 => ⟨S4x256x1024, .f32⟩
  | 62 => ⟨S4x512x1024, .f32⟩
  | 63 => ⟨S256x512x1, .f32⟩
  | 64 => ⟨S256x512, .f32⟩
  | 65 => ⟨S256x4x1024, .f32⟩
  | 66 => ⟨S4x256x1024, .f32⟩
  | 67 => ⟨S4x256x1024, .f32⟩
  | 68 => ⟨S4x512x1024, .f32⟩
  | 69 => ⟨S256x512x1, .f32⟩
  | 70 => ⟨S256x512, .f32⟩
  | 71 => ⟨S256x4x1024, .f32⟩
  | 72 => ⟨S4x256x1024, .f32⟩
  | 73 => ⟨S4x256x1024, .f32⟩
  | 74 => ⟨S4x512x1024, .f32⟩
  | 75 => ⟨S256x512x1, .f32⟩
  | 76 => ⟨S256x512, .f32⟩
  | 77 => ⟨S256x4x1024, .f32⟩
  | 78 => ⟨S4x256x1024, .f32⟩
  | 79 => ⟨S4x256x1024, .f32⟩
  | 80 => ⟨S4x512x1024, .f32⟩
  | 81 => ⟨S256x512x1, .f32⟩
  | 82 => ⟨S256x512, .f32⟩
  | 83 => ⟨S256x4x1024, .f32⟩
  | 84 => ⟨S4x256x1024, .f32⟩
  | 85 => ⟨S4x256x1024, .f32⟩
  | 86 => ⟨S1x256x1, .f32⟩
  | 87 => ⟨S4x256x1024, .f32⟩
  | 88 => ⟨S4x256x1024, .f32⟩
  | 89 => ⟨S_, .f32⟩
  | 90 => ⟨S4x256x1024, .f32⟩
  | 91 => ⟨S4x256x1024, .i1⟩
  | 92 => ⟨S_, .f32⟩
  | 93 => ⟨S4x256x1024, .f32⟩
  | 94 => ⟨S4x256x1024, .f32⟩
  | 95 => ⟨S4x256x1024, .f32⟩
  | 96 => ⟨S_, .f32⟩
  | 97 => ⟨S4x256x4102, .f32⟩
  | 98 => ⟨S4x256x4096, .f32⟩
  | 99 => ⟨S128x256x1, .f32⟩
  | 100 => ⟨S128x256, .f32⟩
  | 101 => ⟨S128x4x4096, .f32⟩
  | 102 => ⟨S4x128x4096, .f32⟩
  | 103 => ⟨S4x256x4096, .f32⟩
  | 104 => ⟨S128x256x1, .f32⟩
  | 105 => ⟨S128x256, .f32⟩
  | 106 => ⟨S128x4x4096, .f32⟩
  | 107 => ⟨S4x128x4096, .f32⟩
  | 108 => ⟨S4x128x4096, .f32⟩
  | 109 => ⟨S4x256x4096, .f32⟩
  | 110 => ⟨S128x256x1, .f32⟩
  | 111 => ⟨S128x256, .f32⟩
  | 112 => ⟨S128x4x4096, .f32⟩
  | 113 => ⟨S4x128x4096, .f32⟩
  | 114 => ⟨S4x128x4096, .f32⟩
  | 115 => ⟨S4x256x4096, .f32⟩
  | 116 => ⟨S128x256x1, .f32⟩
  | 117 => ⟨S128x256, .f32⟩
  | 118 => ⟨S128x4x4096, .f32⟩
  | 119 => ⟨S4x128x4096, .f32⟩
  | 120 => ⟨S4x128x4096, .f32⟩
  | 121 => ⟨S4x256x4096, .f32⟩
  | 122 => ⟨S128x256x1, .f32⟩
  | 123 => ⟨S128x256, .f32⟩
  | 124 => ⟨S128x4x4096, .f32⟩
  | 125 => ⟨S4x128x4096, .f32⟩
  | 126 => ⟨S4x128x4096, .f32⟩
  | 127 => ⟨S4x256x4096, .f32⟩
  | _ => ⟨S4x1x32768, .f32⟩

abbrev hbmTy0_3 (i : Nat) : BufTy := match i % 128 with
  | 0 => ⟨S128x256x1, .f32⟩
  | 1 => ⟨S128x256, .f32⟩
  | 2 => ⟨S128x4x4096, .f32⟩
  | 3 => ⟨S4x128x4096, .f32⟩
  | 4 => ⟨S4x128x4096, .f32⟩
  | 5 => ⟨S4x256x4096, .f32⟩
  | 6 => ⟨S128x256x1, .f32⟩
  | 7 => ⟨S128x256, .f32⟩
  | 8 => ⟨S128x4x4096, .f32⟩
  | 9 => ⟨S4x128x4096, .f32⟩
  | 10 => ⟨S4x128x4096, .f32⟩
  | 11 => ⟨S1x128x1, .f32⟩
  | 12 => ⟨S4x128x4096, .f32⟩
  | 13 => ⟨S4x128x4096, .f32⟩
  | 14 => ⟨S_, .f32⟩
  | 15 => ⟨S4x128x4096, .f32⟩
  | 16 => ⟨S4x128x4096, .i1⟩
  | 17 => ⟨S_, .f32⟩
  | 18 => ⟨S4x128x4096, .f32⟩
  | 19 => ⟨S4x128x4096, .f32⟩
  | 20 => ⟨S4x128x4096, .f32⟩
  | 21 => ⟨S_, .f32⟩
  | 22 => ⟨S4x128x16390, .f32⟩
  | 23 => ⟨S4x128x16384, .f32⟩
  | 24 => ⟨S64x128x1, .f32⟩
  | 25 => ⟨S64x128, .f32⟩
  | 26 => ⟨S64x4x16384, .f32⟩
  | 27 => ⟨S4x64x16384, .f32⟩
  | 28 => ⟨S4x128x16384, .f32⟩
  | 29 => ⟨S64x128x1, .f32⟩
  | 30 => ⟨S64x128, .f32⟩
  | 31 => ⟨S64x4x16384, .f32⟩
  | 32 => ⟨S4x64x16384, .f32⟩
  | 33 => ⟨S4x64x16384, .f32⟩
  | 34 => ⟨S4x128x16384, .f32⟩
  | 35 => ⟨S64x128x1, .f32⟩
  | 36 => ⟨S64x128, .f32⟩
  | 37 => ⟨S64x4x16384, .f32⟩
  | 38 => ⟨S4x64x16384, .f32⟩
  | 39 => ⟨S4x64x16384, .f32⟩
  | 40 => ⟨S4x128x16384, .f32⟩
  | 41 => ⟨S64x128x1, .f32⟩
  | 42 => ⟨S64x128, .f32⟩
  | 43 => ⟨S64x4x16384, .f32⟩
  | 44 => ⟨S4x64x16384, .f32⟩
  | 45 => ⟨S4x64x16384, .f32⟩
  | 46 => ⟨S4x128x16384, .f32⟩
  | 47 => ⟨S64x128x1, .f32⟩
  | 48 => ⟨S64x128, .f32⟩
  | 49 => ⟨S64x4x16384, .f32⟩
  | 50 => ⟨S4x64x16384, .f32⟩
  | 51 => ⟨S4x64x16384, .f32⟩
  | 52 => ⟨S4x128x16384, .f32⟩
  | 53 => ⟨S64x128x1, .f32⟩
  | 54 => ⟨S64x128, .f32⟩
  | 55 => ⟨S64x4x16384, .f32⟩
  | 56 => ⟨S4x64x16384, .f32⟩
  | 57 => ⟨S4x64x16384, .f32⟩
  | 58 => ⟨S4x128x16384, .f32⟩
  | 59 => ⟨S64x128x1, .f32⟩
  | 60 => ⟨S64x128, .f32⟩
  | 61 => ⟨S64x4x16384, .f32⟩
  | 62 => ⟨S4x64x16384, .f32⟩
  | 63 => ⟨S4x64x16384, .f32⟩
  | 64 => ⟨S1x64x1, .f32⟩
  | 65 => ⟨S4x64x16384, .f32⟩
  | 66 => ⟨S4x64x16384, .f32⟩
  | 67 => ⟨S_, .f32⟩
  | 68 => ⟨S4x64x16384, .f32⟩
  | 69 => ⟨S4x64x16384, .i1⟩
  | 70 => ⟨S_, .f32⟩
  | 71 => ⟨S4x64x16384, .f32⟩
  | 72 => ⟨S4x64x16384, .f32⟩
  | 73 => ⟨S4x64x16384, .f32⟩
  | 74 => ⟨S_, .f32⟩
  | 75 => ⟨S4x64x32774, .f32⟩
  | 76 => ⟨S4x64x32768, .f32⟩
  | 77 => ⟨S1x64x1, .f32⟩
  | 78 => ⟨S1x64, .f32⟩
  | 79 => ⟨S1x4x32768, .f32⟩
  | 80 => ⟨S4x1x32768, .f32⟩
  | 81 => ⟨S4x64x32768, .f32⟩
  | 82 => ⟨S1x64x1, .f32⟩
  | 83 => ⟨S1x64, .f32⟩
  | 84 => ⟨S1x4x32768, .f32⟩
  | 85 => ⟨S4x1x32768, .f32⟩
  | 86 => ⟨S4x1x32768, .f32⟩
  | 87 => ⟨S4x64x32768, .f32⟩
  | 88 => ⟨S1x64x1, .f32⟩
  | 89 => ⟨S1x64, .f32⟩
  | 90 => ⟨S1x4x32768, .f32⟩
  | 91 => ⟨S4x1x32768, .f32⟩
  | 92 => ⟨S4x1x32768, .f32⟩
  | 93 => ⟨S4x64x32768, .f32⟩
  | 94 => ⟨S1x64x1, .f32⟩
  | 95 => ⟨S1x64, .f32⟩
  | 96 => ⟨S1x4x32768, .f32⟩
  | 97 => ⟨S4x1x32768, .f32⟩
  | 98 => ⟨S4x1x32768, .f32⟩
  | 99 => ⟨S4x64x32768, .f32⟩
  | 100 => ⟨S1x64x1, .f32⟩
  | 101 => ⟨S1x64, .f32⟩
  | 102 => ⟨S1x4x32768, .f32⟩
  | 103 => ⟨S4x1x32768, .f32⟩
  | 104 => ⟨S4x1x32768, .f32⟩
  | 105 => ⟨S4x64x32768, .f32⟩
  | 106 => ⟨S1x64x1, .f32⟩
  | 107 => ⟨S1x64, .f32⟩
  | 108 => ⟨S1x4x32768, .f32⟩
  | 109 => ⟨S4x1x32768, .f32⟩
  | 110 => ⟨S4x1x32768, .f32⟩
  | 111 => ⟨S4x64x32768, .f32⟩
  | 112 => ⟨S1x64x1, .f32⟩
  | 113 => ⟨S1x64, .f32⟩
  | 114 => ⟨S1x4x32768, .f32⟩
  | 115 => ⟨S4x1x32768, .f32⟩
  | 116 => ⟨S4x1x32768, .f32⟩
  | 117 => ⟨S1x1x1, .f32⟩
  | 118 => ⟨S4x1x32768, .f32⟩
  | 119 => ⟨S4x1x32768, .f32⟩
  | 120 => ⟨S4x1x32768, .f32⟩
  | _ => ⟨S4x1x32768, .f32⟩

abbrev hbmTy (i : Nat) : BufTy := match i / 128 with
  | 0 => hbmTy0_0 i
  | 1 => hbmTy0_1 i
  | 2 => hbmTy0_2 i
  | 3 => hbmTy0_3 i
  | _ => ⟨S4x1x32768, .f32⟩

abbrev bufTy : (tb : Table) → Fin (tcTables nBuf tb) → BufTy
  | .hbm, ⟨i, _⟩ => hbmTy i
  | _, _ => ⟨S4x1x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_0 : Ref sig .tc := ⟨.hbm, 68, rfl⟩
abbrev main_v45 : Ref sig .tc := ⟨.hbm, 69, rfl⟩
abbrev main_v46 : Ref sig .tc := ⟨.hbm, 70, rfl⟩
abbrev main_cst_1 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_2 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_3 : Ref sig .tc := ⟨.hbm, 121, rfl⟩
abbrev main_v95 : Ref sig .tc := ⟨.hbm, 122, rfl⟩
abbrev main_v96 : Ref sig .tc := ⟨.hbm, 123, rfl⟩
abbrev main_cst_4 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_5 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_6 : Ref sig .tc := ⟨.hbm, 174, rfl⟩
abbrev main_v145 : Ref sig .tc := ⟨.hbm, 175, rfl⟩
abbrev main_v146 : Ref sig .tc := ⟨.hbm, 176, rfl⟩
abbrev main_cst_7 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_cst_8 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_cst_9 : Ref sig .tc := ⟨.hbm, 227, rfl⟩
abbrev main_v195 : Ref sig .tc := ⟨.hbm, 228, rfl⟩
abbrev main_cst_10 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_cst_11 : Ref sig .tc := ⟨.hbm, 235, rfl⟩
abbrev main_v201 : Ref sig .tc := ⟨.hbm, 236, rfl⟩
abbrev main_v202 : Ref sig .tc := ⟨.hbm, 237, rfl⟩
abbrev main_cst_12 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_cst_13 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_call3_v0 : Ref sig .tc := ⟨.hbm, 251, rfl⟩
abbrev main_call3_cst : Ref sig .tc := ⟨.hbm, 252, rfl⟩
abbrev main_call3_c : Ref sig .tc := ⟨.hbm, 253, rfl⟩
abbrev main_call3_v1_0 : Ref sig .tc := ⟨.hbm, 254, rfl⟩
abbrev main_v214 : Ref sig .tc := ⟨.hbm, 255, rfl⟩
abbrev main_call4_c : Ref sig .tc := ⟨.hbm, 256, rfl⟩
abbrev main_call4_v0 : Ref sig .tc := ⟨.hbm, 257, rfl⟩
abbrev main_call4_v1 : Ref sig .tc := ⟨.hbm, 258, rfl⟩
abbrev main_call4_c_0 : Ref sig .tc := ⟨.hbm, 259, rfl⟩
abbrev main_call4_v2 : Ref sig .tc := ⟨.hbm, 260, rfl⟩
abbrev main_call4_v3 : Ref sig .tc := ⟨.hbm, 261, rfl⟩
abbrev main_call4_v4 : Ref sig .tc := ⟨.hbm, 262, rfl⟩
abbrev main_call4_v5 : Ref sig .tc := ⟨.hbm, 263, rfl⟩
abbrev main_call4_c_1 : Ref sig .tc := ⟨.hbm, 264, rfl⟩
abbrev main_call4_c_2 : Ref sig .tc := ⟨.hbm, 265, rfl⟩
abbrev main_call4_v6 : Ref sig .tc := ⟨.hbm, 266, rfl⟩
abbrev main_call4_v7 : Ref sig .tc := ⟨.hbm, 267, rfl⟩
abbrev main_call4_v8 : Ref sig .tc := ⟨.hbm, 268, rfl⟩
abbrev main_call4_v9 : Ref sig .tc := ⟨.hbm, 269, rfl⟩
abbrev main_call4_v10 : Ref sig .tc := ⟨.hbm, 270, rfl⟩
abbrev main_call4_v11 : Ref sig .tc := ⟨.hbm, 271, rfl⟩
abbrev main_call4_c_3 : Ref sig .tc := ⟨.hbm, 272, rfl⟩
abbrev main_call4_v12 : Ref sig .tc := ⟨.hbm, 273, rfl⟩
abbrev main_call4_v13 : Ref sig .tc := ⟨.hbm, 274, rfl⟩
abbrev main_call4_v14 : Ref sig .tc := ⟨.hbm, 275, rfl⟩
abbrev main_call4_cst : Ref sig .tc := ⟨.hbm, 276, rfl⟩
abbrev main_call4_v15 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_cst_14 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_cst_15 : Ref sig .tc := ⟨.hbm, 345, rfl⟩
abbrev main_v281 : Ref sig .tc := ⟨.hbm, 346, rfl⟩
abbrev main_v282 : Ref sig .tc := ⟨.hbm, 347, rfl⟩
abbrev main_cst_16 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_cst_17 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_v329 : Ref sig .tc := ⟨.hbm, 396, rfl⟩
abbrev main_v330 : Ref sig .tc := ⟨.hbm, 397, rfl⟩
abbrev main_cst_18 : Ref sig .tc := ⟨.hbm, 398, rfl⟩
abbrev main_v331 : Ref sig .tc := ⟨.hbm, 399, rfl⟩
abbrev main_v332 : Ref sig .tc := ⟨.hbm, 400, rfl⟩
abbrev main_cst_19 : Ref sig .tc := ⟨.hbm, 401, rfl⟩
abbrev main_v333 : Ref sig .tc := ⟨.hbm, 402, rfl⟩
abbrev main_v334 : Ref sig .tc := ⟨.hbm, 403, rfl⟩
abbrev main_v335 : Ref sig .tc := ⟨.hbm, 404, rfl⟩
abbrev main_cst_20 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_v373 : Ref sig .tc := ⟨.hbm, 443, rfl⟩
abbrev main_v374 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_v378 : Ref sig .tc := ⟨.hbm, 448, rfl⟩
abbrev main_v379 : Ref sig .tc := ⟨.hbm, 449, rfl⟩
abbrev main_v380 : Ref sig .tc := ⟨.hbm, 450, rfl⟩
abbrev main_cst_21 : Ref sig .tc := ⟨.hbm, 451, rfl⟩
abbrev main_v381 : Ref sig .tc := ⟨.hbm, 452, rfl⟩
abbrev main_v382 : Ref sig .tc := ⟨.hbm, 453, rfl⟩
abbrev main_cst_22 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_cst_23 : Ref sig .tc := ⟨.hbm, 458, rfl⟩
abbrev main_v386 : Ref sig .tc := ⟨.hbm, 459, rfl⟩
abbrev main_v387 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩
abbrev main_v391 : Ref sig .tc := ⟨.hbm, 464, rfl⟩
abbrev main_v392 : Ref sig .tc := ⟨.hbm, 465, rfl⟩
abbrev main_v393 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_v400 : Ref sig .tc := ⟨.hbm, 473, rfl⟩
abbrev main_v401 : Ref sig .tc := ⟨.hbm, 474, rfl⟩
abbrev main_v402 : Ref sig .tc := ⟨.hbm, 475, rfl⟩
abbrev main_v403 : Ref sig .tc := ⟨.hbm, 476, rfl⟩
abbrev main_v404 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_v413 : Ref sig .tc := ⟨.hbm, 486, rfl⟩
abbrev main_v414 : Ref sig .tc := ⟨.hbm, 487, rfl⟩
abbrev main_v415 : Ref sig .tc := ⟨.hbm, 488, rfl⟩
abbrev main_v416 : Ref sig .tc := ⟨.hbm, 489, rfl⟩
abbrev main_v417 : Ref sig .tc := ⟨.hbm, 490, rfl⟩
abbrev main_v418 : Ref sig .tc := ⟨.hbm, 491, rfl⟩
abbrev main_v419 : Ref sig .tc := ⟨.hbm, 492, rfl⟩
abbrev main_v420 : Ref sig .tc := ⟨.hbm, 493, rfl⟩
abbrev main_v421 : Ref sig .tc := ⟨.hbm, 494, rfl⟩
abbrev main_v422 : Ref sig .tc := ⟨.hbm, 495, rfl⟩
abbrev main_v423 : Ref sig .tc := ⟨.hbm, 496, rfl⟩
abbrev main_v424 : Ref sig .tc := ⟨.hbm, 497, rfl⟩
abbrev main_v425 : Ref sig .tc := ⟨.hbm, 498, rfl⟩
abbrev main_v426 : Ref sig .tc := ⟨.hbm, 499, rfl⟩
abbrev main_v427 : Ref sig .tc := ⟨.hbm, 500, rfl⟩
abbrev main_v428 : Ref sig .tc := ⟨.hbm, 501, rfl⟩
abbrev main_v429 : Ref sig .tc := ⟨.hbm, 502, rfl⟩
abbrev main_v430 : Ref sig .tc := ⟨.hbm, 503, rfl⟩
abbrev main_v431 : Ref sig .tc := ⟨.hbm, 504, rfl⟩

abbrev nD : Nat := 1
abbrev τ : Topo := Topo.v7x

variable {F : FTy → Type} [FloatOps F]
-- ==== Proof.Value.Taps.lean ====
/-
  Sums over partial matchings, and what they say of a convolution whose input is held in frames: the products over
  three neighbouring frames are the sums over the seven taps.
-/
module

public import Idealize.ShloMosaic.PureOps.Ideal

@[expose] public section

noncomputable section

namespace Cert.Proof.Taps

open Finset

/-- A sum of products along a partial matching. `e` sends an index `u` to at most one index `v`, and no two to the same
    one; `g` holds `w v` at each matched `u` and zero elsewhere; `y` holds `x u` at each matched `v` and zero elsewhere.
    Then the two sums of products agree. -/
theorem sum_matched {U V : Type} [Fintype U] [Fintype V] [DecidableEq V] (R : U → V → Prop)
    (hR : ∀ u u' v, R u v → R u' v → u = u') (hR' : ∀ u v v', R u v → R u v' → v = v')
    (x g : U → EReal) (w y : V → EReal)
    (hg : ∀ u v, R u v → g u = w v) (hg0 : ∀ u, (∀ v, ¬ R u v) → g u = 0)
    (hy : ∀ u v, R u v → y v = x u) (hy0 : ∀ v, (∀ u, ¬ R u v) → y v = 0) :
    ∑ u, x u * g u = ∑ v, w v * y v := by
  classical
  have h1 : ∀ u, x u * g u = ∑ v, if R u v then w v * y v else 0 := by
    intro u
    by_cases h : ∃ v, R u v
    · obtain ⟨v, hv⟩ := h
      rw [Finset.sum_eq_single v]
      · rw [if_pos hv, hg u v hv, hy u v hv, mul_comm]
      · intro v' _ hne
        exact if_neg fun h' => hne (hR' u v' v h' hv)
      · intro h; exact absurd (Finset.mem_univ v) h
    · have h' : ∀ v, ¬ R u v := fun v hv => h ⟨v, hv⟩
      rw [hg0 u h', mul_zero]
      exact (Finset.sum_eq_zero fun v _ => if_neg (h' v)).symm
  have h2 : ∀ v, w v * y v = ∑ u, if R u v then w v * y v else 0 := by
    intro v
    by_cases h : ∃ u, R u v
    · obtain ⟨u, hu⟩ := h
      rw [Finset.sum_eq_single u]
      · rw [if_pos hu]
      · intro u' _ hne
        exact if_neg fun h' => hne (hR u' u v h' hu)
      · intro h; exact absurd (Finset.mem_univ u) h
    · have h' : ∀ u, ¬ R u v := fun u hu => h ⟨u, hu⟩
      rw [hy0 v h', mul_zero]
      exact (Finset.sum_eq_zero fun u _ => if_neg (h' u)).symm
  rw [Finset.sum_congr rfl fun u _ => h1 u, Finset.sum_comm]
  exact (Finset.sum_congr rfl fun v _ => h2 v).symm

/-- A signal of `T` samples as a function on all times: zero outside. -/
def ext {T : ℕ} (x : Fin T → EReal) (τ : ℤ) : EReal :=
  if h : 0 ≤ τ ∧ τ < (T : ℤ) then x ⟨τ.toNat, by omega⟩ else 0

/-- The weight of tap `κ`: zero when there is no such tap. -/
def wsel (w : Fin 7 → EReal) (κ : ℤ) : EReal :=
  if h : 0 ≤ κ ∧ κ < 7 then w ⟨κ.toNat, by omega⟩ else 0

/-- What tap `k` at the output time `t` reads of a signal that is padded with `P` zeros on the left and has `a - 1` zeros
    between two samples, the taps moving by `b` from one output time to the next. -/
def tapval {T : ℕ} (a b P : ℤ) (x : Fin T → EReal) (t k : ℤ) : EReal :=
  if (b * t + k - P) % a = 0 then ext x ((b * t + k - P) / a) else 0

/-- A tap at a position among the seven is the weight there. -/
theorem wsel_eq (w : Fin 7 → EReal) (k : Fin 7) (κ : ℤ) (h : κ = (k : ℕ)) : wsel w κ = w k := by
  subst h
  have hk := k.isLt
  unfold wsel
  rw [dif_pos ⟨by omega, by omega⟩]
  congr 1

/-- A tap at a position outside the seven is zero. -/
theorem wsel_zero (w : Fin 7 → EReal) (κ : ℤ) (h : ∀ k : Fin 7, κ ≠ (k : ℕ)) : wsel w κ = 0 := by
  unfold wsel
  refine dif_neg fun hκ => h ⟨κ.toNat, by omega⟩ ?_
  show κ = ((κ.toNat : ℕ) : ℤ)
  omega

/-- One output of a convolution whose input is held in frames of `S` samples by `C` channels: the products of the three
    frames around frame `f` with their weight columns are the sum over the channels and the seven taps. -/
theorem frames_taps {a b S So C T F P Din : ℕ} (ha : 0 < a) (hC : 0 < C) (hab : b * So = a * S) (hP : P < a * S + a)
    (hr : b * So + 6 < 2 * (a * S) + P + b) (hD : Din = S * C)
    (f p : ℕ) (hp : p < So) (x : Fin C → Fin T → EReal) (w : Fin C → Fin 7 → EReal)
    (X G : Fin 3 → Fin Din → EReal)
    (hX : ∀ d (α : Fin Din), X d α = ext (x ⟨α % C, Nat.mod_lt _ hC⟩) (S * ((f : ℤ) + ((d : ℕ) - 1)) + ((α / C : ℕ) : ℤ)))
    (hG : ∀ d (α : Fin Din), G d α = wsel (w ⟨α % C, Nat.mod_lt _ hC⟩) (a * (S * ((d : ℕ) - 1) + ((α / C : ℕ) : ℤ)) - b * p + P)) :
    (∑ α, X 0 α * G 0 α) + (∑ α, X 1 α * G 1 α) + (∑ α, X 2 α * G 2 α)
      = ∑ c, ∑ k : Fin 7, w c k * tapval a b P (x c) (So * f + p : ℕ) (k : ℕ) := by
  have haZ : (0 : ℤ) < a := by exact_mod_cast ha
  have habZ : (b : ℤ) * So = a * S := by exact_mod_cast hab
  have hPZ : (P : ℤ) < a * S + a := by exact_mod_cast hP
  have hrZ : (b : ℤ) * So + 6 < 2 * (a * S) + P + b := by exact_mod_cast hr
  have hq : ∀ α : Fin Din, (α : ℕ) / C < S := fun α => Nat.div_lt_of_lt_mul (lt_of_lt_of_eq α.isLt (hD.trans (mul_comm S C)))
  -- the shared time of a tap
  have htime : ∀ k : ℤ, (b : ℤ) * ((So * f + p : ℕ) : ℤ) + k - P = a * (S * f) + (b * p + k - P) := by
    intro k; push_cast; linear_combination (f : ℤ) * habZ
  have key := sum_matched (U := Fin 3 × Fin Din) (V := Fin C × Fin 7)
    (fun u v => (u.2 : ℕ) % C = v.1 ∧ (a : ℤ) * (S * ((u.1 : ℕ) - 1) + ((u.2 / C : ℕ) : ℤ)) - b * p + P = (v.2 : ℕ))
    (by
      rintro ⟨d, α⟩ ⟨d', α'⟩ ⟨c, k⟩ ⟨h1, h2⟩ ⟨h3, h4⟩
      dsimp only at h1 h2 h3 h4
      have e : (a : ℤ) * (S * ((d : ℕ) - 1) + ((α / C : ℕ) : ℤ)) = a * (S * ((d' : ℕ) - 1) + ((α' / C : ℕ) : ℤ)) := by linarith
      have e' := mul_left_cancel₀ haZ.ne' e
      have q1 := hq α
      have q2 := hq α'
      have hdq : d = d' ∧ (α : ℕ) / C = α' / C := by
        generalize (α : ℕ) / C = q at *
        generalize (α' : ℕ) / C = q' at *
        fin_cases d <;> fin_cases d' <;> simp at e' ⊢ <;> omega
      refine Prod.ext hdq.1 (Fin.ext ?_)
      show (α : ℕ) = α'
      rw [← Nat.div_add_mod (α : ℕ) C, ← Nat.div_add_mod (α' : ℕ) C, hdq.2, h1, h3])
    (by
      rintro ⟨d, α⟩ ⟨c, k⟩ ⟨c', k'⟩ ⟨h1, h2⟩ ⟨h3, h4⟩
      dsimp only at h1 h2 h3 h4
      refine Prod.ext (Fin.ext (h1.symm.trans h3)) (Fin.ext ?_)
      have := h2.symm.trans h4
      show (k : ℕ) = k'
      exact_mod_cast this)
    (fun u => X u.1 u.2) (fun u => G u.1 u.2) (fun v => w v.1 v.2)
    (fun v => tapval a b P (x v.1) (So * f + p : ℕ) (v.2 : ℕ))
    (by
      rintro ⟨d, α⟩ ⟨c, k⟩ ⟨h1, h2⟩
      dsimp only at h1 h2 ⊢
      rw [hG, wsel_eq _ k _ h2]
      congr 1
      exact Fin.ext h1)
    (by
      rintro ⟨d, α⟩ h
      dsimp only
      rw [hG]
      exact wsel_zero _ _ fun k hk => h (⟨α % C, Nat.mod_lt _ hC⟩, k) ⟨rfl, hk⟩)
    (by
      rintro ⟨d, α⟩ ⟨c, k⟩ ⟨h1, h2⟩
      dsimp only at h1 h2 ⊢
      rw [hX]
      have e : (b : ℤ) * ((So * f + p : ℕ) : ℤ) + ((k : ℕ) : ℤ) - P = a * (S * ((f : ℤ) + ((d : ℕ) - 1)) + ((α / C : ℕ) : ℤ)) := by
        rw [htime, ← h2]; ring
      unfold tapval
      rw [e, if_pos (Int.mul_emod_right _ _), Int.mul_ediv_cancel_left _ haZ.ne']
      congr 2
      exact Fin.ext h1.symm)
    (by
      rintro ⟨c, k⟩ h
      dsimp only at h ⊢
      unfold tapval
      rw [htime]
      refine if_neg fun hz => ?_
      obtain ⟨τ, hτ⟩ : ∃ τ : ℤ, (b : ℤ) * p + (k : ℕ) - P = a * τ := by
        have := Int.dvd_of_emod_eq_zero hz
        exact (Int.dvd_add_right (Dvd.intro _ rfl)).mp this
      have hk := k.isLt
      have hbp : (b : ℤ) * p + b ≤ b * So := by
        have : (p : ℤ) + 1 ≤ So := by exact_mod_cast hp
        nlinarith [Int.natCast_nonneg b]
      have hbp0 : (0 : ℤ) ≤ b * p := by positivity
      have l1 : -(S : ℤ) ≤ τ := by
        have : (a : ℤ) * (-(S : ℤ) - 1) < a * τ := by rw [← hτ]; linarith [Int.natCast_nonneg (k : ℕ)]
        have := lt_of_mul_lt_mul_left this haZ.le
        omega
      have l2 : τ < 2 * S := by
        have : (a : ℤ) * τ < a * (2 * S) := by
          rw [← hτ]
          have : ((k : ℕ) : ℤ) ≤ 6 := by omega
          linarith
        exact lt_of_mul_lt_mul_left this haZ.le
      obtain ⟨d, q, hqS, hdq⟩ : ∃ (d : Fin 3) (q : ℕ), q < S ∧ τ = S * ((d : ℕ) - 1) + (q : ℤ) := by
        rcases lt_or_ge τ 0 with h0 | h0
        · exact ⟨0, (τ + S).toNat, by omega, by simp; omega⟩
        rcases lt_or_ge τ S with h1 | h1
        · exact ⟨1, τ.toNat, by omega, by simp; omega⟩
        · exact ⟨2, (τ - S).toNat, by omega, by simp; omega⟩
      have hα : q * C + c < Din := by
        rw [hD]
        calc q * C + c < q * C + C := by have := c.isLt; omega
          _ = (q + 1) * C := by ring
          _ ≤ S * C := Nat.mul_le_mul_right _ hqS
      have hdiv : (q * C + c) / C = q := by
        rw [mul_comm, Nat.mul_add_div hC, Nat.div_eq_of_lt c.isLt, add_zero]
      have hmod : (q * C + c) % C = c := by
        rw [mul_comm, Nat.mul_add_mod, Nat.mod_eq_of_lt c.isLt]
      refine h (d, ⟨q * C + c, hα⟩) ⟨hmod, ?_⟩
      dsimp only
      rw [hdiv, ← hdq, ← hτ]; ring)
  rw [Fintype.sum_prod_type, Fintype.sum_prod_type, Fin.sum_univ_three] at key
  exact key

end Cert.Proof.Taps

end
-- ==== Proof.Value.Conv.lean ====
/-
  A convolution held in frames, in general dimensions: what one block of rows computes, what the whole product over
  three neighbouring frames is, and that it is the convolution over the taps; and the reading of one tap.
-/
module

public import proofs.«01_k».proof.Proof.Value.Taps
public import Idealize.ShloMosaic.PureOps.Ideal

@[expose] public section

noncomputable section

namespace Cert.Proof.Conv

open Cert.Proof.Taps Idealize.ShloMosaic

/-- The leaky rectifier, its slope the word of 0.1. -/
def lrelu (v : EReal) : EReal := if 0 < v then v else Ideal.ofBits .f32 1036831949#32 * v

/-- The selection that both programs print is the leaky rectifier of an equal value. -/
theorem lrelu_of_eq {z y s : EReal} [Decidable (0 < z)] (hs : s = Ideal.ofBits .f32 1036831949#32) (h : z = y) :
    (if 0 < z then z else s * z) = lrelu y := by
  subst h hs; unfold lrelu; congr

/-- The row before row `n`, zero at the head of a run of `F` rows. -/
def prevAt {N D : ℕ} (F : ℕ) (x : Fin N → Fin D → EReal) (n : Fin N) (α : Fin D) : EReal :=
  if n.val % F = 0 then 0 else x ⟨n.val - 1, lt_of_le_of_lt (Nat.sub_le _ _) n.isLt⟩ α

/-- The row after row `n`, zero at the tail of a run of `F` rows. -/
def nextAt {N D : ℕ} (F : ℕ) (x : Fin N → Fin D → EReal) (n : Fin N) (α : Fin D) : EReal :=
  if h : n.val % F = F - 1 ∨ N ≤ n.val + 1 then 0 else x ⟨n.val + 1, by omega⟩ α

/-- The bias and the products of three neighbouring rows with their weight matrices. -/
def convAt {N D O : ℕ} (F : ℕ) (x : Fin N → Fin D → EReal) (wm w0 wp : Fin D → Fin O → EReal) (bias : Fin O → EReal)
    (n : Fin N) (β : Fin O) : EReal :=
  bias β + ∑ α, prevAt F x n α * wm α β + ∑ α, x n α * w0 α β + ∑ α, nextAt F x n α * wp α β

/-- A row number inside a run, from its block's number and its place in the block. -/
theorem row_mod {nbf P t r : ℕ} (hr : r < nbf) (hP : 0 < P) : (nbf * t + r) % (nbf * P) = nbf * (t % P) + r := by
  have h : nbf * t + r = nbf * (t % P) + r + nbf * P * (t / P) := by
    conv_lhs => rw [← Nat.mod_add_div t P]
    ring
  rw [h, Nat.add_mul_mod_self_left]
  refine Nat.mod_eq_of_lt ?_
  have : t % P + 1 ≤ P := Nat.mod_lt _ hP
  calc nbf * (t % P) + r < nbf * (t % P) + nbf := by omega
    _ = nbf * (t % P + 1) := by ring
    _ ≤ nbf * P := Nat.mul_le_mul_left _ this

/-- The last row of all is the last of its run. -/
theorem last_mod {N F n : ℕ} (hn : n < N) (hN : F ∣ N) (h : N ≤ n + 1) : n % F = F - 1 := by
  obtain ⟨B, rfl⟩ := hN
  obtain _ | B := B
  · simp at hn
  have hF : 0 < F := Nat.pos_of_ne_zero fun e => by simp [e] at hn
  have e : n = F - 1 + F * B := by
    have : F * (B + 1) = F * B + F := by ring
    omega
  rw [e, Nat.add_mul_mod_self_left, Nat.mod_eq_of_lt (by omega)]

/-- What one block of rows computes from its own rows, the last row of the block before and the first row of the block
    after is the product over three neighbouring rows. -/
theorem conv_point {nbf N D O P F m1 : ℕ} (t : ℕ) (x : Fin N → Fin D → EReal) (wm w0 wp : Fin D → Fin O → EReal)
    (bias : Fin O → EReal) (B0 B1 B2 : Fin nbf → Fin D → EReal) (Wm W0 Wp : Fin D → Fin O → EReal) (bb : EReal)
    (c0 c1 : BitVec 1) (hm : m1 + 1 = nbf) (hP : 0 < P) (hF : F = nbf * P)
    (hc0 : c0 = 1#1 ↔ t % P = 0) (hc1 : c1 = 1#1 ↔ t % P + 1 = P)
    (r : Fin nbf) (n : Fin N) (β : Fin O) (hn : n.val = nbf * t + r)
    (hB0 : ∀ (r' : Fin nbf) (n' : Fin N) α, t % P ≠ 0 → n'.val + nbf = nbf * t + r' → B0 r' α = x n' α)
    (hB1 : ∀ (r' : Fin nbf) (n' : Fin N) α, n'.val = nbf * t + r' → B1 r' α = x n' α)
    (hB2 : ∀ (r' : Fin nbf) (n' : Fin N) α, n'.val = nbf * t + nbf + r' → B2 r' α = x n' α)
    (hN : F ∣ N)
    (hb : bb = bias β) (hWm : ∀ α, Wm α β = wm α β) (hW0 : ∀ α, W0 α β = w0 α β) (hWp : ∀ α, Wp α β = wp α β) :
    bb + ∑ α, (if h : r.val < 1 then Scalar.select c0 (0 : EReal) (B0 ⟨m1 + r.val, by omega⟩ α)
          else B1 ⟨r.val - 1, by omega⟩ α) * Wm α β
        + ∑ α, B1 r α * W0 α β
        + ∑ α, (if h : r.val < m1 then B1 ⟨1 + r.val, by omega⟩ α
            else Scalar.select c1 (0 : EReal) (B2 ⟨r.val - m1, by omega⟩ α)) * Wp α β
      = convAt F x wm w0 wp bias n β := by
  have hmod : n.val % F = nbf * (t % P) + r := by rw [hn, hF, row_mod r.isLt hP]
  have hnbf : 0 < nbf := by omega
  have hFv : F = nbf * (P - 1) + nbf := by
    rw [hF]; conv_lhs => rw [← Nat.sub_add_cancel hP]
    ring
  unfold convAt
  refine congrArg₂ (· + ·) (congrArg₂ (· + ·) (congrArg₂ (· + ·) hb ?_) ?_) ?_
  · refine Finset.sum_congr rfl fun α _ => congrArg₂ (· * ·) ?_ (hWm α)
    unfold prevAt
    by_cases h : r.val < 1
    · rw [dif_pos h]
      by_cases h0 : t % P = 0
      · rw [if_pos (by rw [hmod, h0]; omega)]
        rw [hc0.mpr h0]; rfl
      · rw [if_neg (by
          rw [hmod]
          have : 0 < nbf * (t % P) := Nat.mul_pos hnbf (Nat.pos_of_ne_zero h0)
          omega)]
        have : c0 ≠ 1#1 := fun e => h0 (hc0.mp e)
        have ht : nbf ≤ nbf * t := Nat.le_mul_of_pos_right _ (Nat.pos_of_ne_zero fun e => h0 (by rw [e, Nat.zero_mod]))
        refine Eq.trans (if_neg this) (hB0 _ _ α h0 ?_)
        show n.val - 1 + nbf = nbf * t + (m1 + r.val)
        omega
    · rw [dif_neg h, if_neg (by rw [hmod]; omega)]
      refine hB1 _ _ α ?_
      show n.val - 1 = nbf * t + (r.val - 1)
      omega
  · exact Finset.sum_congr rfl fun α _ => congrArg₂ (· * ·) (hB1 r n α hn) (hW0 α)
  · refine Finset.sum_congr rfl fun α _ => congrArg₂ (· * ·) ?_ (hWp α)
    unfold nextAt
    by_cases h : r.val < m1
    · have hle : nbf * (t % P) ≤ nbf * (P - 1) := Nat.mul_le_mul_left _ (by have := Nat.mod_lt t hP; omega)
      have hne : ¬ (n.val % F = F - 1 ∨ N ≤ n.val + 1) := by
        rintro (h' | h')
        · rw [hmod, hFv] at h'
          omega
        · have h' := last_mod n.isLt hN h'
          rw [hmod, hFv] at h'
          omega
      rw [dif_pos h, dif_neg hne]
      refine hB1 _ _ α ?_
      show n.val + 1 = nbf * t + (1 + r.val)
      omega
    · rw [dif_neg h]
      have hr := r.isLt
      by_cases h1 : t % P + 1 = P
      · rw [dif_pos (.inl (by
          rw [hmod, hFv, show t % P = P - 1 from by omega]
          omega)), hc1.mpr h1]; rfl
      · have hlt : nbf * (t % P) + nbf ≤ nbf * (P - 1) := by
          have := Nat.mod_lt t hP
          calc nbf * (t % P) + nbf = nbf * (t % P + 1) := by ring
            _ ≤ nbf * (P - 1) := Nat.mul_le_mul_left _ (by omega)
        rw [dif_neg (by
          rintro (h' | h')
          · rw [hmod, hFv] at h'
            omega
          · have h' := last_mod n.isLt hN h'
            rw [hmod, hFv] at h'
            omega)]
        refine Eq.trans (if_neg fun e => h1 (hc1.mp e)) (hB2 _ _ α ?_)
        show n.val + 1 = nbf * t + nbf + (r.val - m1)
        omega

/-- An array of 4 signals by `C` channels by `T` times, read in the order signal, time, channel. -/
def lay {C T : ℕ} (r : Fin 4 → Fin C → Fin T → EReal) (i : ℕ) : EReal :=
  if h : i < 4 * (T * C) then
    have hC : 0 < C := Nat.pos_of_ne_zero fun e => by simp [e] at h
    have hT : 0 < T := Nat.pos_of_ne_zero fun e => by simp [e] at h
    r ⟨i / (T * C), Nat.div_lt_of_lt_mul (by rw [mul_comm]; exact h)⟩ ⟨i % C, Nat.mod_lt _ hC⟩ ⟨i / C % T, Nat.mod_lt _ hT⟩
  else 0

/-- Reading at the place of signal `b`, time `t`, channel `c`. -/
theorem lay_at {C T : ℕ} (r : Fin 4 → Fin C → Fin T → EReal) (b : Fin 4) (c : Fin C) (t : Fin T) (i : ℕ)
    (hi : i = (b * T + t) * C + c) : lay r i = r b c t := by
  have hc := c.isLt
  have ht := t.isLt
  have hC : 0 < C := by omega
  have hT : 0 < T := by omega
  have h1 : i / C = b * T + t := by
    rw [hi, mul_comm, Nat.mul_add_div hC, Nat.div_eq_of_lt hc, add_zero]
  have h2 : i % C = c := by rw [hi, mul_comm, Nat.mul_add_mod, Nat.mod_eq_of_lt hc]
  have h3 : i / C % T = t := by rw [h1, mul_comm, Nat.mul_add_mod, Nat.mod_eq_of_lt ht]
  have h4 : i / (T * C) = b := by
    rw [mul_comm T C, ← Nat.div_div_eq_div_mul, h1, mul_comm, Nat.mul_add_div hT, Nat.div_eq_of_lt ht, add_zero]
  have h5 : i < 4 * (T * C) := by
    have : i / (T * C) < 4 := by rw [h4]; exact b.isLt
    exact (Nat.div_lt_iff_lt_mul (Nat.mul_pos hT hC)).mp this
  unfold lay
  rw [dif_pos h5]
  exact congr (congr (congrArg r (Fin.ext h4)) (Fin.ext h2)) (Fin.ext h3)

/-- The products over three neighbouring frames are the convolution: when the rows hold the signals `r` in frames of `S`
    times and the matrices hold the taps, the outputs are those of the convolution in frames of `So` times. -/
theorem layer {a b S So C O F P Din Dout N T T' : ℕ} (ha : 0 < a) (hab : b * So = a * S) (hP : P < a * S + a)
    (hr : b * So + 6 < 2 * (a * S) + P + b) (hD : Din = S * C) (hDo : Dout = So * O) (hN : N = 4 * F) (hT : T = S * F)
    (hT' : T' = So * F) (hC : 0 < C) (hO : 0 < O)
    (r : Fin 4 → Fin C → Fin T → EReal) (r' : Fin 4 → Fin O → Fin T' → EReal) (w : Fin O → Fin C → Fin 7 → EReal)
    (bb : Fin O → EReal) (act : EReal → EReal)
    (x : Fin N → Fin Din → EReal) (W : Fin 3 → Fin Din → Fin Dout → EReal) (bias : Fin Dout → EReal)
    (hx : ∀ n α, x n α = lay r (n * Din + α))
    (hw : ∀ d (α : Fin Din) (β : Fin Dout), W d α β = wsel (w ⟨β % O, Nat.mod_lt _ hO⟩ ⟨α % C, Nat.mod_lt _ hC⟩)
      (a * (S * ((d : ℕ) - 1) + ((α / C : ℕ) : ℤ)) - b * ((β / O : ℕ) : ℤ) + P))
    (hb : ∀ β : Fin Dout, bias β = bb ⟨β % O, Nat.mod_lt _ hO⟩)
    (hr' : ∀ bi o t, r' bi o t = act (∑ c, ∑ k : Fin 7, w o c k * tapval a b P (r bi c) (t : ℕ) (k : ℕ) + bb o))
    (n : Fin N) (β : Fin Dout) :
    act (convAt F x (W 0) (W 1) (W 2) bias n β) = lay r' (n * Dout + β) := by
  have hn := n.isLt
  have hβ := β.isLt
  have hF : 0 < F := by omega
  have hS : ∀ α : Fin Din, (α : ℕ) / C < S :=
    fun α => Nat.div_lt_of_lt_mul (lt_of_lt_of_eq α.isLt (hD.trans (mul_comm S C)))
  have hp : (β : ℕ) / O < So := Nat.div_lt_of_lt_mul (lt_of_lt_of_eq β.isLt (hDo.trans (mul_comm So O)))
  have hbi : n.val / F < 4 := Nat.div_lt_of_lt_mul (by rw [mul_comm]; omega)
  have hf : n.val % F < F := Nat.mod_lt _ hF
  have ht : So * (n.val % F) + β / O < T' := by
    rw [hT']
    calc So * (n.val % F) + β / O < So * (n.val % F) + So := by omega
      _ = So * (n.val % F + 1) := by ring
      _ ≤ So * F := Nat.mul_le_mul_left _ hf
  -- a row `m` of the same signal's frame `g`, read through `lay`
  have hrow : ∀ (m g : ℕ) (hm : m < N) (hg : g < F) (e : m = F * (n.val / F) + g) (α : Fin Din),
      x ⟨m, hm⟩ α = ext (r ⟨n.val / F, hbi⟩ ⟨α % C, Nat.mod_lt _ hC⟩) ((S * g + α / C : ℕ) : ℤ) := by
    intro m g hm hg e α
    have h1 := hS α
    have h2 : S * g + α / C < T := by
      rw [hT]
      calc S * g + α / C < S * g + S := by omega
        _ = S * (g + 1) := by ring
        _ ≤ S * F := Nat.mul_le_mul_left _ hg
    rw [hx, lay_at r ⟨n.val / F, hbi⟩ ⟨α % C, Nat.mod_lt _ hC⟩ ⟨S * g + α / C, h2⟩]
    · unfold ext
      rw [dif_pos ⟨by positivity, by exact_mod_cast h2⟩]
      congr 1
    · show m * Din + α = (n.val / F * T + (S * g + α / C)) * C + α % C
      have h3 : C * ((α : ℕ) / C) + α % C = α := Nat.div_add_mod _ _
      have h4 : m * Din = (F * (n.val / F) + g) * (S * C) := by rw [← e, hD]
      have h5 : n.val / F * T = n.val / F * (S * F) := by rw [hT]
      rw [h4, h5]
      conv_lhs => rw [← h3]
      ring
  rw [lay_at r' ⟨n.val / F, hbi⟩ ⟨β % O, Nat.mod_lt _ hO⟩ ⟨So * (n.val % F) + β / O, ht⟩, hr']
  · congr 1
    have key := frames_taps (a := a) (b := b) (S := S) (So := So) (F := F) (P := P) ha hC hab hP hr hD (n.val % F) (β / O) hp
      (r ⟨n.val / F, hbi⟩) (w ⟨β % O, Nat.mod_lt _ hO⟩) ![prevAt F x n, x n, nextAt F x n] (fun d α => W d α β)
      (by
        have hdm : n.val = F * (n.val / F) + n.val % F := (Nat.div_add_mod _ _).symm
        intro d α
        have hα := hS α
        fin_cases d
        · show prevAt F x n α = ext _ ((S : ℤ) * (((n.val % F : ℕ) : ℤ) + (((0 : ℕ) : ℤ) - 1)) + _)
          unfold prevAt
          by_cases h0 : n.val % F = 0
          · rw [if_pos h0]
            unfold ext
            rw [dif_neg]
            rw [h0]; push_cast
            intro h
            have : (((α : ℕ) / C : ℕ) : ℤ) < S := by exact_mod_cast hα
            push_cast at this
            have := h.1
            simp at this
            omega
          · rw [if_neg h0, hrow (n.val - 1) (n.val % F - 1) _ (by omega) (by omega)]
            congr 1
            push_cast [Nat.cast_sub (show 1 ≤ n.val % F by omega)]
            ring
        · show x n α = ext _ ((S : ℤ) * (((n.val % F : ℕ) : ℤ) + (((1 : ℕ) : ℤ) - 1)) + _)
          rw [hrow n.val (n.val % F) hn hf hdm]
          congr 1
        · show nextAt F x n α = ext _ ((S : ℤ) * (((n.val % F : ℕ) : ℤ) + (((2 : ℕ) : ℤ) - 1)) + _)
          unfold nextAt
          by_cases h0 : n.val % F = F - 1 ∨ N ≤ n.val + 1
          · have h0' : n.val % F = F - 1 := h0.elim id fun h => last_mod hn ⟨4, by rw [hN]; ring⟩ h
            rw [dif_pos h0]
            unfold ext
            rw [dif_neg]
            intro h
            have e : (((n.val % F : ℕ) : ℤ) + (((2 : ℕ) : ℤ) - 1)) = F := by
              rw [h0']; push_cast [Nat.cast_sub (show 1 ≤ F by omega)]; ring
            rw [e] at h
            have h2 := h.2
            rw [hT] at h2
            push_cast at h2
            have : (0 : ℤ) ≤ ((α : ℕ) : ℤ) / C := by positivity
            linarith
          · rw [dif_neg h0, hrow (n.val + 1) (n.val % F + 1) _ (by omega) (by omega)]
            congr 1)
      (by
        intro d α
        exact hw d α β)
    rw [← key, ← hb β]
    unfold convAt
    simp only [Matrix.cons_val_zero, Matrix.cons_val_one, Matrix.cons_val]
    abel
  · show n.val * Dout + β = (n.val / F * T' + (So * (n.val % F) + β / O)) * O + β % O
    have h1 : O * ((β : ℕ) / O) + β % O = β := Nat.div_add_mod _ _
    have h2 : F * (n.val / F) + n.val % F = n.val := Nat.div_add_mod _ _
    have h4 : n.val * Dout = (F * (n.val / F) + n.val % F) * (So * O) := by rw [h2, hDo]
    have h5 : n.val / F * T' = n.val / F * (So * F) := by rw [hT']
    rw [h4, h5]
    conv_lhs => rw [← h1]
    ring

/-- Seven products over the channels, one per tap, added from the left: the sum over the channels and the taps. -/
theorem seven {C T : ℕ} {a b P t : ℤ} (w : Fin C → Fin 7 → EReal) (x : Fin C → Fin T → EReal)
    (v0 v1 v2 v3 v4 v5 v6 : Fin C → EReal)
    (h0 : ∀ c, v0 c = tapval a b P (x c) t 0) (h1 : ∀ c, v1 c = tapval a b P (x c) t 1)
    (h2 : ∀ c, v2 c = tapval a b P (x c) t 2) (h3 : ∀ c, v3 c = tapval a b P (x c) t 3)
    (h4 : ∀ c, v4 c = tapval a b P (x c) t 4) (h5 : ∀ c, v5 c = tapval a b P (x c) t 5)
    (h6 : ∀ c, v6 c = tapval a b P (x c) t 6) :
    (∑ c, w c 0 * v0 c) + (∑ c, w c 1 * v1 c) + (∑ c, w c 2 * v2 c) + (∑ c, w c 3 * v3 c) + (∑ c, w c 4 * v4 c)
      + (∑ c, w c 5 * v5 c) + (∑ c, w c 6 * v6 c) = ∑ c, ∑ k : Fin 7, w c k * tapval a b P (x c) t (k : ℕ) := by
  simp only [h0, h1, h2, h3, h4, h5, h6, ← Finset.sum_add_distrib]
  refine Finset.sum_congr rfl fun c _ => ?_
  rw [Fin.sum_univ_seven]
  rfl

/-- A tap read under its condition. -/
theorem tap_read {T : ℕ} (a b P : ℤ) (x : Fin T → EReal) (t k : ℤ) (p : Prop) [Decidable p] (i : p → Fin T)
    (hp : p ↔ ((b * t + k - P) % a = 0 ∧ 0 ≤ (b * t + k - P) / a ∧ (b * t + k - P) / a < T))
    (hi : ∀ h, ((i h : ℕ) : ℤ) = (b * t + k - P) / a) :
    (if h : p then x (i h) else 0) = tapval a b P x t k := by
  unfold tapval ext
  by_cases h : p
  · have h' := hp.mp h
    rw [dif_pos h, if_pos h'.1, dif_pos h'.2]
    congr 1
    refine Fin.ext ?_
    have := hi h
    show (i h : ℕ) = ((b * t + k - P) / a).toNat
    omega
  · rw [dif_neg h]
    split_ifs with h1 h2
    · exact absurd (hp.mpr ⟨h1, h2⟩) h
    · rfl
    · rfl

end Cert.Proof.Conv

end
-- ==== Proof.Value.Coords.lean ====
/-
  Tensors as functions of their coordinates, and the convolution at an index.
-/
module

public import proofs.«01_k».proof.Proof.Value.Conv
public import Idealize.ShloMosaic.Lib.Pointwise

@[expose] public section

noncomputable section

namespace Cert.Proof.Conv

open Cert.Proof.Taps Idealize.ShloMosaic

/-- A tensor of three axes as a function of its three coordinates. -/
def at3 {n0 n1 n2 : ℕ} (v : FVec Ideal ⟨3, ![n0, n1, n2]⟩ .f32) (a : Fin n0) (b : Fin n1) (c : Fin n2) : EReal := v (ix3 a b c)

/-- A vector as a function of its coordinate. -/
def at1 {n0 : ℕ} (v : FVec Ideal ⟨1, ![n0]⟩ .f32) (a : Fin n0) : EReal := v (ix1 a)

/-- The convolution at an index: the sum over the channels and the taps, and the bias. -/
def convT {C T O : ℕ} (a b P : ℕ) (w : Fin O → Fin C → Fin 7 → EReal) (bb : Fin O → EReal) (x : Fin 4 → Fin C → Fin T → EReal)
    (bi : Fin 4) (o : Fin O) (t : ℕ) : EReal :=
  ∑ c, ∑ k : Fin 7, w o c k * tapval a b P (x bi c) t (k : ℕ) + bb o

/-- A matrix as a function of its two coordinates. -/
def at2 {n0 n1 : ℕ} (φ : FTy) (v : FVec Ideal ⟨2, ![n0, n1]⟩ φ) (a : Fin n0) (b : Fin n1) : EReal := v (ix2 a b)

/-- Seven sums over the channels, each term a weight by its tap: the sum over the channels and the taps. -/
theorem seven_of {C T : ℕ} {a b P t : ℤ} (w : Fin C → Fin 7 → EReal) (x : Fin C → Fin T → EReal)
    (v0 v1 v2 v3 v4 v5 v6 : Fin C → EReal)
    (h0 : ∀ c, v0 c = w c 0 * tapval a b P (x c) t 0) (h1 : ∀ c, v1 c = w c 1 * tapval a b P (x c) t 1)
    (h2 : ∀ c, v2 c = w c 2 * tapval a b P (x c) t 2) (h3 : ∀ c, v3 c = w c 3 * tapval a b P (x c) t 3)
    (h4 : ∀ c, v4 c = w c 4 * tapval a b P (x c) t 4) (h5 : ∀ c, v5 c = w c 5 * tapval a b P (x c) t 5)
    (h6 : ∀ c, v6 c = w c 6 * tapval a b P (x c) t 6) :
    (∑ c, v0 c) + (∑ c, v1 c) + (∑ c, v2 c) + (∑ c, v3 c) + (∑ c, v4 c) + (∑ c, v5 c) + (∑ c, v6 c)
      = ∑ c, ∑ k : Fin 7, w c k * tapval a b P (x c) t (k : ℕ) := by
  simp only [h0, h1, h2, h3, h4, h5, h6]
  exact seven w x _ _ _ _ _ _ _ (fun _ => rfl) (fun _ => rfl) (fun _ => rfl) (fun _ => rfl) (fun _ => rfl) (fun _ => rfl) (fun _ => rfl)

end Cert.Proof.Conv

end
-- ==== Proof.Value.Reg0.lean ====
/-
  What the first encoder layer's call leaves in its result array: the products over three neighbouring rows.
-/
module

public import proofs.«01_k».proof.Proof.Gen.KernelIdeal.Frame.Region0
public import proofs.«01_k».proof.Proof.Value.Coords
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv
open Idealize.ShloMosaic Idealize.ShloMosaic.TcCoe Idealize.SL.Sem
open Idealize.ShloMosaic.Pipeline (Dat)

/-- Where each window's block lies, and the two tests on the point's number. -/
theorem idx0 : ∀ t : Fin cfg0.N, win0_0.index t = ![t.val - 1, 0] ∧ win0_1.index t = ![t.val, 0]
    ∧ win0_2.index t = ![min (t.val + 1) 3, 0] ∧ win0_3.index t = ![0, 0] ∧ win0_4.index t = ![0, 0]
    ∧ win0_5.index t = ![0, 0] ∧ win0_6.index t = ![0, 0] ∧ win0_7.index t = ![t.val, 0]
    ∧ (Scalar.cmpi .eq (Scalar.remsi (BitVec.ofNat 32 ↑(grid0.coords t 0)) 1#32) 0#32 = 1#1 ↔ t.val % 1 = 0)
    ∧ (Scalar.cmpi .eq (Scalar.remsi (BitVec.ofNat 32 ↑(grid0.coords t 0)) 1#32) 0#32 = 1#1 ↔ t.val % 1 + 1 = 1) :=
  (by decide +kernel : ∀ t : Fin grid0.N, _)

set_option maxHeartbeats 1000000 in
/-- What the body computes from its blocks, at one row and column. -/
theorem pay0 (i : grid0.Coords) (x0 x1 x2 : Vec Ideal S256x128 .f32) (x3 x4 x5 : Vec Ideal S128x4096 .f32) (x6 : Vec Ideal S1x4096 .f32)
    (t : ℕ) (X : Fin 1024 → Fin 128 → EReal) (wm w0 wp : Fin 128 → Fin 4096 → EReal) (bias : Fin 4096 → EReal)
    (r : Fin 256) (n : Fin 1024) (β : Fin 4096)
    (c0 : Scalar.cmpi .eq (Scalar.remsi (BitVec.ofNat 32 ↑(i 0)) 1#32) 0#32 = 1#1 ↔ t % 1 = 0)
    (c1 : Scalar.cmpi .eq (Scalar.remsi (BitVec.ofNat 32 ↑(i 0)) 1#32) 0#32 = 1#1 ↔ t % 1 + 1 = 1)
    (hn : n.val = 256 * t + r)
    (hB0 : ∀ (r' : Fin 256) (n' : Fin 1024) α, t % 1 ≠ 0 → n'.val + 256 = 256 * t + r' → at2 .f32 x0 r' α = X n' α)
    (hB1 : ∀ (r' : Fin 256) (n' : Fin 1024) α, n'.val = 256 * t + r' → at2 .f32 x1 r' α = X n' α)
    (hB2 : ∀ (r' : Fin 256) (n' : Fin 1024) α, n'.val = 256 * t + 256 + r' → at2 .f32 x2 r' α = X n' α)
    (hb : at2 .f32 x6 0 = bias) (hWm : at2 .f32 x3 = wm) (hW0 : at2 .f32 x4 = w0) (hWp : at2 .f32 x5 = wp) :
    (k0_pay1 (k0_pay3 i x1 (View.ld x0 r0_1) x6 x3 x4) (k0_pay4 i x1 (View.ld x2 r0_2)) (k0_pay5 x5) : Vec Ideal S256x4096 .bf16) (ix2 r β)
      = lrelu (convAt 256 X wm w0 wp bias n β) := by
  subst hb hWm hW0 hWp
  pointwise [k0_pay1, k0_pay2, k0_pay3, k0_pay4, k0_pay5]
  exact lrelu_of_eq rfl (conv_point (F := 256) (m1 := 255) (P := 1) t _ _ _ _ _ (at2 .f32 x0) (at2 .f32 x1) (at2 .f32 x2)
    (at2 .f32 x3) (at2 .f32 x4) (at2 .f32 x5) _ _ _ (by norm_num) (by norm_num) (by norm_num) c0 c1 r n β hn hB0 hB1 hB2 (by norm_num)
    rfl (fun _ => rfl) (fun _ => rfl) (fun _ => rfl))

variable (V : (c : Dev nD) → (b : Ref sig .tc) → Buf (Elt Ideal) ((c : Thread nD τ).loc b))

set_option maxHeartbeats 1000000 in
/-- The result array after the call: the products over three neighbouring rows of the operand, and the bias. -/
theorem conv0 (c : Dev nD) (n : Fin 1024) (β : Fin 4096) : at2 (n0 := 1024) (n1 := 4096) .bf16 ((dat0 V c).arrAt 7 cfg0.N) n β
    = lrelu (convAt 256 (at2 .f32 (V c main_v54 : Vec Ideal S1024x128 .f32))
      (at2 .f32 (V c main_v19 : Vec Ideal S128x4096 .f32)) (at2 .f32 (V c main_v34 : Vec Ideal S128x4096 .f32))
      (at2 .f32 (V c main_v49 : Vec Ideal S128x4096 .f32)) (at2 .f32 (V c main_v53 : Vec Ideal S1x4096 .f32) 0) n β) := by
  refine congrFun (a := ix2 n β) ((dat0 V c).arrAt_eq_of_covers 7 (fun y => lrelu (convAt 256 (at2 .f32 (V c main_v54 : Vec Ideal S1024x128 .f32))
      (at2 .f32 (V c main_v19 : Vec Ideal S128x4096 .f32)) (at2 .f32 (V c main_v34 : Vec Ideal S128x4096 .f32))
      (at2 .f32 (V c main_v49 : Vec Ideal S128x4096 .f32)) (at2 .f32 (V c main_v53 : Vec Ideal S1x4096 .f32) 0) (y 0) (y 1)))
    (by decide +kernel) fun t hf y => ?_)
  obtain ⟨i0, i1, i2, i3, i4, i5, i6, i7, c0, c1⟩ := idx0 t
  have ht : t.val < 4 := t.isLt
  blk_simp
  rw [after0_7]
  frame_out
  idx_vars y
  have e : (((View.whole main_v55).slice (win0_7.rect t)).emb (ix2 y0 y1)) = ix2 (n0 := 1024) (n1 := 4096) ⟨256 * t.val + y0.val, by omega⟩ y1 := by
    blk_ext [i7]
  rw [e]
  refine pay0 (grid0.coords t) (iblk0 V c 0 t) (iblk0 V c 1 t) (iblk0 V c 2 t) (iblk0 V c 3 t) (iblk0 V c 4 t) (iblk0 V c 5 t)
    (iblk0 V c 6 t) t.val _ _ _ _ _ y0 ⟨256 * t.val + y0.val, by omega⟩ y1 c0 c1 rfl
    (fun r' n' α h h' => ?_) (fun r' n' α h' => ?_) (fun r' n' α h' => ?_) (funext fun β => ?_) (funext₂ fun α β => ?_)
    (funext₂ fun α β => ?_) (funext₂ fun α β => ?_) <;> unfold at2
  · blk_ext [iblk0, i0]
  · blk_ext [iblk0, i1]
  · blk_ext [iblk0, i2]
  · blk_ext [iblk0, i6]
  · blk_ext [iblk0, i3]
  · blk_ext [iblk0, i4]
  · blk_ext [iblk0, i5]

end Cert.Proof.Reg

end
-- ==== Proof.Value.Reg1.lean ====
/-
  What the second encoder layer's call leaves in its result array: the products over three neighbouring rows.
-/
module

public import proofs.«01_k».proof.Proof.Gen.KernelIdeal.Frame.Region1
public import proofs.«01_k».proof.Proof.Value.Coords
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv
open Idealize.ShloMosaic Idealize.ShloMosaic.TcCoe Idealize.SL.Sem
open Idealize.ShloMosaic.Pipeline (Dat)

/-- Where each window's block lies, and the two tests on the point's number. -/
theorem idx1 : ∀ t : Fin cfg1.N, win1_0.index t = ![t.val - 1, 0] ∧ win1_1.index t = ![t.val, 0]
    ∧ win1_2.index t = ![min (t.val + 1) 7, 0] ∧ win1_3.index t = ![0, 0] ∧ win1_4.index t = ![0, 0]
    ∧ win1_5.index t = ![0, 0] ∧ win1_6.index t = ![0, 0] ∧ win1_7.index t = ![t.val, 0]
    ∧ (Scalar.cmpi .eq (Scalar.remsi (BitVec.ofNat 32 ↑(grid1.coords t 0)) 2#32) 0#32 = 1#1 ↔ t.val % 2 = 0)
    ∧ (Scalar.cmpi .eq (Scalar.remsi (BitVec.ofNat 32 ↑(grid1.coords t 0)) 2#32) 1#32 = 1#1 ↔ t.val % 2 + 1 = 2) :=
  (by decide +kernel : ∀ t : Fin grid1.N, _)

set_option maxHeartbeats 1000000 in
/-- What the body computes from its blocks, at one row and column. -/
theorem pay1 (i : grid1.Coords) (x0 x1 x2 : Vec Ideal S2048x256 .bf16) (x3 x4 x5 : Vec Ideal S256x128 .f32) (x6 : Vec Ideal S1x128 .f32)
    (t : ℕ) (X : Fin 16384 → Fin 256 → EReal) (wm w0 wp : Fin 256 → Fin 128 → EReal) (bias : Fin 128 → EReal)
    (r : Fin 2048) (n : Fin 16384) (β : Fin 128)
    (c0 : Scalar.cmpi .eq (Scalar.remsi (BitVec.ofNat 32 ↑(i 0)) 2#32) 0#32 = 1#1 ↔ t % 2 = 0)
    (c1 : Scalar.cmpi .eq (Scalar.remsi (BitVec.ofNat 32 ↑(i 0)) 2#32) 1#32 = 1#1 ↔ t % 2 + 1 = 2)
    (hn : n.val = 2048 * t + r)
    (hB0 : ∀ (r' : Fin 2048) (n' : Fin 16384) α, t % 2 ≠ 0 → n'.val + 2048 = 2048 * t + r' → at2 .bf16 x0 r' α = X n' α)
    (hB1 : ∀ (r' : Fin 2048) (n' : Fin 16384) α, n'.val = 2048 * t + r' → at2 .bf16 x1 r' α = X n' α)
    (hB2 : ∀ (r' : Fin 2048) (n' : Fin 16384) α, n'.val = 2048 * t + 2048 + r' → at2 .bf16 x2 r' α = X n' α)
    (hb : at2 .f32 x6 0 = bias) (hWm : at2 .f32 x3 = wm) (hW0 : at2 .f32 x4 = w0) (hWp : at2 .f32 x5 = wp) :
    (k1_pay1 (k1_pay2 i x1 (View.ld x0 r1_1) (View.ld x2 r1_2) x6 x3 x4 x5) : Vec Ideal S2048x128 .bf16) (ix2 r β)
      = lrelu (convAt 4096 X wm w0 wp bias n β) := by
  subst hb hWm hW0 hWp
  pointwise [k1_pay1, k1_pay2]
  exact lrelu_of_eq rfl (conv_point (F := 4096) (m1 := 2047) (P := 2) t _ _ _ _ _ (at2 .bf16 x0) (at2 .bf16 x1) (at2 .bf16 x2)
    (at2 .f32 x3) (at2 .f32 x4) (at2 .f32 x5) _ _ _ (by norm_num) (by norm_num) (by norm_num) c0 c1 r n β hn hB0 hB1 hB2 (by norm_num)
    rfl (fun _ => rfl) (fun _ => rfl) (fun _ => rfl))

variable (V : (c : Dev nD) → (b : Ref sig .tc) → Buf (Elt Ideal) ((c : Thread nD τ).loc b))

set_option maxHeartbeats 1000000 in
/-- The result array after the call: the products over three neighbouring rows of the operand, and the bias. -/
theorem conv1 (c : Dev nD) (n : Fin 16384) (β : Fin 128) : at2 (n0 := 16384) (n1 := 128) .bf16 ((dat1 V c).arrAt 7 cfg1.N) n β
    = lrelu (convAt 4096 (at2 .bf16 (V c main_v96 : Vec Ideal S16384x256 .bf16))
      (at2 .f32 (V c main_v62 : Vec Ideal S256x128 .f32)) (at2 .f32 (V c main_v83 : Vec Ideal S256x128 .f32))
      (at2 .f32 (V c main_v94 : Vec Ideal S256x128 .f32)) (at2 .f32 (V c main_v95 : Vec Ideal S1x128 .f32) 0) n β) := by
  refine congrFun (a := ix2 n β) ((dat1 V c).arrAt_eq_of_covers 7 (fun y => lrelu (convAt 4096 (at2 .bf16 (V c main_v96 : Vec Ideal S16384x256 .bf16))
      (at2 .f32 (V c main_v62 : Vec Ideal S256x128 .f32)) (at2 .f32 (V c main_v83 : Vec Ideal S256x128 .f32))
      (at2 .f32 (V c main_v94 : Vec Ideal S256x128 .f32)) (at2 .f32 (V c main_v95 : Vec Ideal S1x128 .f32) 0) (y 0) (y 1)))
    (by decide +kernel) fun t hf y => ?_)
  obtain ⟨i0, i1, i2, i3, i4, i5, i6, i7, c0, c1⟩ := idx1 t
  have ht : t.val < 8 := t.isLt
  blk_simp
  rw [after1_7]
  frame_out
  idx_vars y
  have e : (((View.whole main_v97).slice (win1_7.rect t)).emb (ix2 y0 y1)) = ix2 (n0 := 16384) (n1 := 128) ⟨2048 * t.val + y0.val, by omega⟩ y1 := by
    blk_ext [i7]
  rw [e]
  refine pay1 (grid1.coords t) (iblk1 V c 0 t) (iblk1 V c 1 t) (iblk1 V c 2 t) (iblk1 V c 3 t) (iblk1 V c 4 t) (iblk1 V c 5 t)
    (iblk1 V c 6 t) t.val _ _ _ _ _ y0 ⟨2048 * t.val + y0.val, by omega⟩ y1 c0 c1 rfl
    (fun r' n' α h h' => ?_) (fun r' n' α h' => ?_) (fun r' n' α h' => ?_) (funext fun β => ?_) (funext₂ fun α β => ?_)
    (funext₂ fun α β => ?_) (funext₂ fun α β => ?_) <;> unfold at2
  · blk_ext [iblk1, i0]
  · blk_ext [iblk1, i1]
  · blk_ext [iblk1, i2]
  · blk_ext [iblk1, i6]
  · blk_ext [iblk1, i3]
  · blk_ext [iblk1, i4]
  · blk_ext [iblk1, i5]

end Cert.Proof.Reg

end
-- ==== Proof.Value.Reg2.lean ====
/-
  What the third encoder layer's call leaves in its result array: the products over three neighbouring rows.
-/
module

public import proofs.«01_k».proof.Proof.Gen.KernelIdeal.Frame.Region2
public import proofs.«01_k».proof.Proof.Value.Coords
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv
open Idealize.ShloMosaic Idealize.ShloMosaic.TcCoe Idealize.SL.Sem
open Idealize.ShloMosaic.Pipeline (Dat)

/-- Where each window's block lies, and the two tests on the point's number. -/
theorem idx2 : ∀ t : Fin cfg2.N, win2_0.index t = ![t.val - 1, 0] ∧ win2_1.index t = ![t.val, 0]
    ∧ win2_2.index t = ![min (t.val + 1) 3, 0] ∧ win2_3.index t = ![0, 0] ∧ win2_4.index t = ![0, 0]
    ∧ win2_5.index t = ![0, 0] ∧ win2_6.index t = ![0, 0] ∧ win2_7.index t = ![t.val, 0]
    ∧ (Scalar.cmpi .eq (Scalar.remsi (BitVec.ofNat 32 ↑(grid2.coords t 0)) 1#32) 0#32 = 1#1 ↔ t.val % 1 = 0)
    ∧ (Scalar.cmpi .eq (Scalar.remsi (BitVec.ofNat 32 ↑(grid2.coords t 0)) 1#32) 0#32 = 1#1 ↔ t.val % 1 + 1 = 1) :=
  (by decide +kernel : ∀ t : Fin grid2.N, _)

set_option maxHeartbeats 1000000 in
/-- What the body computes from its blocks, at one row and column. -/
theorem pay2 (i : grid2.Coords) (x0 x1 x2 : Vec Ideal S1024x512 .bf16) (x3 x4 x5 : Vec Ideal S512x256 .f32) (x6 : Vec Ideal S1x256 .f32)
    (t : ℕ) (X : Fin 4096 → Fin 512 → EReal) (wm w0 wp : Fin 512 → Fin 256 → EReal) (bias : Fin 256 → EReal)
    (r : Fin 1024) (n : Fin 4096) (β : Fin 256)
    (c0 : Scalar.cmpi .eq (Scalar.remsi (BitVec.ofNat 32 ↑(i 0)) 1#32) 0#32 = 1#1 ↔ t % 1 = 0)
    (c1 : Scalar.cmpi .eq (Scalar.remsi (BitVec.ofNat 32 ↑(i 0)) 1#32) 0#32 = 1#1 ↔ t % 1 + 1 = 1)
    (hn : n.val = 1024 * t + r)
    (hB0 : ∀ (r' : Fin 1024) (n' : Fin 4096) α, t % 1 ≠ 0 → n'.val + 1024 = 1024 * t + r' → at2 .bf16 x0 r' α = X n' α)
    (hB1 : ∀ (r' : Fin 1024) (n' : Fin 4096) α, n'.val = 1024 * t + r' → at2 .bf16 x1 r' α = X n' α)
    (hB2 : ∀ (r' : Fin 1024) (n' : Fin 4096) α, n'.val = 1024 * t + 1024 + r' → at2 .bf16 x2 r' α = X n' α)
    (hb : at2 .f32 x6 0 = bias) (hWm : at2 .f32 x3 = wm) (hW0 : at2 .f32 x4 = w0) (hWp : at2 .f32 x5 = wp) :
    (k2_pay1 (k2_pay2 i x1 (View.ld x0 r2_1) (View.ld x2 r2_2) x6 x3 x4 x5) : Vec Ideal S1024x256 .bf16) (ix2 r β)
      = lrelu (convAt 1024 X wm w0 wp bias n β) := by
  subst hb hWm hW0 hWp
  pointwise [k2_pay1, k2_pay2]
  exact lrelu_of_eq rfl (conv_point (F := 1024) (m1 := 1023) (P := 1) t _ _ _ _ _ (at2 .bf16 x0) (at2 .bf16 x1) (at2 .bf16 x2)
    (at2 .f32 x3) (at2 .f32 x4) (at2 .f32 x5) _ _ _ (by norm_num) (by norm_num) (by norm_num) c0 c1 r n β hn hB0 hB1 hB2 (by norm_num)
    rfl (fun _ => rfl) (fun _ => rfl) (fun _ => rfl))

variable (V : (c : Dev nD) → (b : Ref sig .tc) → Buf (Elt Ideal) ((c : Thread nD τ).loc b))

set_option maxHeartbeats 1000000 in
/-- The result array after the call: the products over three neighbouring rows of the operand, and the bias. -/
theorem conv2 (c : Dev nD) (n : Fin 4096) (β : Fin 256) : at2 (n0 := 4096) (n1 := 256) .bf16 ((dat2 V c).arrAt 7 cfg2.N) n β
    = lrelu (convAt 1024 (at2 .bf16 (V c main_v138 : Vec Ideal S4096x512 .bf16))
      (at2 .f32 (V c main_v104 : Vec Ideal S512x256 .f32)) (at2 .f32 (V c main_v125 : Vec Ideal S512x256 .f32))
      (at2 .f32 (V c main_v136 : Vec Ideal S512x256 .f32)) (at2 .f32 (V c main_v137 : Vec Ideal S1x256 .f32) 0) n β) := by
  refine congrFun (a := ix2 n β) ((dat2 V c).arrAt_eq_of_covers 7 (fun y => lrelu (convAt 1024 (at2 .bf16 (V c main_v138 : Vec Ideal S4096x512 .bf16))
      (at2 .f32 (V c main_v104 : Vec Ideal S512x256 .f32)) (at2 .f32 (V c main_v125 : Vec Ideal S512x256 .f32))
      (at2 .f32 (V c main_v136 : Vec Ideal S512x256 .f32)) (at2 .f32 (V c main_v137 : Vec Ideal S1x256 .f32) 0) (y 0) (y 1)))
    (by decide +kernel) fun t hf y => ?_)
  obtain ⟨i0, i1, i2, i3, i4, i5, i6, i7, c0, c1⟩ := idx2 t
  have ht : t.val < 4 := t.isLt
  blk_simp
  rw [after2_7]
  frame_out
  idx_vars y
  have e : (((View.whole main_v139).slice (win2_7.rect t)).emb (ix2 y0 y1)) = ix2 (n0 := 4096) (n1 := 256) ⟨1024 * t.val + y0.val, by omega⟩ y1 := by
    blk_ext [i7]
  rw [e]
  refine pay2 (grid2.coords t) (iblk2 V c 0 t) (iblk2 V c 1 t) (iblk2 V c 2 t) (iblk2 V c 3 t) (iblk2 V c 4 t) (iblk2 V c 5 t)
    (iblk2 V c 6 t) t.val _ _ _ _ _ y0 ⟨1024 * t.val + y0.val, by omega⟩ y1 c0 c1 rfl
    (fun r' n' α h h' => ?_) (fun r' n' α h' => ?_) (fun r' n' α h' => ?_) (funext fun β => ?_) (funext₂ fun α β => ?_)
    (funext₂ fun α β => ?_) (funext₂ fun α β => ?_) <;> unfold at2
  · blk_ext [iblk2, i0]
  · blk_ext [iblk2, i1]
  · blk_ext [iblk2, i2]
  · blk_ext [iblk2, i6]
  · blk_ext [iblk2, i3]
  · blk_ext [iblk2, i4]
  · blk_ext [iblk2, i5]

end Cert.Proof.Reg

end
-- ==== Proof.Value.Reg3.lean ====
/-
  What the fourth encoder layer's call leaves in its result array: the products over three neighbouring rows.
-/
module

public import proofs.«01_k».proof.Proof.Gen.KernelIdeal.Frame.Region3
public import proofs.«01_k».proof.Proof.Value.Coords
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv
open Idealize.ShloMosaic Idealize.ShloMosaic.TcCoe Idealize.SL.Sem
open Idealize.ShloMosaic.Pipeline (Dat)

/-- Where each window's block lies, and the two tests on the point's number. -/
theorem idx3 : ∀ t : Fin cfg3.N, win3_0.index t = ![t.val - 1, 0] ∧ win3_1.index t = ![t.val, 0]
    ∧ win3_2.index t = ![min (t.val + 1) 3, 0] ∧ win3_3.index t = ![0, 0] ∧ win3_4.index t = ![0, 0]
    ∧ win3_5.index t = ![0, 0] ∧ win3_6.index t = ![0, 0] ∧ win3_7.index t = ![t.val, 0]
    ∧ (Scalar.cmpi .eq (Scalar.remsi (BitVec.ofNat 32 ↑(grid3.coords t 0)) 1#32) 0#32 = 1#1 ↔ t.val % 1 = 0)
    ∧ (Scalar.cmpi .eq (Scalar.remsi (BitVec.ofNat 32 ↑(grid3.coords t 0)) 1#32) 0#32 = 1#1 ↔ t.val % 1 + 1 = 1) :=
  (by decide +kernel : ∀ t : Fin grid3.N, _)

set_option maxHeartbeats 1000000 in
/-- What the body computes from its blocks, at one row and column. -/
theorem pay3 (i : grid3.Coords) (x0 x1 x2 : Vec Ideal S256x1024 .bf16) (x3 x4 x5 : Vec Ideal S1024x512 .f32) (x6 : Vec Ideal S1x512 .f32)
    (t : ℕ) (X : Fin 1024 → Fin 1024 → EReal) (wm w0 wp : Fin 1024 → Fin 512 → EReal) (bias : Fin 512 → EReal)
    (r : Fin 256) (n : Fin 1024) (β : Fin 512)
    (c0 : Scalar.cmpi .eq (Scalar.remsi (BitVec.ofNat 32 ↑(i 0)) 1#32) 0#32 = 1#1 ↔ t % 1 = 0)
    (c1 : Scalar.cmpi .eq (Scalar.remsi (BitVec.ofNat 32 ↑(i 0)) 1#32) 0#32 = 1#1 ↔ t % 1 + 1 = 1)
    (hn : n.val = 256 * t + r)
    (hB0 : ∀ (r' : Fin 256) (n' : Fin 1024) α, t % 1 ≠ 0 → n'.val + 256 = 256 * t + r' → at2 .bf16 x0 r' α = X n' α)
    (hB1 : ∀ (r' : Fin 256) (n' : Fin 1024) α, n'.val = 256 * t + r' → at2 .bf16 x1 r' α = X n' α)
    (hB2 : ∀ (r' : Fin 256) (n' : Fin 1024) α, n'.val = 256 * t + 256 + r' → at2 .bf16 x2 r' α = X n' α)
    (hb : at2 .f32 x6 0 = bias) (hWm : at2 .f32 x3 = wm) (hW0 : at2 .f32 x4 = w0) (hWp : at2 .f32 x5 = wp) :
    (k3_pay1 i x1 (View.ld x0 r3_1) (View.ld x2 r3_2) x6 x3 x4 x5 : Vec Ideal S256x512 .f32) (ix2 r β)
      = convAt 256 X wm w0 wp bias n β := by
  subst hb hWm hW0 hWp
  pointwise [k3_pay1]
  exact conv_point (F := 256) (m1 := 255) (P := 1) t _ _ _ _ _ (at2 .bf16 x0) (at2 .bf16 x1) (at2 .bf16 x2)
    (at2 .f32 x3) (at2 .f32 x4) (at2 .f32 x5) _ _ _ (by norm_num) (by norm_num) (by norm_num) c0 c1 r n β hn hB0 hB1 hB2 (by norm_num)
    rfl (fun _ => rfl) (fun _ => rfl) (fun _ => rfl)

variable (V : (c : Dev nD) → (b : Ref sig .tc) → Buf (Elt Ideal) ((c : Thread nD τ).loc b))

set_option maxHeartbeats 1000000 in
/-- The result array after the call: the products over three neighbouring rows of the operand, and the bias. -/
theorem conv3 (c : Dev nD) (n : Fin 1024) (β : Fin 512) : at2 (n0 := 1024) (n1 := 512) .f32 ((dat3 V c).arrAt 7 cfg3.N) n β
    = convAt 256 (at2 .bf16 (V c main_v180 : Vec Ideal S1024x1024 .bf16))
      (at2 .f32 (V c main_v146 : Vec Ideal S1024x512 .f32)) (at2 .f32 (V c main_v167 : Vec Ideal S1024x512 .f32))
      (at2 .f32 (V c main_v178 : Vec Ideal S1024x512 .f32)) (at2 .f32 (V c main_v179 : Vec Ideal S1x512 .f32) 0) n β := by
  refine congrFun (a := ix2 n β) ((dat3 V c).arrAt_eq_of_covers 7 (fun y => convAt 256 (at2 .bf16 (V c main_v180 : Vec Ideal S1024x1024 .bf16))
      (at2 .f32 (V c main_v146 : Vec Ideal S1024x512 .f32)) (at2 .f32 (V c main_v167 : Vec Ideal S1024x512 .f32))
      (at2 .f32 (V c main_v178 : Vec Ideal S1024x512 .f32)) (at2 .f32 (V c main_v179 : Vec Ideal S1x512 .f32) 0) (y 0) (y 1))
    (by decide +kernel) fun t hf y => ?_)
  obtain ⟨i0, i1, i2, i3, i4, i5, i6, i7, c0, c1⟩ := idx3 t
  have ht : t.val < 4 := t.isLt
  blk_simp
  rw [after3_7]
  frame_out
  idx_vars y
  have e : (((View.whole main_v181).slice (win3_7.rect t)).emb (ix2 y0 y1)) = ix2 (n0 := 1024) (n1 := 512) ⟨256 * t.val + y0.val, by omega⟩ y1 := by
    blk_ext [i7]
  rw [e]
  refine pay3 (grid3.coords t) (iblk3 V c 0 t) (iblk3 V c 1 t) (iblk3 V c 2 t) (iblk3 V c 3 t) (iblk3 V c 4 t) (iblk3 V c 5 t)
    (iblk3 V c 6 t) t.val _ _ _ _ _ y0 ⟨256 * t.val + y0.val, by omega⟩ y1 c0 c1 rfl
    (fun r' n' α h h' => ?_) (fun r' n' α h' => ?_) (fun r' n' α h' => ?_) (funext fun β => ?_) (funext₂ fun α β => ?_)
    (funext₂ fun α β => ?_) (funext₂ fun α β => ?_) <;> unfold at2
  · blk_ext [iblk3, i0]
  · blk_ext [iblk3, i1]
  · blk_ext [iblk3, i2]
  · blk_ext [iblk3, i6]
  · blk_ext [iblk3, i3]
  · blk_ext [iblk3, i4]
  · blk_ext [iblk3, i5]

end Cert.Proof.Reg

end
-- ==== Proof.Value.Place.lean ====
/-
  Matrices filled block by block: what a scatter that sets one block of rows or columns leaves, and that a zero
  matrix whose blocks are set to the taps of a convolution's weight holds those taps.
-/
module

public import proofs.«01_k».proof.Proof.Value.Coords
public import Idealize.ShloMosaic.Lib.Routing.OpsSet
public import Idealize.ShloMosaic.Lib.Pointwise.IndexBridge

@[expose] public section

noncomputable section

namespace Cert.Proof.Place

open Cert.Proof.Taps Cert.Proof.Conv Idealize.ShloMosaic Idealize.ShloMosaic.Routing

/-- The matrix holds tap `κ j` on each block `j` of the list, and zero elsewhere; `q` is the block an entry lies in and
    `v` the entry's weights. -/
def Placed {D O : ℕ} (q : Fin D → Fin O → ℕ) (v : Fin D → Fin O → Fin 7 → EReal) (κ : ℕ → ℤ) (s : List ℕ)
    (M : Fin D → Fin O → EReal) : Prop :=
  ∀ α β, M α β = if q α β ∈ s then wsel (v α β) (κ (q α β)) else 0

/-- A matrix of zeros, with no block set yet. -/
theorem placed_zero {D O : ℕ} {q : Fin D → Fin O → ℕ} {v : Fin D → Fin O → Fin 7 → EReal} {κ : ℕ → ℤ}
    {M : Fin D → Fin O → EReal} (h : ∀ α β, M α β = 0) : Placed q v κ [] M :=
  fun α β => (h α β).trans (if_neg (by simp)).symm

/-- Setting one more block to its tap. -/
theorem placed_set {D O : ℕ} {q : Fin D → Fin O → ℕ} {v : Fin D → Fin O → Fin 7 → EReal} {κ : ℕ → ℤ} {s : List ℕ}
    {M M' : Fin D → Fin O → EReal} (j : ℕ) (k : Fin 7) (hk : κ j = (k : ℕ)) (hM : Placed q v κ s M)
    (h : ∀ α β, M' α β = if q α β = j then v α β k else M α β) : Placed q v κ (j :: s) M' := by
  intro α β
  rw [h]
  by_cases e : q α β = j
  · rw [if_pos e, if_pos (by simp [e]), e, wsel_eq _ k _ hk]
  · rw [if_neg e, hM]
    simp only [List.mem_cons, e, false_or]

/-- When the blocks left out have no tap, the matrix holds the taps. -/
theorem placed_all {D O : ℕ} {q : Fin D → Fin O → ℕ} {v : Fin D → Fin O → Fin 7 → EReal} {κ : ℕ → ℤ} {s : List ℕ}
    {M : Fin D → Fin O → EReal} (hM : Placed q v κ s M) (h : ∀ α β, q α β ∉ s → κ (q α β) < 0 ∨ 7 ≤ κ (q α β)) (α : Fin D) (β : Fin O) :
    M α β = wsel (v α β) (κ (q α β)) := by
  rw [hM]
  by_cases e : q α β ∈ s
  · rw [if_pos e]
  · rw [if_neg e, wsel_zero]
    intro k hk
    have := k.isLt
    have := h α β e
    omega

variable {α : Type}

/-- Where a block update of a matrix along one axis starts, and its coordinates within the block. -/
theorem start_window {R C A B w : ℕ} (d : ScatterDims (shape2 R C) (shape1 1) (shape2 A B)) (a : Fin 2)
    (hu : d.updateWindowDims = [0, 1]) (hi : d.insertedWindowDims = []) (hs : d.scatterDimsToOperandDims = [a])
    (hv : d.indexVectorDim = 0) (idx : IVec (shape1 1) w) (k : (shape2 A B).Idx) (b : Fin 2) :
    d.start k idx b = (if b = a then (idx (ix1 (0 : Fin 1))).toInt else 0) ∧ d.window k b = (k b : ℕ) := by
  obtain ⟨_, _, _, _, wf⟩ := d
  dsimp only at hu hi hs hv
  subst hu hi hs hv
  constructor
  · unfold ScatterDims.start
    by_cases e : b = a
    · rw [dif_pos (by simp [e]), if_pos e]
      congr 2
      funext z
      fin_cases z
      exact Subsingleton.elim (α := Fin 1) _ _
    · rw [dif_neg (by simp [e]), if_neg e]
  · fin_cases b <;> rfl

/-- A scatter that sets one block of rows, read at an index. -/
theorem set_rows {R C A w : ℕ} (d : ScatterDims (shape2 R C) (shape1 1) (shape2 A C))
    (hu : d.updateWindowDims = [0, 1]) (hi : d.insertedWindowDims = []) (hs : d.scatterDimsToOperandDims = [0])
    (hv : d.indexVectorDim = 0) (hA : 0 < A) (x : (shape2 R C).Idx → α) (idx : IVec (shape1 1) w) (u : (shape2 A C).Idx → α)
    (j : ℕ) (hj : (idx (ix1 (0 : Fin 1))).toInt = (j * A : ℕ)) (r : Fin R) (c : Fin C) :
    Host.scatter d (fun _ b => b) x idx u (ix2 r c)
      = if (r : ℕ) / A = j then u (ix2 ⟨r % A, Nat.mod_lt _ hA⟩ c) else x (ix2 r c) := by
  have hl : ∀ k : (shape2 A C).Idx, d.resultIdx? k idx = some (ix2 r c) ↔ j * A + (k 0 : ℕ) = r ∧ (k 1 : ℕ) = c := by
    intro k
    rw [ix2_eq_valueIdx, resultIdx?_ix2, (start_window d 0 hu hi hs hv idx k 0).1, (start_window d 0 hu hi hs hv idx k 0).2,
      (start_window d 0 hu hi hs hv idx k 1).1, (start_window d 0 hu hi hs hv idx k 1).2, if_pos rfl, if_neg (by decide), hj]
    constructor
    · rintro ⟨h, h'⟩; constructor <;> [exact_mod_cast h; omega]
    · rintro ⟨h, h'⟩; constructor <;> [exact_mod_cast h; omega]
  have hd : A * ((r : ℕ) / A) + r % A = r := Nat.div_add_mod _ _
  by_cases e : (r : ℕ) / A = j
  · rw [if_pos e]
    refine scatter_set_hit d x idx u _ _ (fun k hk => ?_) (ix2 ⟨r % A, Nat.mod_lt _ hA⟩ c) ((hl _).mpr ⟨?_, rfl⟩)
    · have := (hl k).mp hk
      congr 1
      funext b
      fin_cases b
      · refine Fin.ext ?_
        show (k 0 : ℕ) = r % A
        rw [← this.1, add_comm, Nat.add_mul_mod_self_right, Nat.mod_eq_of_lt (show (k 0 : ℕ) < A from (k 0).isLt)]
      · exact Fin.ext this.2
    · show j * A + r % A = r
      rw [← e, mul_comm]; exact hd
  · rw [if_neg e]
    refine scatter_set_miss d x idx u _ fun k hk => e ?_
    have := (hl k).mp hk
    rw [← this.1, add_comm, Nat.add_mul_div_right _ _ hA, Nat.div_eq_of_lt (show (k 0 : ℕ) < A from (k 0).isLt), zero_add]

/-- A scatter that sets one block of columns, read at an index. -/
theorem set_cols {R C A w : ℕ} (d : ScatterDims (shape2 R C) (shape1 1) (shape2 R A))
    (hu : d.updateWindowDims = [0, 1]) (hi : d.insertedWindowDims = []) (hs : d.scatterDimsToOperandDims = [1])
    (hv : d.indexVectorDim = 0) (hA : 0 < A) (x : (shape2 R C).Idx → α) (idx : IVec (shape1 1) w) (u : (shape2 R A).Idx → α)
    (j : ℕ) (hj : (idx (ix1 (0 : Fin 1))).toInt = (j * A : ℕ)) (r : Fin R) (c : Fin C) :
    Host.scatter d (fun _ b => b) x idx u (ix2 r c)
      = if (c : ℕ) / A = j then u (ix2 r ⟨c % A, Nat.mod_lt _ hA⟩) else x (ix2 r c) := by
  have hl : ∀ k : (shape2 R A).Idx, d.resultIdx? k idx = some (ix2 r c) ↔ (k 0 : ℕ) = r ∧ j * A + (k 1 : ℕ) = c := by
    intro k
    rw [ix2_eq_valueIdx, resultIdx?_ix2, (start_window d 1 hu hi hs hv idx k 0).1, (start_window d 1 hu hi hs hv idx k 0).2,
      (start_window d 1 hu hi hs hv idx k 1).1, (start_window d 1 hu hi hs hv idx k 1).2, if_neg (by decide), if_pos rfl, hj]
    constructor
    · rintro ⟨h, h'⟩; constructor <;> [omega; exact_mod_cast h']
    · rintro ⟨h, h'⟩; constructor <;> [omega; exact_mod_cast h']
  have hd : A * ((c : ℕ) / A) + c % A = c := Nat.div_add_mod _ _
  by_cases e : (c : ℕ) / A = j
  · rw [if_pos e]
    refine scatter_set_hit d x idx u _ _ (fun k hk => ?_) (ix2 r ⟨c % A, Nat.mod_lt _ hA⟩) ((hl _).mpr ⟨rfl, ?_⟩)
    · have := (hl k).mp hk
      congr 1
      funext b
      fin_cases b
      · exact Fin.ext this.1
      · refine Fin.ext ?_
        show (k 1 : ℕ) = c % A
        rw [← this.2, add_comm, Nat.add_mul_mod_self_right, Nat.mod_eq_of_lt (show (k 1 : ℕ) < A from (k 1).isLt)]
    · show j * A + c % A = c
      rw [← e, mul_comm]; exact hd
  · rw [if_neg e]
    refine scatter_set_miss d x idx u _ fun k hk => e ?_
    have := (hl k).mp hk
    rw [← this.2, add_comm, Nat.add_mul_div_right _ _ hA, Nat.div_eq_of_lt (show (k 1 : ℕ) < A from (k 1).isLt), zero_add]

/-- Setting a block of rows to the transpose of one tap's weights. -/
theorem put_rows {R C O w : ℕ} (d : ScatterDims (shape2 R O) (shape1 1) (shape2 C O))
    (hu : d.updateWindowDims = [0, 1]) (hi : d.insertedWindowDims = []) (hs : d.scatterDimsToOperandDims = [0])
    (hv : d.indexVectorDim = 0) (hC : 0 < C) (hO : 0 < O) (v : FVec Ideal ⟨3, ![O, C, 7]⟩ .f32) {κ : ℕ → ℤ} {s : List ℕ}
    {x : FVec Ideal (shape2 R O) .f32} {idx : IVec (shape1 1) w} {u : FVec Ideal (shape2 C O) .f32} (j : ℕ) (k : Fin 7)
    (hk : κ j = (k : ℕ)) (hj : (idx (ix1 (0 : Fin 1))).toInt = (j * C : ℕ)) (hw : ∀ c o, u (ix2 c o) = v (ix3 o c k))
    (hx : Placed (fun α _ => (α : ℕ) / C) (fun α β => at3 v ⟨β % O, Nat.mod_lt _ hO⟩ ⟨α % C, Nat.mod_lt _ hC⟩) κ s (at2 .f32 x)) :
    Placed (fun α _ => (α : ℕ) / C) (fun α β => at3 v ⟨β % O, Nat.mod_lt _ hO⟩ ⟨α % C, Nat.mod_lt _ hC⟩) κ (j :: s)
      (at2 .f32 (Host.scatter d (fun _ b => b) x idx u)) := by
  refine placed_set j k hk hx fun α β => ?_
  have e : (⟨(β : ℕ) % O, Nat.mod_lt _ hO⟩ : Fin O) = β := Fin.ext (Nat.mod_eq_of_lt β.isLt)
  unfold at2
  rw [set_rows d hu hi hs hv hC x idx u j hj, hw]
  simp only [at3, e]

/-- Setting a block of columns to the transpose of one tap's weights. -/
theorem put_cols {R C O w : ℕ} (d : ScatterDims (shape2 C R) (shape1 1) (shape2 C O))
    (hu : d.updateWindowDims = [0, 1]) (hi : d.insertedWindowDims = []) (hs : d.scatterDimsToOperandDims = [1])
    (hv : d.indexVectorDim = 0) (hC : 0 < C) (hO : 0 < O) (v : FVec Ideal ⟨3, ![O, C, 7]⟩ .f32) {κ : ℕ → ℤ} {s : List ℕ}
    {x : FVec Ideal (shape2 C R) .f32} {idx : IVec (shape1 1) w} {u : FVec Ideal (shape2 C O) .f32} (j : ℕ) (k : Fin 7)
    (hk : κ j = (k : ℕ)) (hj : (idx (ix1 (0 : Fin 1))).toInt = (j * O : ℕ)) (hw : ∀ c o, u (ix2 c o) = v (ix3 o c k))
    (hx : Placed (fun _ β => (β : ℕ) / O) (fun α β => at3 v ⟨β % O, Nat.mod_lt _ hO⟩ ⟨α % C, Nat.mod_lt _ hC⟩) κ s (at2 .f32 x)) :
    Placed (fun _ β => (β : ℕ) / O) (fun α β => at3 v ⟨β % O, Nat.mod_lt _ hO⟩ ⟨α % C, Nat.mod_lt _ hC⟩) κ (j :: s)
      (at2 .f32 (Host.scatter d (fun _ b => b) x idx u)) := by
  refine placed_set j k hk hx fun α β => ?_
  have e : (⟨(α : ℕ) % C, Nat.mod_lt _ hC⟩ : Fin C) = α := Fin.ext (Nat.mod_eq_of_lt α.isLt)
  unfold at2
  rw [set_cols d hu hi hs hv hO x idx u j hj, hw]
  simp only [at3, e]

/-- The three matrices whose blocks of rows are set to the taps 0; 1 to 4; 5 and 6. -/
theorem enc_mats {R C O w : ℕ} (D : ScatterDims (shape2 R O) (shape1 1) (shape2 C O))
    (hu : D.updateWindowDims = [0, 1]) (hi : D.insertedWindowDims = []) (hs : D.scatterDimsToOperandDims = [0])
    (hv : D.indexVectorDim = 0) (hR : R = 4 * C) (hC : 0 < C) (hO : 0 < O) (v : FVec Ideal ⟨3, ![O, C, 7]⟩ .f32)
    (z : FVec Ideal (shape2 R O) .f32) (i0 i1 i2 i3 : IVec (shape1 1) w) (u0 u1 u2 u3 u4 u5 u6 : FVec Ideal (shape2 C O) .f32)
    (hz : ∀ a b, at2 .f32 z a b = 0) (h0 : (i0 (ix1 (0 : Fin 1))).toInt = (0 * C : ℕ)) (h1 : (i1 (ix1 (0 : Fin 1))).toInt = (1 * C : ℕ)) (h2 : (i2 (ix1 (0 : Fin 1))).toInt = (2 * C : ℕ)) (h3 : (i3 (ix1 (0 : Fin 1))).toInt = (3 * C : ℕ))
    (w0 : ∀ c o, u0 (ix2 c o) = v (ix3 o c 0)) (w1 : ∀ c o, u1 (ix2 c o) = v (ix3 o c 1)) (w2 : ∀ c o, u2 (ix2 c o) = v (ix3 o c 2)) (w3 : ∀ c o, u3 (ix2 c o) = v (ix3 o c 3)) (w4 : ∀ c o, u4 (ix2 c o) = v (ix3 o c 4)) (w5 : ∀ c o, u5 (ix2 c o) = v (ix3 o c 5)) (w6 : ∀ c o, u6 (ix2 c o) = v (ix3 o c 6))
    (d : Fin 3) (α : Fin R) (β : Fin O) :
    (![at2 .f32 (Host.scatter D (fun _ b => b) z i3 u0), at2 .f32 (Host.scatter D (fun _ b => b) (Host.scatter D (fun _ b => b) (Host.scatter D (fun _ b => b) (Host.scatter D (fun _ b => b) z i0 u1) i1 u2) i2 u3) i3 u4),
       at2 .f32 (Host.scatter D (fun _ b => b) (Host.scatter D (fun _ b => b) z i0 u5) i1 u6)] : Fin 3 → Fin R → Fin O → EReal) d α β
      = wsel (at3 v ⟨β % O, Nat.mod_lt _ hO⟩ ⟨α % C, Nat.mod_lt _ hC⟩)
          (1 * (4 * (((d : ℕ) : ℤ) - 1) + (((α : ℕ) / C : ℕ) : ℤ)) - 4 * (((β : ℕ) / O : ℕ) : ℤ) + 1) := by
  have hβ : (β : ℕ) / O = 0 := Nat.div_eq_of_lt β.isLt
  rw [hβ]
  have P : ∀ {κ : ℕ → ℤ} {s : List ℕ} {x : FVec Ideal (shape2 R O) .f32} (u : FVec Ideal (shape2 C O) .f32) (i : IVec (shape1 1) w)
      (j : ℕ) (k : Fin 7), (i (ix1 (0 : Fin 1))).toInt = (j * C : ℕ) → (∀ c o, u (ix2 c o) = v (ix3 o c k)) → κ j = (k : ℕ) →
      Placed (fun (α : Fin R) (_ : Fin O) => (α : ℕ) / C) (fun (α : Fin R) (β : Fin O) => at3 v ⟨β % O, Nat.mod_lt _ hO⟩ ⟨α % C, Nat.mod_lt _ hC⟩) κ s (at2 .f32 x) →
      Placed (fun (α : Fin R) (_ : Fin O) => (α : ℕ) / C) (fun (α : Fin R) (β : Fin O) => at3 v ⟨β % O, Nat.mod_lt _ hO⟩ ⟨α % C, Nat.mod_lt _ hC⟩) κ (j :: s) (at2 .f32 (Host.scatter D (fun _ b => b) x i u)) :=
    fun u i j k hj hw hk hx => put_rows D hu hi hs hv hC hO v j k hk hj hw hx
  fin_cases d
  · refine placed_all (κ := fun j => 1 * (4 * (((0 : ℕ) : ℤ) - 1) + ((j : ℕ) : ℤ)) - 4 * ((0 : ℕ) : ℤ) + 1)
      (P u0 i3 3 0 h3 w0 (by norm_num) (placed_zero hz)) (fun α β h => ?_) α β
    have := Nat.div_lt_of_lt_mul (show (α : ℕ) < C * 4 by have := α.isLt; omega)
    generalize (α : ℕ) / C = j at this h ⊢
    simp at h
    omega
  · refine placed_all (κ := fun j => 1 * (4 * (((1 : ℕ) : ℤ) - 1) + ((j : ℕ) : ℤ)) - 4 * ((0 : ℕ) : ℤ) + 1)
      (P u4 i3 3 4 h3 w4 (by norm_num) (P u3 i2 2 3 h2 w3 (by norm_num) (P u2 i1 1 2 h1 w2 (by norm_num) (P u1 i0 0 1 h0 w1 (by norm_num) (placed_zero hz))))) (fun α β h => ?_) α β
    have := Nat.div_lt_of_lt_mul (show (α : ℕ) < C * 4 by have := α.isLt; omega)
    generalize (α : ℕ) / C = j at this h ⊢
    simp at h
    omega
  · refine placed_all (κ := fun j => 1 * (4 * (((2 : ℕ) : ℤ) - 1) + ((j : ℕ) : ℤ)) - 4 * ((0 : ℕ) : ℤ) + 1)
      (P u6 i1 1 6 h1 w6 (by norm_num) (P u5 i0 0 5 h0 w5 (by norm_num) (placed_zero hz))) (fun α β h => ?_) α β
    have := Nat.div_lt_of_lt_mul (show (α : ℕ) < C * 4 by have := α.isLt; omega)
    generalize (α : ℕ) / C = j at this h ⊢
    simp at h
    omega

/-- The three matrices whose blocks of columns are set to the taps 1 and 0; 5, 4, 3 and 2; 6. -/
theorem dec_mats {R C O w : ℕ} (D : ScatterDims (shape2 C R) (shape1 1) (shape2 C O))
    (hu : D.updateWindowDims = [0, 1]) (hi : D.insertedWindowDims = []) (hs : D.scatterDimsToOperandDims = [1])
    (hv : D.indexVectorDim = 0) (hR : R = 4 * O) (hC : 0 < C) (hO : 0 < O) (v : FVec Ideal ⟨3, ![O, C, 7]⟩ .f32)
    (z : FVec Ideal (shape2 C R) .f32) (i0 i1 i2 i3 : IVec (shape1 1) w) (u0 u1 u2 u3 u4 u5 u6 : FVec Ideal (shape2 C O) .f32)
    (hz : ∀ a b, at2 .f32 z a b = 0) (h0 : (i0 (ix1 (0 : Fin 1))).toInt = (0 * O : ℕ)) (h1 : (i1 (ix1 (0 : Fin 1))).toInt = (1 * O : ℕ)) (h2 : (i2 (ix1 (0 : Fin 1))).toInt = (2 * O : ℕ)) (h3 : (i3 (ix1 (0 : Fin 1))).toInt = (3 * O : ℕ))
    (w0 : ∀ c o, u0 (ix2 c o) = v (ix3 o c 0)) (w1 : ∀ c o, u1 (ix2 c o) = v (ix3 o c 1)) (w2 : ∀ c o, u2 (ix2 c o) = v (ix3 o c 2)) (w3 : ∀ c o, u3 (ix2 c o) = v (ix3 o c 3)) (w4 : ∀ c o, u4 (ix2 c o) = v (ix3 o c 4)) (w5 : ∀ c o, u5 (ix2 c o) = v (ix3 o c 5)) (w6 : ∀ c o, u6 (ix2 c o) = v (ix3 o c 6))
    (d : Fin 3) (α : Fin C) (β : Fin R) :
    (![at2 .f32 (Host.scatter D (fun _ b => b) (Host.scatter D (fun _ b => b) z i0 u1) i1 u0), at2 .f32 (Host.scatter D (fun _ b => b) (Host.scatter D (fun _ b => b) (Host.scatter D (fun _ b => b) (Host.scatter D (fun _ b => b) z i0 u5) i1 u4) i2 u3) i3 u2),
       at2 .f32 (Host.scatter D (fun _ b => b) z i3 u6)] : Fin 3 → Fin C → Fin R → EReal) d α β
      = wsel (at3 v ⟨β % O, Nat.mod_lt _ hO⟩ ⟨α % C, Nat.mod_lt _ hC⟩)
          (4 * (1 * (((d : ℕ) : ℤ) - 1) + (((α : ℕ) / C : ℕ) : ℤ)) - 1 * (((β : ℕ) / O : ℕ) : ℤ) + 5) := by
  have hα : (α : ℕ) / C = 0 := Nat.div_eq_of_lt α.isLt
  rw [hα]
  have P : ∀ {κ : ℕ → ℤ} {s : List ℕ} {x : FVec Ideal (shape2 C R) .f32} (u : FVec Ideal (shape2 C O) .f32) (i : IVec (shape1 1) w)
      (j : ℕ) (k : Fin 7), (i (ix1 (0 : Fin 1))).toInt = (j * O : ℕ) → (∀ c o, u (ix2 c o) = v (ix3 o c k)) → κ j = (k : ℕ) →
      Placed (fun (_ : Fin C) (β : Fin R) => (β : ℕ) / O) (fun (α : Fin C) (β : Fin R) => at3 v ⟨β % O, Nat.mod_lt _ hO⟩ ⟨α % C, Nat.mod_lt _ hC⟩) κ s (at2 .f32 x) →
      Placed (fun (_ : Fin C) (β : Fin R) => (β : ℕ) / O) (fun (α : Fin C) (β : Fin R) => at3 v ⟨β % O, Nat.mod_lt _ hO⟩ ⟨α % C, Nat.mod_lt _ hC⟩) κ (j :: s) (at2 .f32 (Host.scatter D (fun _ b => b) x i u)) :=
    fun u i j k hj hw hk hx => put_cols D hu hi hs hv hC hO v j k hk hj hw hx
  fin_cases d
  · refine placed_all (κ := fun j => 4 * (1 * (((0 : ℕ) : ℤ) - 1) + ((0 : ℕ) : ℤ)) - 1 * ((j : ℕ) : ℤ) + 5)
      (P u0 i1 1 0 h1 w0 (by norm_num) (P u1 i0 0 1 h0 w1 (by norm_num) (placed_zero hz))) (fun α β h => ?_) α β
    have := Nat.div_lt_of_lt_mul (show (β : ℕ) < O * 4 by have := β.isLt; omega)
    generalize (β : ℕ) / O = j at this h ⊢
    simp at h
    omega
  · refine placed_all (κ := fun j => 4 * (1 * (((1 : ℕ) : ℤ) - 1) + ((0 : ℕ) : ℤ)) - 1 * ((j : ℕ) : ℤ) + 5)
      (P u2 i3 3 2 h3 w2 (by norm_num) (P u3 i2 2 3 h2 w3 (by norm_num) (P u4 i1 1 4 h1 w4 (by norm_num) (P u5 i0 0 5 h0 w5 (by norm_num) (placed_zero hz))))) (fun α β h => ?_) α β
    have := Nat.div_lt_of_lt_mul (show (β : ℕ) < O * 4 by have := β.isLt; omega)
    generalize (β : ℕ) / O = j at this h ⊢
    simp at h
    omega
  · refine placed_all (κ := fun j => 4 * (1 * (((2 : ℕ) : ℤ) - 1) + ((0 : ℕ) : ℤ)) - 1 * ((j : ℕ) : ℤ) + 5)
      (P u6 i3 3 6 h3 w6 (by norm_num) (placed_zero hz)) (fun α β h => ?_) α β
    have := Nat.div_lt_of_lt_mul (show (β : ℕ) < O * 4 by have := β.isLt; omega)
    generalize (β : ℕ) / O = j at this h ⊢
    simp at h
    omega

end Cert.Proof.Place

end
-- ==== Proof.Value.HostEnc.lean ====
/-
  What the kernel's program lays out before each of its second to fourth encoder calls: the three matrices of the
  weights' taps, the bias and the layer's input, read at an index.
-/
module

public import proofs.«01_k».proof.Proof.Gen.KernelIdeal.Launch
public import proofs.«01_k».proof.Proof.Value.Place
public import Idealize.ShloMosaic.Lib.StableHlo.ReadAt

@[expose] public section

set_option maxRecDepth 16384

noncomputable section

namespace Cert.Proof.Host

open Cert.KernelIdeal Cert.KernelIdeal.Gen Cert.Proof.Conv Cert.Proof.Taps Cert.Proof.Place
open Idealize.ShloMosaic Idealize.ShloMosaic.TcCoe Idealize.ShloMosaic.StableHlo Idealize.SL.Sem

variable (X : Valuation τ sig (Elt Ideal))

set_option maxHeartbeats 1000000 in
/-- The second encoder layer's three matrices hold the taps of its weights. -/
theorem w1 (d : Fin 3) (α : Fin 256) (β : Fin 128) :
    (![at2 .f32 (after hostOps1 X (main_v62 : DevRef τ sig) : Vec Ideal S256x128 .f32),
       at2 .f32 (after hostOps1 X (main_v83 : DevRef τ sig) : Vec Ideal S256x128 .f32),
       at2 .f32 (after hostOps1 X (main_v94 : DevRef τ sig) : Vec Ideal S256x128 .f32)] : Fin 3 → Fin 256 → Fin 128 → EReal) d α β
      = wsel (at3 (X (main_arg3 : DevRef τ sig) : Vec Ideal S128x64x7 .f32) ⟨β % 128, Nat.mod_lt _ (by decide)⟩ ⟨α % 64, Nat.mod_lt _ (by decide)⟩)
          (1 * (4 * (((d : ℕ) : ℤ) - 1) + (((α : ℕ) / 64 : ℕ) : ℤ)) - 4 * (((β : ℕ) / 128 : ℕ) : ℤ) + 1) := by
  after_reads_simp
  refine enc_mats _ rfl rfl rfl rfl rfl (by decide) (by decide) (X (main_arg3 : DevRef τ sig) : Vec Ideal S128x64x7 .f32) _ _ _ _ _ _ _ _ _ _ _ _
    (fun a b => ?_) ?_ ?_ ?_ ?_ (fun c o => ?_) (fun c o => ?_) (fun c o => ?_) (fun c o => ?_) (fun c o => ?_)
    (fun c o => ?_) (fun c o => ?_) d α β
  · unfold at2; pointwise
  all_goals first | (pointwise; rfl) | (pointwise; done)

/-- Its bias at a column is the bias of the column's channel. -/
theorem b1 (β : Fin 128) :
    at2 .f32 (after hostOps1 X (main_v95 : DevRef τ sig) : Vec Ideal S1x128 .f32) 0 β
      = at1 (X (main_arg4 : DevRef τ sig) : Vec Ideal S128 .f32) ⟨β % 128, Nat.mod_lt _ (by decide)⟩ := by
  after_reads_simp
  unfold at2 at1
  pointwise
  exact congrArg _ (congrArg ix1 (Fin.ext (by have := β.isLt; simp; try omega)))

/-- Its input's rows are the layer before's result in flat order. -/
theorem x1 (r : Fin 4 → Fin 64 → Fin 16384 → EReal)
    (h : ∀ n β, at2 .bf16 (X (main_v55 : DevRef τ sig) : Vec Ideal S1024x4096 .bf16) n β = lay r ((n : ℕ) * 4096 + β)) (n : Fin 16384) (α : Fin 256) :
    at2 .bf16 (after hostOps1 X (main_v96 : DevRef τ sig) : Vec Ideal S16384x256 .bf16) n α = lay r ((n : ℕ) * 256 + α) := by
  after_reads_simp
  have hn := n.isLt
  have hα := α.isLt
  unfold at2
  pointwise
  refine (h _ _).trans (congrArg (lay r) ?_)
  show _ = _
  dsimp only
  omega

set_option maxHeartbeats 1000000 in
/-- The third encoder layer's three matrices hold the taps of its weights. -/
theorem w2 (d : Fin 3) (α : Fin 512) (β : Fin 256) :
    (![at2 .f32 (after hostOps2 X (main_v104 : DevRef τ sig) : Vec Ideal S512x256 .f32),
       at2 .f32 (after hostOps2 X (main_v125 : DevRef τ sig) : Vec Ideal S512x256 .f32),
       at2 .f32 (after hostOps2 X (main_v136 : DevRef τ sig) : Vec Ideal S512x256 .f32)] : Fin 3 → Fin 512 → Fin 256 → EReal) d α β
      = wsel (at3 (X (main_arg5 : DevRef τ sig) : Vec Ideal S256x128x7 .f32) ⟨β % 256, Nat.mod_lt _ (by decide)⟩ ⟨α % 128, Nat.mod_lt _ (by decide)⟩)
          (1 * (4 * (((d : ℕ) : ℤ) - 1) + (((α : ℕ) / 128 : ℕ) : ℤ)) - 4 * (((β : ℕ) / 256 : ℕ) : ℤ) + 1) := by
  after_reads_simp
  refine enc_mats _ rfl rfl rfl rfl rfl (by decide) (by decide) (X (main_arg5 : DevRef τ sig) : Vec Ideal S256x128x7 .f32) _ _ _ _ _ _ _ _ _ _ _ _
    (fun a b => ?_) ?_ ?_ ?_ ?_ (fun c o => ?_) (fun c o => ?_) (fun c o => ?_) (fun c o => ?_) (fun c o => ?_)
    (fun c o => ?_) (fun c o => ?_) d α β
  · unfold at2; pointwise
  all_goals first | (pointwise; rfl) | (pointwise; done)

/-- Its bias at a column is the bias of the column's channel. -/
theorem b2 (β : Fin 256) :
    at2 .f32 (after hostOps2 X (main_v137 : DevRef τ sig) : Vec Ideal S1x256 .f32) 0 β
      = at1 (X (main_arg6 : DevRef τ sig) : Vec Ideal S256 .f32) ⟨β % 256, Nat.mod_lt _ (by decide)⟩ := by
  after_reads_simp
  unfold at2 at1
  pointwise
  exact congrArg _ (congrArg ix1 (Fin.ext (by have := β.isLt; simp; try omega)))

/-- Its input's rows are the layer before's result in flat order. -/
theorem x2 (r : Fin 4 → Fin 128 → Fin 4096 → EReal)
    (h : ∀ n β, at2 .bf16 (X (main_v97 : DevRef τ sig) : Vec Ideal S16384x128 .bf16) n β = lay r ((n : ℕ) * 128 + β)) (n : Fin 4096) (α : Fin 512) :
    at2 .bf16 (after hostOps2 X (main_v138 : DevRef τ sig) : Vec Ideal S4096x512 .bf16) n α = lay r ((n : ℕ) * 512 + α) := by
  after_reads_simp
  have hn := n.isLt
  have hα := α.isLt
  unfold at2
  pointwise
  refine (h _ _).trans (congrArg (lay r) ?_)
  show _ = _
  dsimp only
  omega

set_option maxHeartbeats 1000000 in
/-- The fourth encoder layer's three matrices hold the taps of its weights. -/
theorem w3 (d : Fin 3) (α : Fin 1024) (β : Fin 512) :
    (![at2 .f32 (after hostOps3 X (main_v146 : DevRef τ sig) : Vec Ideal S1024x512 .f32),
       at2 .f32 (after hostOps3 X (main_v167 : DevRef τ sig) : Vec Ideal S1024x512 .f32),
       at2 .f32 (after hostOps3 X (main_v178 : DevRef τ sig) : Vec Ideal S1024x512 .f32)] : Fin 3 → Fin 1024 → Fin 512 → EReal) d α β
      = wsel (at3 (X (main_arg7 : DevRef τ sig) : Vec Ideal S512x256x7 .f32) ⟨β % 512, Nat.mod_lt _ (by decide)⟩ ⟨α % 256, Nat.mod_lt _ (by decide)⟩)
          (1 * (4 * (((d : ℕ) : ℤ) - 1) + (((α : ℕ) / 256 : ℕ) : ℤ)) - 4 * (((β : ℕ) / 512 : ℕ) : ℤ) + 1) := by
  after_reads_simp
  refine enc_mats _ rfl rfl rfl rfl rfl (by decide) (by decide) (X (main_arg7 : DevRef τ sig) : Vec Ideal S512x256x7 .f32) _ _ _ _ _ _ _ _ _ _ _ _
    (fun a b => ?_) ?_ ?_ ?_ ?_ (fun c o => ?_) (fun c o => ?_) (fun c o => ?_) (fun c o => ?_) (fun c o => ?_)
    (fun c o => ?_) (fun c o => ?_) d α β
  · unfold at2; pointwise
  all_goals first | (pointwise; rfl) | (pointwise; done)

/-- Its bias at a column is the bias of the column's channel. -/
theorem b3 (β : Fin 512) :
    at2 .f32 (after hostOps3 X (main_v179 : DevRef τ sig) : Vec Ideal S1x512 .f32) 0 β
      = at1 (X (main_arg8 : DevRef τ sig) : Vec Ideal S512 .f32) ⟨β % 512, Nat.mod_lt _ (by decide)⟩ := by
  after_reads_simp
  unfold at2 at1
  pointwise
  exact congrArg _ (congrArg ix1 (Fin.ext (by have := β.isLt; simp; try omega)))

/-- Its input's rows are the layer before's result in flat order. -/
theorem x3 (r : Fin 4 → Fin 256 → Fin 1024 → EReal)
    (h : ∀ n β, at2 .bf16 (X (main_v139 : DevRef τ sig) : Vec Ideal S4096x256 .bf16) n β = lay r ((n : ℕ) * 256 + β)) (n : Fin 1024) (α : Fin 1024) :
    at2 .bf16 (after hostOps3 X (main_v180 : DevRef τ sig) : Vec Ideal S1024x1024 .bf16) n α = lay r ((n : ℕ) * 1024 + α) := by
  after_reads_simp
  have hn := n.isLt
  have hα := α.isLt
  unfold at2
  pointwise
  refine (h _ _).trans (congrArg (lay r) ?_)
  show _ = _
  dsimp only
  omega

end Cert.Proof.Host

end
-- ==== Proof.Value.HostEnds.lean ====
/-
  What the kernel's program lays out before its first and its last call: the three matrices of the weights' taps, made
  from tables of ones and zeros, the bias and the layer's input, read at an index.
-/
module

public import proofs.«01_k».proof.Proof.Gen.KernelIdeal.Launch
public import proofs.«01_k».proof.Proof.Value.Place
public import Idealize.ShloMosaic.Lib.StableHlo.ReadAt

@[expose] public section

set_option maxRecDepth 16384

noncomputable section

namespace Cert.Proof.Host

open Cert.KernelIdeal Cert.KernelIdeal.Gen Cert.Proof.Conv Cert.Proof.Taps Cert.Proof.Place
open Idealize.ShloMosaic Idealize.ShloMosaic.TcCoe Idealize.ShloMosaic.StableHlo Idealize.SL.Sem

variable (X : Valuation τ sig (Elt Ideal))

/-- A sum of the seven weights over a table that is one where the tap is wanted and zero elsewhere. -/
theorem table_sum (w : Fin 7 → EReal) (κ : ℤ) (t : Fin 7 → BitVec 1) (h : ∀ k, t k = 1#1 ↔ κ = (k : ℕ)) :
    ∑ k : Fin 7, FloatOps.uitofp (F := Ideal) .f32 (t k) * w k = wsel w κ := by
  have h0 : ∀ k : Fin 7, κ ≠ (k : ℕ) → FloatOps.uitofp (F := Ideal) .f32 (t k) * w k = 0 := by
    intro k hk
    have : t k = 0#1 := by have := (h k).not.mpr hk; revert this; generalize t k = b; revert b; decide
    rw [this]
    show ((0 : ℕ) : EReal) * w k = 0
    simp
  by_cases e : ∃ k : Fin 7, κ = (k : ℕ)
  · obtain ⟨k, hk⟩ := e
    rw [Finset.sum_eq_single k (fun j _ hj => h0 j fun e => hj (Fin.ext (by omega))) (by simp), (h k).mpr hk, wsel_eq w k κ hk]
    show ((1 : ℕ) : EReal) * w k = w k
    simp
  · push Not at e
    rw [wsel_zero w κ e]
    exact Finset.sum_eq_zero fun k _ => h0 k (e k)

/-- Words of small integers are equal when the integers are. -/
theorem word_eq (x y : ℤ) (hx : -10000 ≤ x ∧ x ≤ 10000) (hy : -10000 ≤ y ∧ y ≤ 10000) :
    IntOp.cmpi .eq (BitVec.ofInt 32 x) (BitVec.ofInt 32 y) = 1#1 ↔ x = y := by
  have e : ∀ z : ℤ, -10000 ≤ z ∧ z ≤ 10000 → (BitVec.ofInt 32 z).toInt = z := by
    intro z hz
    rw [BitVec.toInt_ofInt]
    exact Int.bmod_eq_of_le (by norm_num; omega) (by norm_num; omega)
  have : (BitVec.ofInt 32 x = BitVec.ofInt 32 y) ↔ x = y :=
    ⟨fun h => by rw [← e x hx, ← e y hy, h], fun h => by rw [h]⟩
  rw [← this]
  show BitVec.ofBool (BitVec.ofInt 32 x == BitVec.ofInt 32 y) = 1#1 ↔ _
  by_cases h : BitVec.ofInt 32 x = BitVec.ofInt 32 y
  · simp [h]
  · have hb : (BitVec.ofInt 32 x == BitVec.ofInt 32 y) = false := beq_eq_false_iff_ne.mpr h
    rw [hb]
    exact iff_of_false (by decide) h

/-- The word of a difference. -/
theorem ofInt_sub (x y : ℤ) : BitVec.ofInt 32 x - BitVec.ofInt 32 y = BitVec.ofInt 32 (x - y) := by
  rw [sub_eq_add_neg, sub_eq_add_neg, ← BitVec.ofInt_neg, BitVec.ofInt_add]

/-- The first layer's table, in integers. -/
theorem word0 (q a j k : ℕ) (z : BitVec 32) (δ : ℤ) (hq : q < 128) (ha : a < 16) (hj : j < 4) (hk : k < 7)
    (hz : z = BitVec.ofInt 32 δ ∧ -128 ≤ δ ∧ δ ≤ 128) :
    IntOp.cmpi .eq (BitVec.ofNat 32 q) (IntOp.subi (IntOp.subi (IntOp.addi (IntOp.addi (IntOp.muli 8#32 (BitVec.ofNat 32 a))
      (IntOp.muli 2#32 (BitVec.ofNat 32 j))) (BitVec.ofNat 32 k)) 2#32) z) = 1#1
      ↔ (q : ℤ) = 8 * a + 2 * j + k - 2 - δ := by
  obtain ⟨rfl, h1, h2⟩ := hz
  have e : ∀ n : ℕ, BitVec.ofNat 32 n = BitVec.ofInt 32 n := fun n => (BitVec.ofInt_natCast ..).symm
  simp only [IntOp.subi, IntOp.addi, IntOp.muli, e, ofInt_sub, ← BitVec.ofInt_add, ← BitVec.ofInt_mul]
  rw [word_eq _ _ (by push_cast; omega) (by push_cast; omega)]
  push_cast
  rfl

/-- The last layer's table, in integers. -/
theorem word8 (k q j p : ℕ) (z : BitVec 32) (δ : ℤ) (hk : k < 7) (hq : q < 64) (hj : j < 64) (hp : p < 2)
    (hz : z = BitVec.ofInt 32 δ ∧ -64 ≤ δ ∧ δ ≤ 64) :
    IntOp.cmpi .eq (BitVec.ofNat 32 k) (IntOp.subi (IntOp.addi (IntOp.muli 2#32 (IntOp.subi (IntOp.addi (BitVec.ofNat 32 q) z)
      (BitVec.ofNat 32 j))) 4#32) (BitVec.ofNat 32 p)) = 1#1
      ↔ (k : ℤ) = 2 * (q + δ - j) + 4 - p := by
  obtain ⟨rfl, h1, h2⟩ := hz
  have e : ∀ n : ℕ, BitVec.ofNat 32 n = BitVec.ofInt 32 n := fun n => (BitVec.ofInt_natCast ..).symm
  simp only [IntOp.subi, IntOp.addi, IntOp.muli, e, ofInt_sub, ← BitVec.ofInt_add, ← BitVec.ofInt_mul]
  rw [word_eq _ _ (by push_cast; omega) (by push_cast; omega)]
  push_cast
  rfl

set_option maxHeartbeats 1000000 in
/-- The first layer's three matrices hold the taps of its weights. -/
theorem w0 (d : Fin 3) (α : Fin 128) (β : Fin 4096) :
    (![at2 .f32 (after hostOps0 X (main_v19 : DevRef τ sig) : Vec Ideal S128x4096 .f32),
       at2 .f32 (after hostOps0 X (main_v34 : DevRef τ sig) : Vec Ideal S128x4096 .f32),
       at2 .f32 (after hostOps0 X (main_v49 : DevRef τ sig) : Vec Ideal S128x4096 .f32)] : Fin 3 → Fin 128 → Fin 4096 → EReal) d α β
      = wsel (at3 (X (main_arg1 : DevRef τ sig) : Vec Ideal S64x1x7 .f32) ⟨β % 64, Nat.mod_lt _ (by decide)⟩ ⟨α % 1, Nat.mod_lt _ (by decide)⟩)
          (1 * (128 * (((d : ℕ) : ℤ) - 1) + (((α : ℕ) / 1 : ℕ) : ℤ)) - 2 * (((β : ℕ) / 64 : ℕ) : ℤ) + 2) := by
  fin_cases d
  · show at2 .f32 (after hostOps0 X (main_v19 : DevRef τ sig) : Vec Ideal S128x4096 .f32) α β = _
    after_reads_simp
    unfold at2
    pointwise
    refine table_sum _ _ _ fun k => (word0 _ _ _ _ 4294967168#32 (-128) (by omega) (by omega) (by omega) (by omega) (by decide)).trans ?_
    push_cast
    omega
  · show at2 .f32 (after hostOps0 X (main_v34 : DevRef τ sig) : Vec Ideal S128x4096 .f32) α β = _
    after_reads_simp
    unfold at2
    pointwise
    refine table_sum _ _ _ fun k => (word0 _ _ _ _ 0#32 0 (by omega) (by omega) (by omega) (by omega) (by decide)).trans ?_
    push_cast
    omega
  · show at2 .f32 (after hostOps0 X (main_v49 : DevRef τ sig) : Vec Ideal S128x4096 .f32) α β = _
    after_reads_simp
    unfold at2
    pointwise
    refine table_sum _ _ _ fun k => (word0 _ _ _ _ 128#32 128 (by omega) (by omega) (by omega) (by omega) (by decide)).trans ?_
    push_cast
    omega

/-- The same with the weights on the left. -/
theorem table_sum' (w : Fin 7 → EReal) (κ : ℤ) (t : Fin 7 → BitVec 1) (h : ∀ k, t k = 1#1 ↔ κ = (k : ℕ)) :
    ∑ k : Fin 7, w k * FloatOps.uitofp (F := Ideal) .f32 (t k) = wsel w κ :=
  (Finset.sum_congr rfl fun k _ => mul_comm _ _).trans (table_sum w κ t h)

set_option maxHeartbeats 1000000 in
/-- The last layer's three matrices hold the taps of its weights. -/
theorem w8 (d : Fin 3) (α : Fin 4096) (β : Fin 128) :
    (![at2 .f32 (after hostOps8 X (main_v338 : DevRef τ sig) : Vec Ideal S4096x128 .f32),
       at2 .f32 (after hostOps8 X (main_v352 : DevRef τ sig) : Vec Ideal S4096x128 .f32),
       at2 .f32 (after hostOps8 X (main_v366 : DevRef τ sig) : Vec Ideal S4096x128 .f32)] : Fin 3 → Fin 4096 → Fin 128 → EReal) d α β
      = wsel (at3 (X (main_arg20 : DevRef τ sig) : Vec Ideal S1x64x7 .f32) ⟨β % 1, Nat.mod_lt _ (by decide)⟩ ⟨α % 64, Nat.mod_lt _ (by decide)⟩)
          (2 * (64 * (((d : ℕ) : ℤ) - 1) + (((α : ℕ) / 64 : ℕ) : ℤ)) - 1 * (((β : ℕ) / 1 : ℕ) : ℤ) + 4) := by
  fin_cases d
  · show at2 .f32 (after hostOps8 X (main_v338 : DevRef τ sig) : Vec Ideal S4096x128 .f32) α β = _
    after_reads_simp
    unfold at2
    pointwise
    refine table_sum' _ _ _ fun k => (word8 _ _ _ _ 4294967232#32 (-64) (by omega) (by omega) (by omega) (by omega) (by decide)).trans ?_
    push_cast
    omega
  · show at2 .f32 (after hostOps8 X (main_v352 : DevRef τ sig) : Vec Ideal S4096x128 .f32) α β = _
    after_reads_simp
    unfold at2
    pointwise
    refine table_sum' _ _ _ fun k => (word8 _ _ _ _ 0#32 0 (by omega) (by omega) (by omega) (by omega) (by decide)).trans ?_
    push_cast
    omega
  · show at2 .f32 (after hostOps8 X (main_v366 : DevRef τ sig) : Vec Ideal S4096x128 .f32) α β = _
    after_reads_simp
    unfold at2
    pointwise
    refine table_sum' _ _ _ fun k => (word8 _ _ _ _ 64#32 64 (by omega) (by omega) (by omega) (by omega) (by decide)).trans ?_
    push_cast
    omega

/-- Its bias at a column is the bias of the column's channel. -/
theorem b0 (β : Fin 4096) :
    at2 .f32 (after hostOps0 X (main_v53 : DevRef τ sig) : Vec Ideal S1x4096 .f32) 0 β
      = at1 (X (main_arg2 : DevRef τ sig) : Vec Ideal S64 .f32) ⟨β % 64, Nat.mod_lt _ (by decide)⟩ := by
  after_reads_simp
  unfold at2 at1
  pointwise

/-- Its bias is the one channel's. -/
theorem b8 (β : Fin 128) :
    at2 .f32 (after hostOps8 X (main_v367 : DevRef τ sig) : Vec Ideal S1x128 .f32) 0 β
      = at1 (X (main_arg21 : DevRef τ sig) : Vec Ideal S1 .f32) ⟨β % 1, Nat.mod_lt _ (by decide)⟩ := by
  after_reads_simp
  unfold at2 at1
  pointwise

/-- The first layer's input rows are the waveform in order. -/
theorem x0 (n : Fin 1024) (α : Fin 128) :
    at2 .f32 (after hostOps0 X (main_v54 : DevRef τ sig) : Vec Ideal S1024x128 .f32) n α
      = lay (at3 (X (main_arg0 : DevRef τ sig) : Vec Ideal S4x1x32768 .f32)) ((n : ℕ) * 128 + α) := by
  have hn := n.isLt
  have hα := α.isLt
  rw [lay_at (at3 (X (main_arg0 : DevRef τ sig) : Vec Ideal S4x1x32768 .f32)) ⟨n / 256, by omega⟩ 0 ⟨n % 256 * 128 + α, by omega⟩ _ (by simp; omega)]
  after_reads_simp
  unfold at2 at3
  pointwise

/-- Its input's rows are the layer before's result in flat order. -/
theorem x8 (r : Fin 4 → Fin 64 → Fin 16384 → EReal)
    (h : ∀ n β, at2 .bf16 (X (main_v319 : DevRef τ sig) : Vec Ideal S16384x256 .bf16) n β = lay r ((n : ℕ) * 256 + β)) (n : Fin 1024) (α : Fin 4096) :
    at2 .bf16 (after hostOps8 X (main_v368 : DevRef τ sig) : Vec Ideal S1024x4096 .bf16) n α = lay r ((n : ℕ) * 4096 + α) := by
  after_reads_simp
  have hn := n.isLt
  have hα := α.isLt
  unfold at2
  pointwise
  refine (h _ _).trans (congrArg (lay r) ?_)
  all_goals first | rfl | (dsimp only; omega)

/-- The result read at a signal and a time. -/
theorem y9 (r : Fin 4 → Fin 1 → Fin 32768 → EReal)
    (h : ∀ n β, at2 .f32 (X (main_v369 : DevRef τ sig) : Vec Ideal S1024x128 .f32) n β = lay r ((n : ℕ) * 128 + β)) (b : Fin 4) (o : Fin 1) (t : Fin 32768) :
    at3 (after hostOps9 X (main_v370 : DevRef τ sig) : Vec Ideal S4x1x32768 .f32) b o t = r b o t := by
  have hb := b.isLt
  have ht := t.isLt
  have ho := o.isLt
  unfold at3
  after_reads_simp
  pointwise
  refine (h _ _).trans (lay_at r b o t _ ?_)
  dsimp only
  omega

end Cert.Proof.Host

end
-- ==== Proof.Value.RefOps.lean ====
/-
  The reference program as a straight line of host operations, cut at its layers, and its run: every buffer ends at
  the fold of the nine lists of operations over the launch contents.
-/
module

public import proofs.«01_k».proof.ReferenceIdeal
public import proofs.«01_k».proof.Proof.Gen.ReferenceIdeal
public import Idealize.ShloMosaic.Lib.StableHlo.Run
public import Idealize.ShloMosaic.Lib.Quiescent

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of the first encoder layer. -/
def opsE1 : List (HloOp τ sig (Elt F)) :=
  [ nullary main_cst (constant S_ .f32 0x00000000#32),
    binary main_arg0 main_cst main_v0 ((fun x v => pad S4x1x32773 ![0, 0, 2] ![0, 0, 3] ![0, 0, 0] x v pads_S4x1x32768_S4x1x32773_000_000_230 h_S_) : (⟨S4x1x32768, .f32⟩ : BufTy).Contents (Elt F) → (⟨S_, .f32⟩ : BufTy).Contents (Elt F) → (⟨S4x1x32773, .f32⟩ : BufTy).Contents (Elt F)),
    unary main_v0 main_v1 ((Host.slice S4x1x16384 ![0, 0, 0] ![1, 1, 2] · slicesBy_S4x1x32773_S4x1x16384_0s1_0s1_0s2) : (⟨S4x1x32773, .f32⟩ : BufTy).Contents (Elt F) → (⟨S4x1x16384, .f32⟩ : BufTy).Contents (Elt F)),
    unary main_arg1 main_v2 ((extractStridedSlice S64x1x1 ![0, 0, 0] · slices_S64x1x7_S64x1x1_0_0_0) : (⟨S64x1x7, .f32⟩ : BufTy).Contents (Elt F) → (⟨S64x1x1, .f32⟩ : BufTy).Contents (Elt F)),
    reshape main_v2 main_v3 (rfl : (.f32 : EltTy) = .f32) shapeCasts_S64x1x1_S64x1,
    binary main_v3 main_v1 main_v4 ((fun l r => Host.dotGeneral dot_S64x1_S4x1x16384_S64x4x16384_1_1_0_02_n_n none l r) : (⟨S64x1, .f32⟩ : BufTy).Contents (Elt F) → (⟨S4x1x16384, .f32⟩ : BufTy).Contents (Elt F) → (⟨S64x4x16384, .f32⟩ : BufTy).Contents (Elt F)),
    unary main_v4 main_v5 ((transpose S4x64x16384 [1, 0, 2] · transposes_S64x4x16384_S4x64x16384_1_0_2) : (⟨S64x4x16384, .f32⟩ : BufTy).Contents (Elt F) → (⟨S4x64x16384, .f32⟩ : BufTy).Contents (Elt F)),
    unary main_v0 main_v6 ((Host.slice S4x1x16384 ![0, 0, 1] ![1, 1, 2] · slicesBy_S4x1x32773_S4x1x16384_0s1_0s1_1s2) : (⟨S4x1x32773, .f32⟩ : BufTy).Contents (Elt F) → (⟨S4x1x16384, .f32⟩ : BufTy).Contents (Elt F)),
    unary main_arg1 main_v7 ((extractStridedSlice S64x1x1 ![0, 0, 1] · slices_S64x1x7_S64x1x1_0_0_1) : (⟨S64x1x7, .f32⟩ : BufTy).Contents (Elt F) → (⟨S64x1x1, .f32⟩ : BufTy).Contents (Elt F)),
    reshape main_v7 main_v8 (rfl : (.f32 : EltTy) = .f32) shapeCasts_S64x1x1_S64x1,
    binary main_v8 main_v6 main_v9 ((fun l r => Host.dotGeneral dot_S64x1_S4x1x16384_S64x4x16384_1_1_0_02_n_n none l r) : (⟨S64x1, .f32⟩ : BufTy).Contents (Elt F) → (⟨S4x1x16384, .f32⟩ : BufTy).Contents (Elt F) → (⟨S64x4x16384, .f32⟩ : BufTy).Contents (Elt F)),
    unary main_v9 main_v10 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v5 main_v10 main_v11 (addf : (⟨S4x64x16384, .f32⟩ : BufTy).Contents (Elt F) → (⟨S4x64x16384, .f32⟩ : BufTy).Contents (Elt F) → (⟨S4x64x16384, .f32⟩ : BufTy).Contents (Elt F)),
    unary main_v0 main_v12 ((Host.slice S4x1x16384 ![0, 0, 2] ![1, 1, 2] · slicesBy_S4x1x32773_S4x1x16384_0s1_0s1_2s2) : (⟨S4x1x32773, .f32⟩ : BufTy).Contents (Elt F) → (⟨S4x1x16384, .f32⟩ : BufTy).Contents (Elt F)),
    unary main_arg1 main_v13 ((extractStridedSlice S64x1x1 ![0, 0, 2] · slices_S64x1x7_S64x1x1_0_0_2) : (⟨S64x1x7, .f32⟩ : BufTy).Contents (Elt F) → (⟨S64x1x1, .f32⟩ : BufTy).Contents (Elt F)),
    reshape main_v13 main_v14 (rfl : (.f32 : EltTy) = .f32) shapeCasts_S64x1x1_S64x1,
    binary main_v14 main_v12 main_v15 ((fun l r => Host.dotGeneral dot_S64x1_S4x1x16384_S64x4x16384_1_1_0_02_n_n none l r) : (⟨S64x1, .f32⟩ : BufTy).Contents (Elt F) → (⟨S4x1x16384, .f32⟩ : BufTy).Contents (Elt F) → (⟨S64x4x16384, .f32⟩ : BufTy).Contents (Elt F)),
    unary main_v15 main_v16 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v11 main_v16 main_v17 (addf : (⟨S4x64x16384, .f32⟩ : BufTy).Contents (Elt F) → (⟨S4x64x16384, .f32⟩ : BufTy).Contents (Elt F) → (⟨S4x64x16384, .f32⟩ : BufTy).Contents (Elt F)),
    unary main_v0 main_v18 ((Host.slice S4x1x16384 ![0, 0, 3] ![1, 1, 2] · slicesBy_S4x1x32773_S4x1x16384_0s1_0s1_3s2) : (⟨S4x1x32773, .f32⟩ : BufTy).Contents (Elt F) → (⟨S4x1x16384, .f32⟩ : BufTy).Contents (Elt F)),
    unary main_arg1 main_v19 ((extractStridedSlice S64x1x1 ![0, 0, 3] · slices_S64x1x7_S64x1x1_0_0_3) : (⟨S64x1x7, .f32⟩ : BufTy).Contents (Elt F) → (⟨S64x1x1, .f32⟩ : BufTy).Contents (Elt F)),
    reshape main_v19 main_v20 (rfl : (.f32 : EltTy) = .f32) shapeCasts_S64x1x1_S64x1,
    binary main_v20 main_v18 main_v21 ((fun l r => Host.dotGeneral dot_S64x1_S4x1x16384_S64x4x16384_1_1_0_02_n_n none l r) : (⟨S64x1, .f32⟩ : BufTy).Contents (Elt F) → (⟨S4x1x16384, .f32⟩ : BufTy).Contents (Elt F) → (⟨S64x4x16384, .f32⟩ : BufTy).Contents (Elt F)),
    unary main_v21 main_v22 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v17 main_v22 main_v23 (addf : (⟨S4x64x16384, .f32⟩ : BufTy).Contents (Elt F) → (⟨S4x64x16384, .f32⟩ : BufTy).Contents (Elt F) → (⟨S4x64x16384, .f32⟩ : BufTy).Contents (Elt F)),
    unary main_v0 main_v24 ((Host.slice S4x1x16384 ![0, 0, 4] ![1, 1, 2] · slicesBy_S4x1x32773_S4x1x16384_0s1_0s1_4s2) : (⟨S4x1x32773, .f32⟩ : BufTy).Contents (Elt F) → (⟨S4x1x16384, .f32⟩ : BufTy).Contents (Elt F)),
    unary main_arg1 main_v25 ((extractStridedSlice S64x1x1 ![0, 0, 4] · slices_S64x1x7_S64x1x1_0_0_4) : (⟨S64x1x7, .f32⟩ : BufTy).Contents (Elt F) → (⟨S64x1x1, .f32⟩ : BufTy).Contents (Elt F)),
    reshape main_v25 main_v26 (rfl : (.f32 : EltTy) = .f32) shapeCasts_S64x1x1_S64x1,
    binary main_v26 main_v24 main_v27 ((fun l r => Host.dotGeneral dot_S64x1_S4x1x16384_S64x4x16384_1_1_0_02_n_n none l r) : (⟨S64x1, .f32⟩ : BufTy).Contents (Elt F) → (⟨S4x1x16384, .f32⟩ : BufTy).Contents (Elt F) → (⟨S64x4x16384, .f32⟩ : BufTy).Contents (Elt F)),
    unary main_v27 main_v28 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v23 main_v28 main_v29 (addf : (⟨S4x64x16384, .f32⟩ : BufTy).Contents (Elt F) → (⟨S4x64x16384, .f32⟩ : BufTy).Contents (Elt F) → (⟨S4x64x16384, .f32⟩ : BufTy).Contents (Elt F)),
    unary main_v0 main_v30 ((Host.slice S4x1x16384 ![0, 0, 5] ![1, 1, 2] · slicesBy_S4x1x32773_S4x1x16384_0s1_0s1_5s2) : (⟨S4x1x32773, .f32⟩ : BufTy).Contents (Elt F) → (⟨S4x1x16384, .f32⟩ : BufTy).Contents (Elt F)),
    unary main_arg1 main_v31 ((extractStridedSlice S64x1x1 ![0, 0, 5] · slices_S64x1x7_S64x1x1_0_0_5) : (⟨S64x1x7, .f32⟩ : BufTy).Contents (Elt F) → (⟨S64x1x1, .f32⟩ : BufTy).Contents (Elt F)),
    reshape main_v31 main_v32 (rfl : (.f32 : EltTy) = .f32) shapeCasts_S64x1x1_S64x1,
    binary main_v32 main_v30 main_v33 ((fun l r => Host.dotGeneral dot_S64x1_S4x1x16384_S64x4x16384_1_1_0_02_n_n none l r) : (⟨S64x1, .f32⟩ : BufTy).Contents (Elt F) → (⟨S4x1x16384, .f32⟩ : BufTy).Contents (Elt F) → (⟨S64x4x16384, .f32⟩ : BufTy).Contents (Elt F)),
    unary main_v33 main_v34 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v29 main_v34 main_v35 (addf : (⟨S4x64x16384, .f32⟩ : BufTy).Contents (Elt F) → (⟨S4x64x16384, .f32⟩ : BufTy).Contents (Elt F) → (⟨S4x64x16384, .f32⟩ : BufTy).Contents (Elt F)),
    unary main_v0 main_v36 ((Host.slice S4x1x16384 ![0, 0, 6] ![1, 1, 2] · slicesBy_S4x1x32773_S4x1x16384_0s1_0s1_6s2) : (⟨S4x1x32773, .f32⟩ : BufTy).Contents (Elt F) → (⟨S4x1x16384, .f32⟩ : BufTy).Contents (Elt F)),
    unary main_arg1 main_v37 ((extractStridedSlice S64x1x1 ![0, 0, 6] · slices_S64x1x7_S64x1x1_0_0_6) : (⟨S64x1x7, .f32⟩ : BufTy).Contents (Elt F) → (⟨S64x1x1, .f32⟩ : BufTy).Contents (Elt F)),
    reshape main_v37 main_v38 (rfl : (.f32 : EltTy) = .f32) shapeCasts_S64x1x1_S64x1,
    binary main_v38 main_v36 main_v39 ((fun l r => Host.dotGeneral dot_S64x1_S4x1x16384_S64x4x16384_1_1_0_02_n_n none l r) : (⟨S64x1, .f32⟩ : BufTy).Contents (Elt F) → (⟨S4x1x16384, .f32⟩ : BufTy).Contents (Elt F) → (⟨S64x4x16384, .f32⟩ : BufTy).Contents (Elt F)),
    unary main_v39 main_v40 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v35 main_v40 main_v41 (addf : (⟨S4x64x16384, .f32⟩ : BufTy).Contents (Elt F) → (⟨S4x64x16384, .f32⟩ : BufTy).Contents (Elt F) → (⟨S4x64x16384, .f32⟩ : BufTy).Contents (Elt F)),
    unary main_arg2 main_v42 (broadcastInDim S1x64x1 ![1] bcast_S64_S1x64x1_1 : (⟨S64, .f32⟩ : BufTy).Contents (Elt F) → (⟨S1x64x1, .f32⟩ : BufTy).Contents (Elt F)),
    unary main_v42 main_v43 (broadcastInDim S4x64x16384 ![0, 1, 2] bcast_S1x64x1_S4x64x16384_0_1_2 : (⟨S1x64x1, .f32⟩ : BufTy).Contents (Elt F) → (⟨S4x64x16384, .f32⟩ : BufTy).Contents (Elt F)),
    binary main_v41 main_v43 main_v44 (addf : (⟨S4x64x16384, .f32⟩ : BufTy).Contents (Elt F) → (⟨S4x64x16384, .f32⟩ : BufTy).Contents (Elt F) → (⟨S4x64x16384, .f32⟩ : BufTy).Contents (Elt F)),
    nullary main_cst_0 (constant S_ .f32 0x00000000#32),
    unary main_cst_0 main_v45 (broadcastInDim S4x64x16384 ![] bcast_S_S4x64x16384 : (⟨S_, .f32⟩ : BufTy).Contents (Elt F) → (⟨S4x64x16384, .f32⟩ : BufTy).Contents (Elt F)),
    binary main_v44 main_v45 main_v46 (cmpf .ogt : (⟨S4x64x16384, .f32⟩ : BufTy).Contents (Elt F) → (⟨S4x64x16384, .f32⟩ : BufTy).Contents (Elt F) → (⟨S4x64x16384, .i1⟩ : BufTy).Contents (Elt F)),
    nullary main_cst_1 (constant S_ .f32 0x3DCCCCCD#32),
    unary main_cst_1 main_v47 (broadcastInDim S4x64x16384 ![] bcast_S_S4x64x16384 : (⟨S_, .f32⟩ : BufTy).Contents (Elt F) → (⟨S4x64x16384, .f32⟩ : BufTy).Contents (Elt F)),
    binary main_v47 main_v44 main_v48 (mulf : (⟨S4x64x16384, .f32⟩ : BufTy).Contents (Elt F) → (⟨S4x64x16384, .f32⟩ : BufTy).Contents (Elt F) → (⟨S4x64x16384, .f32⟩ : BufTy).Contents (Elt F)),
    ternary main_v46 main_v44 main_v48 main_v49 select ]

/-- The references that `opsE1` writes. -/
def opsE1_W : List (Ref sig .tc) :=
  [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_cst_0, main_v45, main_v46, main_cst_1, main_v47, main_v48, main_v49]

/-- The operations of the first encoder layer write only the listed buffers. -/
theorem opsE1_writes : (opsE1 (F := F)).Forall fun op => op.writes ⊆ ((opsE1_W).map (Proc.devRef (τ := τ) .tc)).toFinset :=
  forall_writes_sub_of_map rfl

/-- The operations of the second encoder layer. -/
def opsE2 : List (HloOp τ sig (Elt F)) :=
  [ nullary main_cst_2 (constant S_ .f32 0x00000000#32),
    binary main_v49 main_cst_2 main_v50 ((fun x v => pad S4x64x16387 ![0, 0, 1] ![0, 0, 2] ![0, 0, 0] x v pads_S4x64x16384_S4x64x16387_000_000_120 h_S_) : (⟨S4x64x16384, .f32⟩ : BufTy).Contents (Elt F) → (⟨S_, .f32⟩ : BufTy).Contents (Elt F) → (⟨S4x64x16387, .f32⟩ : BufTy).Contents (Elt F)),
    unary main_v50 main_v51 ((Host.slice S4x64x4096 ![0, 0, 0] ![1, 1, 4] · slicesBy_S4x64x16387_S4x64x4096_0s1_0s1_0s4) : (⟨S4x64x16387, .f32⟩ : BufTy).Contents (Elt F) → (⟨S4x64x4096, .f32⟩ : BufTy).Contents (Elt F)),
    unary main_arg3 main_v52 ((extractStridedSlice S128x64x1 ![0, 0, 0] · slices_S128x64x7_S128x64x1_0_0_0) : (⟨S128x64x7, .f32⟩ : BufTy).Contents (Elt F) → (⟨S128x64x1, .f32⟩ : BufTy).Contents (Elt F)),
    reshape main_v52 main_v53 (rfl : (.f32 : EltTy) = .f32) shapeCasts_S128x64x1_S128x64,
    binary main_v53 main_v51 main_v54 ((fun l r => Host.dotGeneral dot_S128x64_S4x64x4096_S128x4x4096_1_1_0_02_n_n none l r) : (⟨S128x64, .f32⟩ : BufTy).Contents (Elt F) → (⟨S4x64x4096, .f32⟩ : BufTy).Contents (Elt F) → (⟨S128x4x4096, .f32⟩ : BufTy).Contents (Elt F)),
    unary main_v54 main_v55 ((transpose S4x128x4096 [1, 0, 2] · transposes_S128x4x4096_S4x128x4096_1_0_2) : (⟨S128x4x4096, .f32⟩ : BufTy).Contents (Elt F) → (⟨S4x128x4096, .f32⟩ : BufTy).Contents (Elt F)),
    unary main_v50 main_v56 ((Host.slice S4x64x4096 ![0, 0, 1] ![1, 1, 4] · slicesBy_S4x64x16387_S4x64x4096_0s1_0s1_1s4) : (⟨S4x64x16387, .f32⟩ : BufTy).Contents (Elt F) → (⟨S4x64x4096, .f32⟩ : BufTy).Contents (Elt F)),
    unary main_arg3 main_v57 ((extractStridedSlice S128x64x1 ![0, 0, 1] · slices_S128x64x7_S128x64x1_0_0_1) : (⟨S128x64x7, .f32⟩ : BufTy).Contents (Elt F) → (⟨S128x64x1, .f32⟩ : BufTy).Contents (Elt F)),
    reshape main_v57 main_v58 (rfl : (.f32 : EltTy) = .f32) shapeCasts_S128x64x1_S128x64,
    binary main_v58 main_v56 main_v59 ((fun l r => Host.dotGeneral dot_S128x64_S4x64x4096_S128x4x4096_1_1_0_02_n_n none l r) : (⟨S128x64, .f32⟩ : BufTy).Contents (Elt F) → (⟨S4x64x4096, .f32⟩ : BufTy).Contents (Elt F) → (⟨S128x4x4096, .f32⟩ : BufTy).Contents (Elt F)),
    unary main_v59 main_v60 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v55 main_v60 main_v61 (addf : (⟨S4x128x4096, .f32⟩ : BufTy).Contents (Elt F) → (⟨S4x128x4096, .f32⟩ : BufTy).Contents (Elt F) → (⟨S4x128x4096, .f32⟩ : BufTy).Contents (Elt F)),
    unary main_v50 main_v62 ((Host.slice S4x64x4096 ![0, 0, 2] ![1, 1, 4] · slicesBy_S4x64x16387_S4x64x4096_0s1_0s1_2s4) : (⟨S4x64x16387, .f32⟩ : BufTy).Contents (Elt F) → (⟨S4x64x4096, .f32⟩ : BufTy).Contents (Elt F)),
    unary main_arg3 main_v63 ((extractStridedSlice S128x64x1 ![0, 0, 2] · slices_S128x64x7_S128x64x1_0_0_2) : (⟨S128x64x7, .f32⟩ : BufTy).Contents (Elt F) → (⟨S128x64x1, .f32⟩ : BufTy).Contents (Elt F)),
    reshape main_v63 main_v64 (rfl : (.f32 : EltTy) = .f32) shapeCasts_S128x64x1_S128x64,
    binary main_v64 main_v62 main_v65 ((fun l r => Host.dotGeneral dot_S128x64_S4x64x4096_S128x4x4096_1_1_0_02_n_n none l r) : (⟨S128x64, .f32⟩ : BufTy).Contents (Elt F) → (⟨S4x64x4096, .f32⟩ : BufTy).Contents (Elt F) → (⟨S128x4x4096, .f32⟩ : BufTy).Contents (Elt F)),
    unary main_v65 main_v66 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v61 main_v66 main_v67 (addf : (⟨S4x128x4096, .f32⟩ : BufTy).Contents (Elt F) → (⟨S4x128x4096, .f32⟩ : BufTy).Contents (Elt F) → (⟨S4x128x4096, .f32⟩ : BufTy).Contents (Elt F)),
    unary main_v50 main_v68 ((Host.slice S4x64x4096 ![0, 0, 3] ![1, 1, 4] · slicesBy_S4x64x16387_S4x64x4096_0s1_0s1_3s4) : (⟨S4x64x16387, .f32⟩ : BufTy).Contents (Elt F) → (⟨S4x64x4096, .f32⟩ : BufTy).Contents (Elt F)),
    unary main_arg3 main_v69 ((extractStridedSlice S128x64x1 ![0, 0, 3] · slices_S128x64x7_S128x64x1_0_0_3) : (⟨S128x64x7, .f32⟩ : BufTy).Contents (Elt F) → (⟨S128x64x1, .f32⟩ : BufTy).Contents (Elt F)),
    reshape main_v69 main_v70 (rfl : (.f32 : EltTy) = .f32) shapeCasts_S128x64x1_S128x64,
    binary main_v70 main_v68 main_v71 ((fun l r => Host.dotGeneral dot_S128x64_S4x64x4096_S128x4x4096_1_1_0_02_n_n none l r) : (⟨S128x64, .f32⟩ : BufTy).Contents (Elt F) → (⟨S4x64x4096, .f32⟩ : BufTy).Contents (Elt F) → (⟨S128x4x4096, .f32⟩ : BufTy).Contents (Elt F)),
    unary main_v71 main_v72 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v67 main_v72 main_v73 (addf : (⟨S4x128x4096, .f32⟩ : BufTy).Contents (Elt F) → (⟨S4x128x4096, .f32⟩ : BufTy).Contents (Elt F) → (⟨S4x128x4096, .f32⟩ : BufTy).Contents (Elt F)),
    unary main_v50 main_v74 ((Host.slice S4x64x4096 ![0, 0, 4] ![1, 1, 4] · slicesBy_S4x64x16387_S4x64x4096_0s1_0s1_4s4) : (⟨S4x64x16387, .f32⟩ : BufTy).Contents (Elt F) → (⟨S4x64x4096, .f32⟩ : BufTy).Contents (Elt F)),
    unary main_arg3 main_v75 ((extractStridedSlice S128x64x1 ![0, 0, 4] · slices_S128x64x7_S128x64x1_0_0_4) : (⟨S128x64x7, .f32⟩ : BufTy).Contents (Elt F) → (⟨S128x64x1, .f32⟩ : BufTy).Contents (Elt F)),
    reshape main_v75 main_v76 (rfl : (.f32 : EltTy) = .f32) shapeCasts_S128x64x1_S128x64,
    binary main_v76 main_v74 main_v77 ((fun l r => Host.dotGeneral dot_S128x64_S4x64x4096_S128x4x4096_1_1_0_02_n_n none l r) : (⟨S128x64, .f32⟩ : BufTy).Contents (Elt F) → (⟨S4x64x4096, .f32⟩ : BufTy).Contents (Elt F) → (⟨S128x4x4096, .f32⟩ : BufTy).Contents (Elt F)),
    unary main_v77 main_v78 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v73 main_v78 main_v79 (addf : (⟨S4x128x4096, .f32⟩ : BufTy).Contents (Elt F) → (⟨S4x128x4096, .f32⟩ : BufTy).Contents (Elt F) → (⟨S4x128x4096, .f32⟩ : BufTy).Contents (Elt F)),
    unary main_v50 main_v80 ((Host.slice S4x64x4096 ![0, 0, 5] ![1, 1, 4] · slicesBy_S4x64x16387_S4x64x4096_0s1_0s1_5s4) : (⟨S4x64x16387, .f32⟩ : BufTy).Contents (Elt F) → (⟨S4x64x4096, .f32⟩ : BufTy).Contents (Elt F)),
    unary main_arg3 main_v81 ((extractStridedSlice S128x64x1 ![0, 0, 5] · slices_S128x64x7_S128x64x1_0_0_5) : (⟨S128x64x7, .f32⟩ : BufTy).Contents (Elt F) → (⟨S128x64x1, .f32⟩ : BufTy).Contents (Elt F)),
    reshape main_v81 main_v82 (rfl : (.f32 : EltTy) = .f32) shapeCasts_S128x64x1_S128x64,
    binary main_v82 main_v80 main_v83 ((fun l r => Host.dotGeneral dot_S128x64_S4x64x4096_S128x4x4096_1_1_0_02_n_n none l r) : (⟨S128x64, .f32⟩ : BufTy).Contents (Elt F) → (⟨S4x64x4096, .f32⟩ : BufTy).Contents (Elt F) → (⟨S128x4x4096, .f32⟩ : BufTy).Contents (Elt F)),
    unary main_v83 main_v84 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v79 main_v84 main_v85 (addf : (⟨S4x128x4096, .f32⟩ : BufTy).Contents (Elt F) → (⟨S4x128x4096, .f32⟩ : BufTy).Contents (Elt F) → (⟨S4x128x4096, .f32⟩ : BufTy).Contents (Elt F)),
    unary main_v50 main_v86 ((Host.slice S4x64x4096 ![0, 0, 6] ![1, 1, 4] · slicesBy_S4x64x16387_S4x64x4096_0s1_0s1_6s4) : (⟨S4x64x16387, .f32⟩ : BufTy).Contents (Elt F) → (⟨S4x64x4096, .f32⟩ : BufTy).Contents (Elt F)),
    unary main_arg3 main_v87 ((extractStridedSlice S128x64x1 ![0, 0, 6] · slices_S128x64x7_S128x64x1_0_0_6) : (⟨S128x64x7, .f32⟩ : BufTy).Contents (Elt F) → (⟨S128x64x1, .f32⟩ : BufTy).Contents (Elt F)),
    reshape main_v87 main_v88 (rfl : (.f32 : EltTy) = .f32) shapeCasts_S128x64x1_S128x64,
    binary main_v88 main_v86 main_v89 ((fun l r => Host.dotGeneral dot_S128x64_S4x64x4096_S128x4x4096_1_1_0_02_n_n none l r) : (⟨S128x64, .f32⟩ : BufTy).Contents (Elt F) → (⟨S4x64x4096, .f32⟩ : BufTy).Contents (Elt F) → (⟨S128x4x4096, .f32⟩ : BufTy).Contents (Elt F)),
    unary main_v89 main_v90 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v85 main_v90 main_v91 (addf : (⟨S4x128x4096, .f32⟩ : BufTy).Contents (Elt F) → (⟨S4x128x4096, .f32⟩ : BufTy).Contents (Elt F) → (⟨S4x128x4096, .f32⟩ : BufTy).Contents (Elt F)),
    unary main_arg4 main_v92 (broadcastInDim S1x128x1 ![1] bcast_S128_S1x128x1_1 : (⟨S128, .f32⟩ : BufTy).Contents (Elt F) → (⟨S1x128x1, .f32⟩ : BufTy).Contents (Elt F)),
    unary main_v92 main_v93 (broadcastInDim S4x128x4096 ![0, 1, 2] bcast_S1x128x1_S4x128x4096_0_1_2 : (⟨S1x128x1, .f32⟩ : BufTy).Contents (Elt F) → (⟨S4x128x4096, .f32⟩ : BufTy).Contents (Elt F)),
    binary main_v91 main_v93 main_v94 (addf : (⟨S4x128x4096, .f32⟩ : BufTy).Contents (Elt F) → (⟨S4x128x4096, .f32⟩ : BufTy).Contents (Elt F) → (⟨S4x128x4096, .f32⟩ : BufTy).Contents (Elt F)),
    nullary main_cst_3 (constant S_ .f32 0x00000000#32),
    unary main_cst_3 main_v95 (broadcastInDim S4x128x4096 ![] bcast_S_S4x128x4096 : (⟨S_, .f32⟩ : BufTy).Contents (Elt F) → (⟨S4x128x4096, .f32⟩ : BufTy).Contents (Elt F)),
    binary main_v94 main_v95 main_v96 (cmpf .ogt : (⟨S4x128x4096, .f32⟩ : BufTy).Contents (Elt F) → (⟨S4x128x4096, .f32⟩ : BufTy).Contents (Elt F) → (⟨S4x128x4096, .i1⟩ : BufTy).Contents (Elt F)),
    nullary main_cst_4 (constant S_ .f32 0x3DCCCCCD#32),
    unary main_cst_4 main_v97 (broadcastInDim S4x128x4096 ![] bcast_S_S4x128x4096 : (⟨S_, .f32⟩ : BufTy).Contents (Elt F) → (⟨S4x128x4096, .f32⟩ : BufTy).Contents (Elt F)),
    binary main_v97 main_v94 main_v98 (mulf : (⟨S4x128x4096, .f32⟩ : BufTy).Contents (Elt F) → (⟨S4x128x4096, .f32⟩ : BufTy).Contents (Elt F) → (⟨S4x128x4096, .f32⟩ : BufTy).Contents (Elt F)),
    ternary main_v96 main_v94 main_v98 main_v99 select ]

/-- The references that `opsE2` writes. -/
def opsE2_W : List (Ref sig .tc) :=
  [main_cst_2, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_cst_3, main_v95, main_v96, main_cst_4, main_v97, main_v98, main_v99]

/-- The operations of the second encoder layer write only the listed buffers. -/
theorem opsE2_writes : (opsE2 (F := F)).Forall fun op => op.writes ⊆ ((opsE2_W).map (Proc.devRef (τ := τ) .tc)).toFinset :=
  forall_writes_sub_of_map rfl

/-- The operations of the third encoder layer. -/
def opsE3 : List (HloOp τ sig (Elt F)) :=
  [ nullary main_cst_5 (constant S_ .f32 0x00000000#32),
    binary main_v99 main_cst_5 main_v100 ((fun x v => pad S4x128x4099 ![0, 0, 1] ![0, 0, 2] ![0, 0, 0] x v pads_S4x128x4096_S4x128x4099_000_000_120 h_S_) : (⟨S4x128x4096, .f32⟩ : BufTy).Contents (Elt F) → (⟨S_, .f32⟩ : BufTy).Contents (Elt F) → (⟨S4x128x4099, .f32⟩ : BufTy).Contents (Elt F)),
    unary main_v100 main_v101 ((Host.slice S4x128x1024 ![0, 0, 0] ![1, 1, 4] · slicesBy_S4x128x4099_S4x128x1024_0s1_0s1_0s4) : (⟨S4x128x4099, .f32⟩ : BufTy).Contents (Elt F) → (⟨S4x128x1024, .f32⟩ : BufTy).Contents (Elt F)),
    unary main_arg5 main_v102 ((extractStridedSlice S256x128x1 ![0, 0, 0] · slices_S256x128x7_S256x128x1_0_0_0) : (⟨S256x128x7, .f32⟩ : BufTy).Contents (Elt F) → (⟨S256x128x1, .f32⟩ : BufTy).Contents (Elt F)),
    reshape main_v102 main_v103 (rfl : (.f32 : EltTy) = .f32) shapeCasts_S256x128x1_S256x128,
    binary main_v103 main_v101 main_v104 ((fun l r => Host.dotGeneral dot_S256x128_S4x128x1024_S256x4x1024_1_1_0_02_n_n none l r) : (⟨S256x128, .f32⟩ : BufTy).Contents (Elt F) → (⟨S4x128x1024, .f32⟩ : BufTy).Contents (Elt F) → (⟨S256x4x1024, .f32⟩ : BufTy).Contents (Elt F)),
    unary main_v104 main_v105 ((transpose S4x256x1024 [1, 0, 2] · transposes_S256x4x1024_S4x256x1024_1_0_2) : (⟨S256x4x1024, .f32⟩ : BufTy).Contents (Elt F) → (⟨S4x256x1024, .f32⟩ : BufTy).Contents (Elt F)),
    unary main_v100 main_v106 ((Host.slice S4x128x1024 ![0, 0, 1] ![1, 1, 4] · slicesBy_S4x128x4099_S4x128x1024_0s1_0s1_1s4) : (⟨S4x128x4099, .f32⟩ : BufTy).Contents (Elt F) → (⟨S4x128x1024, .f32⟩ : BufTy).Contents (Elt F)),
    unary main_arg5 main_v107 ((extractStridedSlice S256x128x1 ![0, 0, 1] · slices_S256x128x7_S256x128x1_0_0_1) : (⟨S256x128x7, .f32⟩ : BufTy).Contents (Elt F) → (⟨S256x128x1, .f32⟩ : BufTy).Contents (Elt F)),
    reshape main_v107 main_v108 (rfl : (.f32 : EltTy) = .f32) shapeCasts_S256x128x1_S256x128,
    binary main_v108 main_v106 main_v109 ((fun l r => Host.dotGeneral dot_S256x128_S4x128x1024_S256x4x1024_1_1_0_02_n_n none l r) : (⟨S256x128, .f32⟩ : BufTy).Contents (Elt F) → (⟨S4x128x1024, .f32⟩ : BufTy).Contents (Elt F) → (⟨S256x4x1024, .f32⟩ : BufTy).Contents (Elt F)),
    unary main_v109 main_v110 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v105 main_v110 main_v111 (addf : (⟨S4x256x1024, .f32⟩ : BufTy).Contents (Elt F) → (⟨S4x256x1024, .f32⟩ : BufTy).Contents (Elt F) → (⟨S4x256x1024, .f32⟩ : BufTy).Contents (Elt F)),
    unary main_v100 main_v112 ((Host.slice S4x128x1024 ![0, 0, 2] ![1, 1, 4] · slicesBy_S4x128x4099_S4x128x1024_0s1_0s1_2s4) : (⟨S4x128x4099, .f32⟩ : BufTy).Contents (Elt F) → (⟨S4x128x1024, .f32⟩ : BufTy).Contents (Elt F)),
    unary main_arg5 main_v113 ((extractStridedSlice S256x128x1 ![0, 0, 2] · slices_S256x128x7_S256x128x1_0_0_2) : (⟨S256x128x7, .f32⟩ : BufTy).Contents (Elt F) → (⟨S256x128x1, .f32⟩ : BufTy).Contents (Elt F)),
    reshape main_v113 main_v114 (rfl : (.f32 : EltTy) = .f32) shapeCasts_S256x128x1_S256x128,
    binary main_v114 main_v112 main_v115 ((fun l r => Host.dotGeneral dot_S256x128_S4x128x1024_S256x4x1024_1_1_0_02_n_n none l r) : (⟨S256x128, .f32⟩ : BufTy).Contents (Elt F) → (⟨S4x128x1024, .f32⟩ : BufTy).Contents (Elt F) → (⟨S256x4x1024, .f32⟩ : BufTy).Contents (Elt F)),
    unary main_v115 main_v116 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v111 main_v116 main_v117 (addf : (⟨S4x256x1024, .f32⟩ : BufTy).Contents (Elt F) → (⟨S4x256x1024, .f32⟩ : BufTy).Contents (Elt F) → (⟨S4x256x1024, .f32⟩ : BufTy).Contents (Elt F)),
    unary main_v100 main_v118 ((Host.slice S4x128x1024 ![0, 0, 3] ![1, 1, 4] · slicesBy_S4x128x4099_S4x128x1024_0s1_0s1_3s4) : (⟨S4x128x4099, .f32⟩ : BufTy).Contents (Elt F) → (⟨S4x128x1024, .f32⟩ : BufTy).Contents (Elt F)),
    unary main_arg5 main_v119 ((extractStridedSlice S256x128x1 ![0, 0, 3] · slices_S256x128x7_S256x128x1_0_0_3) : (⟨S256x128x7, .f32⟩ : BufTy).Contents (Elt F) → (⟨S256x128x1, .f32⟩ : BufTy).Contents (Elt F)),
    reshape main_v119 main_v120 (rfl : (.f32 : EltTy) = .f32) shapeCasts_S256x128x1_S256x128,
    binary main_v120 main_v118 main_v121 ((fun l r => Host.dotGeneral dot_S256x128_S4x128x1024_S256x4x1024_1_1_0_02_n_n none l r) : (⟨S256x128, .f32⟩ : BufTy).Contents (Elt F) → (⟨S4x128x1024, .f32⟩ : BufTy).Contents (Elt F) → (⟨S256x4x1024, .f32⟩ : BufTy).Contents (Elt F)),
    unary main_v121 main_v122 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v117 main_v122 main_v123 (addf : (⟨S4x256x1024, .f32⟩ : BufTy).Contents (Elt F) → (⟨S4x256x1024, .f32⟩ : BufTy).Contents (Elt F) → (⟨S4x256x1024, .f32⟩ : BufTy).Contents (Elt F)),
    unary main_v100 main_v124 ((Host.slice S4x128x1024 ![0, 0, 4] ![1, 1, 4] · slicesBy_S4x128x4099_S4x128x1024_0s1_0s1_4s4) : (⟨S4x128x4099, .f32⟩ : BufTy).Contents (Elt F) → (⟨S4x128x1024, .f32⟩ : BufTy).Contents (Elt F)),
    unary main_arg5 main_v125 ((extractStridedSlice S256x128x1 ![0, 0, 4] · slices_S256x128x7_S256x128x1_0_0_4) : (⟨S256x128x7, .f32⟩ : BufTy).Contents (Elt F) → (⟨S256x128x1, .f32⟩ : BufTy).Contents (Elt F)),
    reshape main_v125 main_v126 (rfl : (.f32 : EltTy) = .f32) shapeCasts_S256x128x1_S256x128,
    binary main_v126 main_v124 main_v127 ((fun l r => Host.dotGeneral dot_S256x128_S4x128x1024_S256x4x1024_1_1_0_02_n_n none l r) : (⟨S256x128, .f32⟩ : BufTy).Contents (Elt F) → (⟨S4x128x1024, .f32⟩ : BufTy).Contents (Elt F) → (⟨S256x4x1024, .f32⟩ : BufTy).Contents (Elt F)),
    unary main_v127 main_v128 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v123 main_v128 main_v129 (addf : (⟨S4x256x1024, .f32⟩ : BufTy).Contents (Elt F) → (⟨S4x256x1024, .f32⟩ : BufTy).Contents (Elt F) → (⟨S4x256x1024, .f32⟩ : BufTy).Contents (Elt F)),
    unary main_v100 main_v130 ((Host.slice S4x128x1024 ![0, 0, 5] ![1, 1, 4] · slicesBy_S4x128x4099_S4x128x1024_0s1_0s1_5s4) : (⟨S4x128x4099, .f32⟩ : BufTy).Contents (Elt F) → (⟨S4x128x1024, .f32⟩ : BufTy).Contents (Elt F)),
    unary main_arg5 main_v131 ((extractStridedSlice S256x128x1 ![0, 0, 5] · slices_S256x128x7_S256x128x1_0_0_5) : (⟨S256x128x7, .f32⟩ : BufTy).Contents (Elt F) → (⟨S256x128x1, .f32⟩ : BufTy).Contents (Elt F)),
    reshape main_v131 main_v132 (rfl : (.f32 : EltTy) = .f32) shapeCasts_S256x128x1_S256x128,
    binary main_v132 main_v130 main_v133 ((fun l r => Host.dotGeneral dot_S256x128_S4x128x1024_S256x4x1024_1_1_0_02_n_n none l r) : (⟨S256x128, .f32⟩ : BufTy).Contents (Elt F) → (⟨S4x128x1024, .f32⟩ : BufTy).Contents (Elt F) → (⟨S256x4x1024, .f32⟩ : BufTy).Contents (Elt F)),
    unary main_v133 main_v134 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v129 main_v134 main_v135 (addf : (⟨S4x256x1024, .f32⟩ : BufTy).Contents (Elt F) → (⟨S4x256x1024, .f32⟩ : BufTy).Contents (Elt F) → (⟨S4x256x1024, .f32⟩ : BufTy).Contents (Elt F)),
    unary main_v100 main_v136 ((Host.slice S4x128x1024 ![0, 0, 6] ![1, 1, 4] · slicesBy_S4x128x4099_S4x128x1024_0s1_0s1_6s4) : (⟨S4x128x4099, .f32⟩ : BufTy).Contents (Elt F) → (⟨S4x128x1024, .f32⟩ : BufTy).Contents (Elt F)),
    unary main_arg5 main_v137 ((extractStridedSlice S256x128x1 ![0, 0, 6] · slices_S256x128x7_S256x128x1_0_0_6) : (⟨S256x128x7, .f32⟩ : BufTy).Contents (Elt F) → (⟨S256x128x1, .f32⟩ : BufTy).Contents (Elt F)),
    reshape main_v137 main_v138 (rfl : (.f32 : EltTy) = .f32) shapeCasts_S256x128x1_S256x128,
    binary main_v138 main_v136 main_v139 ((fun l r => Host.dotGeneral dot_S256x128_S4x128x1024_S256x4x1024_1_1_0_02_n_n none l r) : (⟨S256x128, .f32⟩ : BufTy).Contents (Elt F) → (⟨S4x128x1024, .f32⟩ : BufTy).Contents (Elt F) → (⟨S256x4x1024, .f32⟩ : BufTy).Contents (Elt F)),
    unary main_v139 main_v140 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v135 main_v140 main_v141 (addf : (⟨S4x256x1024, .f32⟩ : BufTy).Contents (Elt F) → (⟨S4x256x1024, .f32⟩ : BufTy).Contents (Elt F) → (⟨S4x256x1024, .f32⟩ : BufTy).Contents (Elt F)),
    unary main_arg6 main_v142 (broadcastInDim S1x256x1 ![1] bcast_S256_S1x256x1_1 : (⟨S256, .f32⟩ : BufTy).Contents (Elt F) → (⟨S1x256x1, .f32⟩ : BufTy).Contents (Elt F)),
    unary main_v142 main_v143 (broadcastInDim S4x256x1024 ![0, 1, 2] bcast_S1x256x1_S4x256x1024_0_1_2 : (⟨S1x256x1, .f32⟩ : BufTy).Contents (Elt F) → (⟨S4x256x1024, .f32⟩ : BufTy).Contents (Elt F)),
    binary main_v141 main_v143 main_v144 (addf : (⟨S4x256x1024, .f32⟩ : BufTy).Contents (Elt F) → (⟨S4x256x1024, .f32⟩ : BufTy).Contents (Elt F) → (⟨S4x256x1024, .f32⟩ : BufTy).Contents (Elt F)),
    nullary main_cst_6 (constant S_ .f32 0x00000000#32),
    unary main_cst_6 main_v145 (broadcastInDim S4x256x1024 ![] bcast_S_S4x256x1024 : (⟨S_, .f32⟩ : BufTy).Contents (Elt F) → (⟨S4x256x1024, .f32⟩ : BufTy).Contents (Elt F)),
    binary main_v144 main_v145 main_v146 (cmpf .ogt : (⟨S4x256x1024, .f32⟩ : BufTy).Contents (Elt F) → (⟨S4x256x1024, .f32⟩ : BufTy).Contents (Elt F) → (⟨S4x256x1024, .i1⟩ : BufTy).Contents (Elt F)),
    nullary main_cst_7 (constant S_ .f32 0x3DCCCCCD#32),
    unary main_cst_7 main_v147 (broadcastInDim S4x256x1024 ![] bcast_S_S4x256x1024 : (⟨S_, .f32⟩ : BufTy).Contents (Elt F) → (⟨S4x256x1024, .f32⟩ : BufTy).Contents (Elt F)),
    binary main_v147 main_v144 main_v148 (mulf : (⟨S4x256x1024, .f32⟩ : BufTy).Contents (Elt F) → (⟨S4x256x1024, .f32⟩ : BufTy).Contents (Elt F) → (⟨S4x256x1024, .f32⟩ : BufTy).Contents (Elt F)),
    ternary main_v146 main_v144 main_v148 main_v149 select ]

/-- The references that `opsE3` writes. -/
def opsE3_W : List (Ref sig .tc) :=
  [main_cst_5, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_cst_6, main_v145, main_v146, main_cst_7, main_v147, main_v148, main_v149]

/-- The operations of the third encoder layer write only the listed buffers. -/
theorem opsE3_writes : (opsE3 (F := F)).Forall fun op => op.writes ⊆ ((opsE3_W).map (Proc.devRef (τ := τ) .tc)).toFinset :=
  forall_writes_sub_of_map rfl

/-- The operations of the fourth encoder layer, the embedding. -/
def opsE4 : List (HloOp τ sig (Elt F)) :=
  [ nullary main_cst_8 (constant S_ .f32 0x00000000#32),
    binary main_v149 main_cst_8 main_v150 ((fun x v => pad S4x256x1027 ![0, 0, 1] ![0, 0, 2] ![0, 0, 0] x v pads_S4x256x1024_S4x256x1027_000_000_120 h_S_) : (⟨S4x256x1024, .f32⟩ : BufTy).Contents (Elt F) → (⟨S_, .f32⟩ : BufTy).Contents (Elt F) → (⟨S4x256x1027, .f32⟩ : BufTy).Contents (Elt F)),
    unary main_v150 main_v151 ((Host.slice S4x256x256 ![0, 0, 0] ![1, 1, 4] · slicesBy_S4x256x1027_S4x256x256_0s1_0s1_0s4) : (⟨S4x256x1027, .f32⟩ : BufTy).Contents (Elt F) → (⟨S4x256x256, .f32⟩ : BufTy).Contents (Elt F)),
    unary main_arg7 main_v152 ((extractStridedSlice S512x256x1 ![0, 0, 0] · slices_S512x256x7_S512x256x1_0_0_0) : (⟨S512x256x7, .f32⟩ : BufTy).Contents (Elt F) → (⟨S512x256x1, .f32⟩ : BufTy).Contents (Elt F)),
    reshape main_v152 main_v153 (rfl : (.f32 : EltTy) = .f32) shapeCasts_S512x256x1_S512x256,
    binary main_v153 main_v151 main_v154 ((fun l r => Host.dotGeneral dot_S512x256_S4x256x256_S512x4x256_1_1_0_02_n_n none l r) : (⟨S512x256, .f32⟩ : BufTy).Contents (Elt F) → (⟨S4x256x256, .f32⟩ : BufTy).Contents (Elt F) → (⟨S512x4x256, .f32⟩ : BufTy).Contents (Elt F)),
    unary main_v154 main_v155 ((transpose S4x512x256 [1, 0, 2] · transposes_S512x4x256_S4x512x256_1_0_2) : (⟨S512x4x256, .f32⟩ : BufTy).Contents (Elt F) → (⟨S4x512x256, .f32⟩ : BufTy).Contents (Elt F)),
    unary main_v150 main_v156 ((Host.slice S4x256x256 ![0, 0, 1] ![1, 1, 4] · slicesBy_S4x256x1027_S4x256x256_0s1_0s1_1s4) : (⟨S4x256x1027, .f32⟩ : BufTy).Contents (Elt F) → (⟨S4x256x256, .f32⟩ : BufTy).Contents (Elt F)),
    unary main_arg7 main_v157 ((extractStridedSlice S512x256x1 ![0, 0, 1] · slices_S512x256x7_S512x256x1_0_0_1) : (⟨S512x256x7, .f32⟩ : BufTy).Contents (Elt F) → (⟨S512x256x1, .f32⟩ : BufTy).Contents (Elt F)),
    reshape main_v157 main_v158 (rfl : (.f32 : EltTy) = .f32) shapeCasts_S512x256x1_S512x256,
    binary main_v158 main_v156 main_v159 ((fun l r => Host.dotGeneral dot_S512x256_S4x256x256_S512x4x256_1_1_0_02_n_n none l r) : (⟨S512x256, .f32⟩ : BufTy).Contents (Elt F) → (⟨S4x256x256, .f32⟩ : BufTy).Contents (Elt F) → (⟨S512x4x256, .f32⟩ : BufTy).Contents (Elt F)),
    unary main_v159 main_v160 ((transpose S4x512x256 [1, 0, 2] · transposes_S512x4x256_S4x512x256_1_0_2) : (⟨S512x4x256, .f32⟩ : BufTy).Contents (Elt F) → (⟨S4x512x256, .f32⟩ : BufTy).Contents (Elt F)),
    binary main_v155 main_v160 main_v161 (addf : (⟨S4x512x256, .f32⟩ : BufTy).Contents (Elt F) → (⟨S4x512x256, .f32⟩ : BufTy).Contents (Elt F) → (⟨S4x512x256, .f32⟩ : BufTy).Contents (Elt F)),
    unary main_v150 main_v162 ((Host.slice S4x256x256 ![0, 0, 2] ![1, 1, 4] · slicesBy_S4x256x1027_S4x256x256_0s1_0s1_2s4) : (⟨S4x256x1027, .f32⟩ : BufTy).Contents (Elt F) → (⟨S4x256x256, .f32⟩ : BufTy).Contents (Elt F)),
    unary main_arg7 main_v163 ((extractStridedSlice S512x256x1 ![0, 0, 2] · slices_S512x256x7_S512x256x1_0_0_2) : (⟨S512x256x7, .f32⟩ : BufTy).Contents (Elt F) → (⟨S512x256x1, .f32⟩ : BufTy).Contents (Elt F)),
    reshape main_v163 main_v164 (rfl : (.f32 : EltTy) = .f32) shapeCasts_S512x256x1_S512x256,
    binary main_v164 main_v162 main_v165 ((fun l r => Host.dotGeneral dot_S512x256_S4x256x256_S512x4x256_1_1_0_02_n_n none l r) : (⟨S512x256, .f32⟩ : BufTy).Contents (Elt F) → (⟨S4x256x256, .f32⟩ : BufTy).Contents (Elt F) → (⟨S512x4x256, .f32⟩ : BufTy).Contents (Elt F)),
    unary main_v165 main_v166 ((transpose S4x512x256 [1, 0, 2] · transposes_S512x4x256_S4x512x256_1_0_2) : (⟨S512x4x256, .f32⟩ : BufTy).Contents (Elt F) → (⟨S4x512x256, .f32⟩ : BufTy).Contents (Elt F)),
    binary main_v161 main_v166 main_v167 (addf : (⟨S4x512x256, .f32⟩ : BufTy).Contents (Elt F) → (⟨S4x512x256, .f32⟩ : BufTy).Contents (Elt F) → (⟨S4x512x256, .f32⟩ : BufTy).Contents (Elt F)),
    unary main_v150 main_v168 ((Host.slice S4x256x256 ![0, 0, 3] ![1, 1, 4] · slicesBy_S4x256x1027_S4x256x256_0s1_0s1_3s4) : (⟨S4x256x1027, .f32⟩ : BufTy).Contents (Elt F) → (⟨S4x256x256, .f32⟩ : BufTy).Contents (Elt F)),
    unary main_arg7 main_v169 ((extractStridedSlice S512x256x1 ![0, 0, 3] · slices_S512x256x7_S512x256x1_0_0_3) : (⟨S512x256x7, .f32⟩ : BufTy).Contents (Elt F) → (⟨S512x256x1, .f32⟩ : BufTy).Contents (Elt F)),
    reshape main_v169 main_v170 (rfl : (.f32 : EltTy) = .f32) shapeCasts_S512x256x1_S512x256,
    binary main_v170 main_v168 main_v171 ((fun l r => Host.dotGeneral dot_S512x256_S4x256x256_S512x4x256_1_1_0_02_n_n none l r) : (⟨S512x256, .f32⟩ : BufTy).Contents (Elt F) → (⟨S4x256x256, .f32⟩ : BufTy).Contents (Elt F) → (⟨S512x4x256, .f32⟩ : BufTy).Contents (Elt F)),
    unary main_v171 main_v172 ((transpose S4x512x256 [1, 0, 2] · transposes_S512x4x256_S4x512x256_1_0_2) : (⟨S512x4x256, .f32⟩ : BufTy).Contents (Elt F) → (⟨S4x512x256, .f32⟩ : BufTy).Contents (Elt F)),
    binary main_v167 main_v172 main_v173 (addf : (⟨S4x512x256, .f32⟩ : BufTy).Contents (Elt F) → (⟨S4x512x256, .f32⟩ : BufTy).Contents (Elt F) → (⟨S4x512x256, .f32⟩ : BufTy).Contents (Elt F)),
    unary main_v150 main_v174 ((Host.slice S4x256x256 ![0, 0, 4] ![1, 1, 4] · slicesBy_S4x256x1027_S4x256x256_0s1_0s1_4s4) : (⟨S4x256x1027, .f32⟩ : BufTy).Contents (Elt F) → (⟨S4x256x256, .f32⟩ : BufTy).Contents (Elt F)),
    unary main_arg7 main_v175 ((extractStridedSlice S512x256x1 ![0, 0, 4] · slices_S512x256x7_S512x256x1_0_0_4) : (⟨S512x256x7, .f32⟩ : BufTy).Contents (Elt F) → (⟨S512x256x1, .f32⟩ : BufTy).Contents (Elt F)),
    reshape main_v175 main_v176 (rfl : (.f32 : EltTy) = .f32) shapeCasts_S512x256x1_S512x256,
    binary main_v176 main_v174 main_v177 ((fun l r => Host.dotGeneral dot_S512x256_S4x256x256_S512x4x256_1_1_0_02_n_n none l r) : (⟨S512x256, .f32⟩ : BufTy).Contents (Elt F) → (⟨S4x256x256, .f32⟩ : BufTy).Contents (Elt F) → (⟨S512x4x256, .f32⟩ : BufTy).Contents (Elt F)),
    unary main_v177 main_v178 ((transpose S4x512x256 [1, 0, 2] · transposes_S512x4x256_S4x512x256_1_0_2) : (⟨S512x4x256, .f32⟩ : BufTy).Contents (Elt F) → (⟨S4x512x256, .f32⟩ : BufTy).Contents (Elt F)),
    binary main_v173 main_v178 main_v179 (addf : (⟨S4x512x256, .f32⟩ : BufTy).Contents (Elt F) → (⟨S4x512x256, .f32⟩ : BufTy).Contents (Elt F) → (⟨S4x512x256, .f32⟩ : BufTy).Contents (Elt F)),
    unary main_v150 main_v180 ((Host.slice S4x256x256 ![0, 0, 5] ![1, 1, 4] · slicesBy_S4x256x1027_S4x256x256_0s1_0s1_5s4) : (⟨S4x256x1027, .f32⟩ : BufTy).Contents (Elt F) → (⟨S4x256x256, .f32⟩ : BufTy).Contents (Elt F)),
    unary main_arg7 main_v181 ((extractStridedSlice S512x256x1 ![0, 0, 5] · slices_S512x256x7_S512x256x1_0_0_5) : (⟨S512x256x7, .f32⟩ : BufTy).Contents (Elt F) → (⟨S512x256x1, .f32⟩ : BufTy).Contents (Elt F)),
    reshape main_v181 main_v182 (rfl : (.f32 : EltTy) = .f32) shapeCasts_S512x256x1_S512x256,
    binary main_v182 main_v180 main_v183 ((fun l r => Host.dotGeneral dot_S512x256_S4x256x256_S512x4x256_1_1_0_02_n_n none l r) : (⟨S512x256, .f32⟩ : BufTy).Contents (Elt F) → (⟨S4x256x256, .f32⟩ : BufTy).Contents (Elt F) → (⟨S512x4x256, .f32⟩ : BufTy).Contents (Elt F)),
    unary main_v183 main_v184 ((transpose S4x512x256 [1, 0, 2] · transposes_S512x4x256_S4x512x256_1_0_2) : (⟨S512x4x256, .f32⟩ : BufTy).Contents (Elt F) → (⟨S4x512x256, .f32⟩ : BufTy).Contents (Elt F)),
    binary main_v179 main_v184 main_v185 (addf : (⟨S4x512x256, .f32⟩ : BufTy).Contents (Elt F) → (⟨S4x512x256, .f32⟩ : BufTy).Contents (Elt F) → (⟨S4x512x256, .f32⟩ : BufTy).Contents (Elt F)),
    unary main_v150 main_v186 ((Host.slice S4x256x256 ![0, 0, 6] ![1, 1, 4] · slicesBy_S4x256x1027_S4x256x256_0s1_0s1_6s4) : (⟨S4x256x1027, .f32⟩ : BufTy).Contents (Elt F) → (⟨S4x256x256, .f32⟩ : BufTy).Contents (Elt F)),
    unary main_arg7 main_v187 ((extractStridedSlice S512x256x1 ![0, 0, 6] · slices_S512x256x7_S512x256x1_0_0_6) : (⟨S512x256x7, .f32⟩ : BufTy).Contents (Elt F) → (⟨S512x256x1, .f32⟩ : BufTy).Contents (Elt F)),
    reshape main_v187 main_v188 (rfl : (.f32 : EltTy) = .f32) shapeCasts_S512x256x1_S512x256,
    binary main_v188 main_v186 main_v189 ((fun l r => Host.dotGeneral dot_S512x256_S4x256x256_S512x4x256_1_1_0_02_n_n none l r) : (⟨S512x256, .f32⟩ : BufTy).Contents (Elt F) → (⟨S4x256x256, .f32⟩ : BufTy).Contents (Elt F) → (⟨S512x4x256, .f32⟩ : BufTy).Contents (Elt F)),
    unary main_v189 main_v190 ((transpose S4x512x256 [1, 0, 2] · transposes_S512x4x256_S4x512x256_1_0_2) : (⟨S512x4x256, .f32⟩ : BufTy).Contents (Elt F) → (⟨S4x512x256, .f32⟩ : BufTy).Contents (Elt F)),
    binary main_v185 main_v190 main_v191 (addf : (⟨S4x512x256, .f32⟩ : BufTy).Contents (Elt F) → (⟨S4x512x256, .f32⟩ : BufTy).Contents (Elt F) → (⟨S4x512x256, .f32⟩ : BufTy).Contents (Elt F)),
    unary main_arg8 main_v192 (broadcastInDim S1x512x1 ![1] bcast_S512_S1x512x1_1 : (⟨S512, .f32⟩ : BufTy).Contents (Elt F) → (⟨S1x512x1, .f32⟩ : BufTy).Contents (Elt F)),
    unary main_v192 main_v193 (broadcastInDim S4x512x256 ![0, 1, 2] bcast_S1x512x1_S4x512x256_0_1_2 : (⟨S1x512x1, .f32⟩ : BufTy).Contents (Elt F) → (⟨S4x512x256, .f32⟩ : BufTy).Contents (Elt F)),
    binary main_v191 main_v193 main_v194 (addf : (⟨S4x512x256, .f32⟩ : BufTy).Contents (Elt F) → (⟨S4x512x256, .f32⟩ : BufTy).Contents (Elt F) → (⟨S4x512x256, .f32⟩ : BufTy).Contents (Elt F)) ]

/-- The references that `opsE4` writes. -/
def opsE4_W : List (Ref sig .tc) :=
  [main_cst_8, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194]

/-- The operations of the fourth encoder layer write only the listed buffers. -/
theorem opsE4_writes : (opsE4 (F := F)).Forall fun op => op.writes ⊆ ((opsE4_W).map (Proc.devRef (τ := τ) .tc)).toFinset :=
  forall_writes_sub_of_map rfl

/-- The operations of the vector quantisation and the modulation. -/
def opsQ : List (HloOp τ sig (Elt F)) :=
  [ nullary main_cst_9 (constant S_ .f32 0x00000000#32),
    binary main_v194 main_cst_9 main_v195 ((fun x v => Host.reduceAdd x v reducesTo_S4x512x256_S4x512_d2 h_S_) : (⟨S4x512x256, .f32⟩ : BufTy).Contents (Elt F) → (⟨S_, .f32⟩ : BufTy).Contents (Elt F) → (⟨S4x512, .f32⟩ : BufTy).Contents (Elt F)),
    nullary main_cst_10 (constant S_ .f32 0x43800000#32),
    unary main_cst_10 main_v196 (broadcastInDim S4x512 ![] bcast_S_S4x512 : (⟨S_, .f32⟩ : BufTy).Contents (Elt F) → (⟨S4x512, .f32⟩ : BufTy).Contents (Elt F)),
    binary main_v195 main_v196 main_v197 (Host.divf : (⟨S4x512, .f32⟩ : BufTy).Contents (Elt F) → (⟨S4x512, .f32⟩ : BufTy).Contents (Elt F) → (⟨S4x512, .f32⟩ : BufTy).Contents (Elt F)),
    unary main_v194 main_v198 ((transpose S4x256x512 [0, 2, 1] · transposes_S4x512x256_S4x256x512_0_2_1) : (⟨S4x512x256, .f32⟩ : BufTy).Contents (Elt F) → (⟨S4x256x512, .f32⟩ : BufTy).Contents (Elt F)),
    reshape main_v198 main_v199 (rfl : (.f32 : EltTy) = .f32) shapeCasts_S4x256x512_S1024x512,
    binary main_v199 main_v199 main_v200 (mulf : (⟨S1024x512, .f32⟩ : BufTy).Contents (Elt F) → (⟨S1024x512, .f32⟩ : BufTy).Contents (Elt F) → (⟨S1024x512, .f32⟩ : BufTy).Contents (Elt F)),
    nullary main_cst_11 (constant S_ .f32 0x00000000#32),
    binary main_v200 main_cst_11 main_v201 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v201 main_v202 (broadcastInDim S1024x1 ![0] bcast_S1024_S1024x1_0 : (⟨S1024, .f32⟩ : BufTy).Contents (Elt F) → (⟨S1024x1, .f32⟩ : BufTy).Contents (Elt F)),
    nullary main_cst_12 (constant S_ .f32 0x40000000#32),
    unary main_cst_12 main_v203 (broadcastInDim S1024x512 ![] bcast_S_S1024x512 : (⟨S_, .f32⟩ : BufTy).Contents (Elt F) → (⟨S1024x512, .f32⟩ : BufTy).Contents (Elt F)),
    binary main_v203 main_v199 main_v204 (mulf : (⟨S1024x512, .f32⟩ : BufTy).Contents (Elt F) → (⟨S1024x512, .f32⟩ : BufTy).Contents (Elt F) → (⟨S1024x512, .f32⟩ : BufTy).Contents (Elt F)),
    unary main_arg9 main_v205 ((transpose S512x1024 [1, 0] · transposes_S1024x512_S512x1024_1_0) : (⟨S1024x512, .f32⟩ : BufTy).Contents (Elt F) → (⟨S512x1024, .f32⟩ : BufTy).Contents (Elt F)),
    binary main_v204 main_v205 main_v206 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    unary main_v202 main_v207 (broadcastInDim S1024x1024 ![0, 1] bcast_S1024x1_S1024x1024_0_1 : (⟨S1024x1, .f32⟩ : BufTy).Contents (Elt F) → (⟨S1024x1024, .f32⟩ : BufTy).Contents (Elt F)),
    binary main_v207 main_v206 main_v208 (subf : (⟨S1024x1024, .f32⟩ : BufTy).Contents (Elt F) → (⟨S1024x1024, .f32⟩ : BufTy).Contents (Elt F) → (⟨S1024x1024, .f32⟩ : BufTy).Contents (Elt F)),
    binary main_arg9 main_arg9 main_v209 (mulf : (⟨S1024x512, .f32⟩ : BufTy).Contents (Elt F) → (⟨S1024x512, .f32⟩ : BufTy).Contents (Elt F) → (⟨S1024x512, .f32⟩ : BufTy).Contents (Elt F)),
    nullary main_cst_13 (constant S_ .f32 0x00000000#32),
    binary main_v209 main_cst_13 main_v210 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v210 main_v211 (broadcastInDim S1x1024 ![1] bcast_S1024_S1x1024_1 : (⟨S1024, .f32⟩ : BufTy).Contents (Elt F) → (⟨S1x1024, .f32⟩ : BufTy).Contents (Elt F)),
    unary main_v211 main_v212 (broadcastInDim S1024x1024 ![0, 1] bcast_S1x1024_S1024x1024_0_1 : (⟨S1x1024, .f32⟩ : BufTy).Contents (Elt F) → (⟨S1024x1024, .f32⟩ : BufTy).Contents (Elt F)),
    binary main_v208 main_v212 main_v213 (addf : (⟨S1024x1024, .f32⟩ : BufTy).Contents (Elt F) → (⟨S1024x1024, .f32⟩ : BufTy).Contents (Elt F) → (⟨S1024x1024, .f32⟩ : BufTy).Contents (Elt F)),
    nullary main_call3_v0 (iotaInDim S1024x1024 32 1),
    nullary main_call3_cst (constant S_ .f32 0x7F800000#32),
    nullary main_call3_c (constantI S_ 32 0#32),
    quaternary main_v213 main_call3_v0 main_call3_cst main_call3_c main_call3_v1_0 (fun x y u v j => (Host.argReduce reducer_argmin_f32_i32 x y u v reducesTo_S1024x1024_S1024_d1 h_S_ j).1),
    quaternary main_v213 main_call3_v0 main_call3_cst main_call3_c main_v214 (fun x y u v j => (Host.argReduce reducer_argmin_f32_i32 x y u v reducesTo_S1024x1024_S1024_d1 h_S_ j).2),
    nullary main_call4_c (constantI S_ 32 0#32),
    unary main_call4_c main_call4_v0 (broadcastInDim S1024 ![] bcast_S_S1024),
    binary main_v214 main_call4_v0 main_call4_v1 (cmpi .slt),
    nullary main_call4_c_0 (constantI S_ 32 1024#32),
    unary main_call4_c_0 main_call4_v2 (broadcastInDim S1024 ![] bcast_S_S1024),
    binary main_v214 main_call4_v2 main_call4_v3 addi,
    ternary main_call4_v1 main_call4_v3 main_v214 main_call4_v4 select,
    unary main_call4_v4 main_call4_v5 (broadcastInDim S1024x1 ![0] bcast_S1024_S1024x1_0),
    nullary main_call4_c_1 (constantI S1 32 1023#32),
    nullary main_call4_c_2 (constantI S_ 32 0#32),
    unary main_call4_c_2 main_call4_v6 (broadcastInDim S1024x1 ![] bcast_S_S1024x1),
    binary main_call4_v5 main_call4_v6 main_call4_v7 (cmpi .sge),
    unary main_call4_c_1 main_call4_v8 (broadcastInDim S1x1 ![1] bcast_S1_S1x1_1),
    unary main_call4_v8 main_call4_v9 (broadcastInDim S1024x1 ![0, 1] bcast_S1x1_S1024x1_0_1),
    binary main_call4_v5 main_call4_v9 main_call4_v10 (cmpi .sle),
    binary main_call4_v7 main_call4_v10 main_call4_v11 andi,
    nullary main_call4_c_3 (constantI S_ 1 1#1),
    binary main_call4_v11 main_call4_c_3 main_call4_v12 (fun x v => Host.reduce IntOp.andi x v reducesTo_S1024x1_S1024_d1 h_S_),
    binary main_arg9 main_call4_v5 main_call4_v13 (fun x i => Host.gather gather_S1024x512_S1024x1_S1024x512_1_0_n_n_0_1_1512 x i),
    unary main_call4_v12 main_call4_v14 (broadcastInDim S1024x512 ![0] bcast_S1024_S1024x512_0),
    nullary main_call4_cst (constant S_ .f32 0x7FC00000#32),
    unary main_call4_cst main_call4_v15 (broadcastInDim S1024x512 ![] bcast_S_S1024x512),
    ternary main_call4_v14 main_call4_v13 main_call4_v15 main_v215 select,
    reshape main_v215 main_v216 (rfl : (.f32 : EltTy) = .f32) shapeCasts_S1024x512_S4x256x512,
    unary main_v216 main_v217 ((transpose S4x512x256 [0, 2, 1] · transposes_S4x256x512_S4x512x256_0_2_1) : (⟨S4x256x512, .f32⟩ : BufTy).Contents (Elt F) → (⟨S4x512x256, .f32⟩ : BufTy).Contents (Elt F)),
    unary main_arg10 main_v218 ((transpose S512x512 [1, 0] · transposes_S512x512_S512x512_1_0) : (⟨S512x512, .f32⟩ : BufTy).Contents (Elt F) → (⟨S512x512, .f32⟩ : BufTy).Contents (Elt F)),
    binary main_v197 main_v218 main_v219 ((fun l r => Host.dotGeneral dot_S4x512_S512x512_S4x512_1_0_0_1_n_n none l r) : (⟨S4x512, .f32⟩ : BufTy).Contents (Elt F) → (⟨S512x512, .f32⟩ : BufTy).Contents (Elt F) → (⟨S4x512, .f32⟩ : BufTy).Contents (Elt F)),
    unary main_arg11 main_v220 (broadcastInDim S1x512 ![1] bcast_S512_S1x512_1 : (⟨S512, .f32⟩ : BufTy).Contents (Elt F) → (⟨S1x512, .f32⟩ : BufTy).Contents (Elt F)),
    unary main_v220 main_v221 (broadcastInDim S4x512 ![0, 1] bcast_S1x512_S4x512_0_1 : (⟨S1x512, .f32⟩ : BufTy).Contents (Elt F) → (⟨S4x512, .f32⟩ : BufTy).Contents (Elt F)),
    binary main_v219 main_v221 main_v222 (addf : (⟨S4x512, .f32⟩ : BufTy).Contents (Elt F) → (⟨S4x512, .f32⟩ : BufTy).Contents (Elt F) → (⟨S4x512, .f32⟩ : BufTy).Contents (Elt F)),
    unary main_arg12 main_v223 ((transpose S512x1024 [1, 0] · transposes_S1024x512_S512x1024_1_0) : (⟨S1024x512, .f32⟩ : BufTy).Contents (Elt F) → (⟨S512x1024, .f32⟩ : BufTy).Contents (Elt F)),
    binary main_v222 main_v223 main_v224 ((fun l r => Host.dotGeneral dot_S4x512_S512x1024_S4x1024_1_0_0_1_n_n none l r) : (⟨S4x512, .f32⟩ : BufTy).Contents (Elt F) → (⟨S512x1024, .f32⟩ : BufTy).Contents (Elt F) → (⟨S4x1024, .f32⟩ : BufTy).Contents (Elt F)),
    unary main_arg13 main_v225 (broadcastInDim S1x1024 ![1] bcast_S1024_S1x1024_1 : (⟨S1024, .f32⟩ : BufTy).Contents (Elt F) → (⟨S1x1024, .f32⟩ : BufTy).Contents (Elt F)),
    unary main_v225 main_v226 (broadcastInDim S4x1024 ![0, 1] bcast_S1x1024_S4x1024_0_1 : (⟨S1x1024, .f32⟩ : BufTy).Contents (Elt F) → (⟨S4x1024, .f32⟩ : BufTy).Contents (Elt F)),
    binary main_v224 main_v226 main_v227 (addf : (⟨S4x1024, .f32⟩ : BufTy).Contents (Elt F) → (⟨S4x1024, .f32⟩ : BufTy).Contents (Elt F) → (⟨S4x1024, .f32⟩ : BufTy).Contents (Elt F)),
    unary main_v227 main_v228 ((extractStridedSlice S4x512 ![0, 0] · slices_S4x1024_S4x512_0_0) : (⟨S4x1024, .f32⟩ : BufTy).Contents (Elt F) → (⟨S4x512, .f32⟩ : BufTy).Contents (Elt F)),
    unary main_v227 main_v229 ((extractStridedSlice S4x512 ![0, 512] · slices_S4x1024_S4x512_0_512) : (⟨S4x1024, .f32⟩ : BufTy).Contents (Elt F) → (⟨S4x512, .f32⟩ : BufTy).Contents (Elt F)),
    unary main_v228 main_v230 (broadcastInDim S4x512x1 ![0, 1] bcast_S4x512_S4x512x1_0_1 : (⟨S4x512, .f32⟩ : BufTy).Contents (Elt F) → (⟨S4x512x1, .f32⟩ : BufTy).Contents (Elt F)),
    unary main_v230 main_v231 (broadcastInDim S4x512x256 ![0, 1, 2] bcast_S4x512x1_S4x512x256_0_1_2 : (⟨S4x512x1, .f32⟩ : BufTy).Contents (Elt F) → (⟨S4x512x256, .f32⟩ : BufTy).Contents (Elt F)),
    binary main_v231 main_v217 main_v232 (mulf : (⟨S4x512x256, .f32⟩ : BufTy).Contents (Elt F) → (⟨S4x512x256, .f32⟩ : BufTy).Contents (Elt F) → (⟨S4x512x256, .f32⟩ : BufTy).Contents (Elt F)),
    unary main_v229 main_v233 (broadcastInDim S4x512x1 ![0, 1] bcast_S4x512_S4x512x1_0_1 : (⟨S4x512, .f32⟩ : BufTy).Contents (Elt F) → (⟨S4x512x1, .f32⟩ : BufTy).Contents (Elt F)),
    unary main_v233 main_v234 (broadcastInDim S4x512x256 ![0, 1, 2] bcast_S4x512x1_S4x512x256_0_1_2 : (⟨S4x512x1, .f32⟩ : BufTy).Contents (Elt F) → (⟨S4x512x256, .f32⟩ : BufTy).Contents (Elt F)),
    binary main_v232 main_v234 main_v235 (addf : (⟨S4x512x256, .f32⟩ : BufTy).Contents (Elt F) → (⟨S4x512x256, .f32⟩ : BufTy).Contents (Elt F) → (⟨S4x512x256, .f32⟩ : BufTy).Contents (Elt F)) ]

/-- The references that `opsQ` writes. -/
def opsQ_W : List (Ref sig .tc) :=
  [main_cst_9, main_v195, main_cst_10, main_v196, main_v197, main_v198, main_v199, main_v200, main_cst_11, main_v201, main_v202, main_cst_12, main_v203, main_v204, main_v205, main_v206, main_v207, main_v208, main_v209, main_cst_13, main_v210, main_v211, main_v212, main_v213, main_call3_v0, main_call3_cst, main_call3_c, main_call3_v1_0, main_v214, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v215, main_v216, main_v217, main_v218, main_v219, main_v220, main_v221, main_v222, main_v223, main_v224, main_v225, main_v226, main_v227, main_v228, main_v229, main_v230, main_v231, main_v232, main_v233, main_v234, main_v235]

/-- The operations of the quantiser and FiLM write only the listed buffers. -/
theorem opsQ_writes : (opsQ (F := F)).Forall fun op => op.writes ⊆ ((opsQ_W).map (Proc.devRef (τ := τ) .tc)).toFinset :=
  forall_writes_sub_of_map rfl

/-- The operations of the first decoder layer. -/
def opsD1 : List (HloOp τ sig (Elt F)) :=
  [ nullary main_cst_14 (constant S_ .f32 0x00000000#32),
    binary main_v235 main_cst_14 main_v236 ((fun x v => pad S4x512x1030 ![0, 0, 5] ![0, 0, 4] ![0, 0, 3] x v pads_S4x512x256_S4x512x1030_000_000_543 h_S_) : (⟨S4x512x256, .f32⟩ : BufTy).Contents (Elt F) → (⟨S_, .f32⟩ : BufTy).Contents (Elt F) → (⟨S4x512x1030, .f32⟩ : BufTy).Contents (Elt F)),
    unary main_v236 main_v237 ((extractStridedSlice S4x512x1024 ![0, 0, 0] · slices_S4x512x1030_S4x512x1024_0_0_0) : (⟨S4x512x1030, .f32⟩ : BufTy).Contents (Elt F) → (⟨S4x512x1024, .f32⟩ : BufTy).Contents (Elt F)),
    unary main_arg14 main_v238 ((extractStridedSlice S256x512x1 ![0, 0, 0] · slices_S256x512x7_S256x512x1_0_0_0) : (⟨S256x512x7, .f32⟩ : BufTy).Contents (Elt F) → (⟨S256x512x1, .f32⟩ : BufTy).Contents (Elt F)),
    reshape main_v238 main_v239 (rfl : (.f32 : EltTy) = .f32) shapeCasts_S256x512x1_S256x512,
    binary main_v239 main_v237 main_v240 ((fun l r => Host.dotGeneral dot_S256x512_S4x512x1024_S256x4x1024_1_1_0_02_n_n none l r) : (⟨S256x512, .f32⟩ : BufTy).Contents (Elt F) → (⟨S4x512x1024, .f32⟩ : BufTy).Contents (Elt F) → (⟨S256x4x1024, .f32⟩ : BufTy).Contents (Elt F)),
    unary main_v240 main_v241 ((transpose S4x256x1024 [1, 0, 2] · transposes_S256x4x1024_S4x256x1024_1_0_2) : (⟨S256x4x1024, .f32⟩ : BufTy).Contents (Elt F) → (⟨S4x256x1024, .f32⟩ : BufTy).Contents (Elt F)),
    unary main_v236 main_v242 ((extractStridedSlice S4x512x1024 ![0, 0, 1] · slices_S4x512x1030_S4x512x1024_0_0_1) : (⟨S4x512x1030, .f32⟩ : BufTy).Contents (Elt F) → (⟨S4x512x1024, .f32⟩ : BufTy).Contents (Elt F)),
    unary main_arg14 main_v243 ((extractStridedSlice S256x512x1 ![0, 0, 1] · slices_S256x512x7_S256x512x1_0_0_1) : (⟨S256x512x7, .f32⟩ : BufTy).Contents (Elt F) → (⟨S256x512x1, .f32⟩ : BufTy).Contents (Elt F)),
    reshape main_v243 main_v244 (rfl : (.f32 : EltTy) = .f32) shapeCasts_S256x512x1_S256x512,
    binary main_v244 main_v242 main_v245 ((fun l r => Host.dotGeneral dot_S256x512_S4x512x1024_S256x4x1024_1_1_0_02_n_n none l r) : (⟨S256x512, .f32⟩ : BufTy).Contents (Elt F) → (⟨S4x512x1024, .f32⟩ : BufTy).Contents (Elt F) → (⟨S256x4x1024, .f32⟩ : BufTy).Contents (Elt F)),
    unary main_v245 main_v246 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v241 main_v246 main_v247 (addf : (⟨S4x256x1024, .f32⟩ : BufTy).Contents (Elt F) → (⟨S4x256x1024, .f32⟩ : BufTy).Contents (Elt F) → (⟨S4x256x1024, .f32⟩ : BufTy).Contents (Elt F)),
    unary main_v236 main_v248 ((extractStridedSlice S4x512x1024 ![0, 0, 2] · slices_S4x512x1030_S4x512x1024_0_0_2) : (⟨S4x512x1030, .f32⟩ : BufTy).Contents (Elt F) → (⟨S4x512x1024, .f32⟩ : BufTy).Contents (Elt F)),
    unary main_arg14 main_v249 ((extractStridedSlice S256x512x1 ![0, 0, 2] · slices_S256x512x7_S256x512x1_0_0_2) : (⟨S256x512x7, .f32⟩ : BufTy).Contents (Elt F) → (⟨S256x512x1, .f32⟩ : BufTy).Contents (Elt F)),
    reshape main_v249 main_v250 (rfl : (.f32 : EltTy) = .f32) shapeCasts_S256x512x1_S256x512,
    binary main_v250 main_v248 main_v251 ((fun l r => Host.dotGeneral dot_S256x512_S4x512x1024_S256x4x1024_1_1_0_02_n_n none l r) : (⟨S256x512, .f32⟩ : BufTy).Contents (Elt F) → (⟨S4x512x1024, .f32⟩ : BufTy).Contents (Elt F) → (⟨S256x4x1024, .f32⟩ : BufTy).Contents (Elt F)),
    unary main_v251 main_v252 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v247 main_v252 main_v253 (addf : (⟨S4x256x1024, .f32⟩ : BufTy).Contents (Elt F) → (⟨S4x256x1024, .f32⟩ : BufTy).Contents (Elt F) → (⟨S4x256x1024, .f32⟩ : BufTy).Contents (Elt F)),
    unary main_v236 main_v254 ((extractStridedSlice S4x512x1024 ![0, 0, 3] · slices_S4x512x1030_S4x512x1024_0_0_3) : (⟨S4x512x1030, .f32⟩ : BufTy).Contents (Elt F) → (⟨S4x512x1024, .f32⟩ : BufTy).Contents (Elt F)),
    unary main_arg14 main_v255 ((extractStridedSlice S256x512x1 ![0, 0, 3] · slices_S256x512x7_S256x512x1_0_0_3) : (⟨S256x512x7, .f32⟩ : BufTy).Contents (Elt F) → (⟨S256x512x1, .f32⟩ : BufTy).Contents (Elt F)),
    reshape main_v255 main_v256 (rfl : (.f32 : EltTy) = .f32) shapeCasts_S256x512x1_S256x512,
    binary main_v256 main_v254 main_v257 ((fun l r => Host.dotGeneral dot_S256x512_S4x512x1024_S256x4x1024_1_1_0_02_n_n none l r) : (⟨S256x512, .f32⟩ : BufTy).Contents (Elt F) → (⟨S4x512x1024, .f32⟩ : BufTy).Contents (Elt F) → (⟨S256x4x1024, .f32⟩ : BufTy).Contents (Elt F)),
    unary main_v257 main_v258 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v253 main_v258 main_v259 (addf : (⟨S4x256x1024, .f32⟩ : BufTy).Contents (Elt F) → (⟨S4x256x1024, .f32⟩ : BufTy).Contents (Elt F) → (⟨S4x256x1024, .f32⟩ : BufTy).Contents (Elt F)),
    unary main_v236 main_v260 ((extractStridedSlice S4x512x1024 ![0, 0, 4] · slices_S4x512x1030_S4x512x1024_0_0_4) : (⟨S4x512x1030, .f32⟩ : BufTy).Contents (Elt F) → (⟨S4x512x1024, .f32⟩ : BufTy).Contents (Elt F)),
    unary main_arg14 main_v261 ((extractStridedSlice S256x512x1 ![0, 0, 4] · slices_S256x512x7_S256x512x1_0_0_4) : (⟨S256x512x7, .f32⟩ : BufTy).Contents (Elt F) → (⟨S256x512x1, .f32⟩ : BufTy).Contents (Elt F)),
    reshape main_v261 main_v262 (rfl : (.f32 : EltTy) = .f32) shapeCasts_S256x512x1_S256x512,
    binary main_v262 main_v260 main_v263 ((fun l r => Host.dotGeneral dot_S256x512_S4x512x1024_S256x4x1024_1_1_0_02_n_n none l r) : (⟨S256x512, .f32⟩ : BufTy).Contents (Elt F) → (⟨S4x512x1024, .f32⟩ : BufTy).Contents (Elt F) → (⟨S256x4x1024, .f32⟩ : BufTy).Contents (Elt F)),
    unary main_v263 main_v264 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v259 main_v264 main_v265 (addf : (⟨S4x256x1024, .f32⟩ : BufTy).Contents (Elt F) → (⟨S4x256x1024, .f32⟩ : BufTy).Contents (Elt F) → (⟨S4x256x1024, .f32⟩ : BufTy).Contents (Elt F)),
    unary main_v236 main_v266 ((extractStridedSlice S4x512x1024 ![0, 0, 5] · slices_S4x512x1030_S4x512x1024_0_0_5) : (⟨S4x512x1030, .f32⟩ : BufTy).Contents (Elt F) → (⟨S4x512x1024, .f32⟩ : BufTy).Contents (Elt F)),
    unary main_arg14 main_v267 ((extractStridedSlice S256x512x1 ![0, 0, 5] · slices_S256x512x7_S256x512x1_0_0_5) : (⟨S256x512x7, .f32⟩ : BufTy).Contents (Elt F) → (⟨S256x512x1, .f32⟩ : BufTy).Contents (Elt F)),
    reshape main_v267 main_v268 (rfl : (.f32 : EltTy) = .f32) shapeCasts_S256x512x1_S256x512,
    binary main_v268 main_v266 main_v269 ((fun l r => Host.dotGeneral dot_S256x512_S4x512x1024_S256x4x1024_1_1_0_02_n_n none l r) : (⟨S256x512, .f32⟩ : BufTy).Contents (Elt F) → (⟨S4x512x1024, .f32⟩ : BufTy).Contents (Elt F) → (⟨S256x4x1024, .f32⟩ : BufTy).Contents (Elt F)),
    unary main_v269 main_v270 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v265 main_v270 main_v271 (addf : (⟨S4x256x1024, .f32⟩ : BufTy).Contents (Elt F) → (⟨S4x256x1024, .f32⟩ : BufTy).Contents (Elt F) → (⟨S4x256x1024, .f32⟩ : BufTy).Contents (Elt F)),
    unary main_v236 main_v272 ((extractStridedSlice S4x512x1024 ![0, 0, 6] · slices_S4x512x1030_S4x512x1024_0_0_6) : (⟨S4x512x1030, .f32⟩ : BufTy).Contents (Elt F) → (⟨S4x512x1024, .f32⟩ : BufTy).Contents (Elt F)),
    unary main_arg14 main_v273 ((extractStridedSlice S256x512x1 ![0, 0, 6] · slices_S256x512x7_S256x512x1_0_0_6) : (⟨S256x512x7, .f32⟩ : BufTy).Contents (Elt F) → (⟨S256x512x1, .f32⟩ : BufTy).Contents (Elt F)),
    reshape main_v273 main_v274 (rfl : (.f32 : EltTy) = .f32) shapeCasts_S256x512x1_S256x512,
    binary main_v274 main_v272 main_v275 ((fun l r => Host.dotGeneral dot_S256x512_S4x512x1024_S256x4x1024_1_1_0_02_n_n none l r) : (⟨S256x512, .f32⟩ : BufTy).Contents (Elt F) → (⟨S4x512x1024, .f32⟩ : BufTy).Contents (Elt F) → (⟨S256x4x1024, .f32⟩ : BufTy).Contents (Elt F)),
    unary main_v275 main_v276 ((transpose S4x256x1024 [1, 0, 2] · transposes_S256x4x1024_S4x256x1024_1_0_2) : (⟨S256x4x1024, .f32⟩ : BufTy).Contents (Elt F) → (⟨S4x256x1024, .f32⟩ : BufTy).Contents (Elt F)),
    binary main_v271 main_v276 main_v277 (addf : (⟨S4x256x1024, .f32⟩ : BufTy).Contents (Elt F) → (⟨S4x256x1024, .f32⟩ : BufTy).Contents (Elt F) → (⟨S4x256x1024, .f32⟩ : BufTy).Contents (Elt F)),
    unary main_arg15 main_v278 (broadcastInDim S1x256x1 ![1] bcast_S256_S1x256x1_1 : (⟨S256, .f32⟩ : BufTy).Contents (Elt F) → (⟨S1x256x1, .f32⟩ : BufTy).Contents (Elt F)),
    unary main_v278 main_v279 (broadcastInDim S4x256x1024 ![0, 1, 2] bcast_S1x256x1_S4x256x1024_0_1_2 : (⟨S1x256x1, .f32⟩ : BufTy).Contents (Elt F) → (⟨S4x256x1024, .f32⟩ : BufTy).Contents (Elt F)),
    binary main_v277 main_v279 main_v280 (addf : (⟨S4x256x1024, .f32⟩ : BufTy).Contents (Elt F) → (⟨S4x256x1024, .f32⟩ : BufTy).Contents (Elt F) → (⟨S4x256x1024, .f32⟩ : BufTy).Contents (Elt F)),
    nullary main_cst_15 (constant S_ .f32 0x00000000#32),
    unary main_cst_15 main_v281 (broadcastInDim S4x256x1024 ![] bcast_S_S4x256x1024 : (⟨S_, .f32⟩ : BufTy).Contents (Elt F) → (⟨S4x256x1024, .f32⟩ : BufTy).Contents (Elt F)),
    binary main_v280 main_v281 main_v282 (cmpf .ogt : (⟨S4x256x1024, .f32⟩ : BufTy).Contents (Elt F) → (⟨S4x256x1024, .f32⟩ : BufTy).Contents (Elt F) → (⟨S4x256x1024, .i1⟩ : BufTy).Contents (Elt F)),
    nullary main_cst_16 (constant S_ .f32 0x3DCCCCCD#32),
    unary main_cst_16 main_v283 (broadcastInDim S4x256x1024 ![] bcast_S_S4x256x1024 : (⟨S_, .f32⟩ : BufTy).Contents (Elt F) → (⟨S4x256x1024, .f32⟩ : BufTy).Contents (Elt F)),
    binary main_v283 main_v280 main_v284 (mulf : (⟨S4x256x1024, .f32⟩ : BufTy).Contents (Elt F) → (⟨S4x256x1024, .f32⟩ : BufTy).Contents (Elt F) → (⟨S4x256x1024, .f32⟩ : BufTy).Contents (Elt F)),
    ternary main_v282 main_v280 main_v284 main_v285 select ]

/-- The references that `opsD1` writes. -/
def opsD1_W : List (Ref sig .tc) :=
  [main_cst_14, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_cst_15, main_v281, main_v282, main_cst_16, main_v283, main_v284, main_v285]

/-- The operations of the first decoder layer write only the listed buffers. -/
theorem opsD1_writes : (opsD1 (F := F)).Forall fun op => op.writes ⊆ ((opsD1_W).map (Proc.devRef (τ := τ) .tc)).toFinset :=
  forall_writes_sub_of_map rfl

/-- The operations of the second decoder layer. -/
def opsD2 : List (HloOp τ sig (Elt F)) :=
  [ nullary main_cst_17 (constant S_ .f32 0x00000000#32),
    binary main_v285 main_cst_17 main_v286 ((fun x v => pad S4x256x4102 ![0, 0, 5] ![0, 0, 4] ![0, 0, 3] x v pads_S4x256x1024_S4x256x4102_000_000_543 h_S_) : (⟨S4x256x1024, .f32⟩ : BufTy).Contents (Elt F) → (⟨S_, .f32⟩ : BufTy).Contents (Elt F) → (⟨S4x256x4102, .f32⟩ : BufTy).Contents (Elt F)),
    unary main_v286 main_v287 ((extractStridedSlice S4x256x4096 ![0, 0, 0] · slices_S4x256x4102_S4x256x4096_0_0_0) : (⟨S4x256x4102, .f32⟩ : BufTy).Contents (Elt F) → (⟨S4x256x4096, .f32⟩ : BufTy).Contents (Elt F)),
    unary main_arg16 main_v288 ((extractStridedSlice S128x256x1 ![0, 0, 0] · slices_S128x256x7_S128x256x1_0_0_0) : (⟨S128x256x7, .f32⟩ : BufTy).Contents (Elt F) → (⟨S128x256x1, .f32⟩ : BufTy).Contents (Elt F)),
    reshape main_v288 main_v289 (rfl : (.f32 : EltTy) = .f32) shapeCasts_S128x256x1_S128x256,
    binary main_v289 main_v287 main_v290 ((fun l r => Host.dotGeneral dot_S128x256_S4x256x4096_S128x4x4096_1_1_0_02_n_n none l r) : (⟨S128x256, .f32⟩ : BufTy).Contents (Elt F) → (⟨S4x256x4096, .f32⟩ : BufTy).Contents (Elt F) → (⟨S128x4x4096, .f32⟩ : BufTy).Contents (Elt F)),
    unary main_v290 main_v291 ((transpose S4x128x4096 [1, 0, 2] · transposes_S128x4x4096_S4x128x4096_1_0_2) : (⟨S128x4x4096, .f32⟩ : BufTy).Contents (Elt F) → (⟨S4x128x4096, .f32⟩ : BufTy).Contents (Elt F)),
    unary main_v286 main_v292 ((extractStridedSlice S4x256x4096 ![0, 0, 1] · slices_S4x256x4102_S4x256x4096_0_0_1) : (⟨S4x256x4102, .f32⟩ : BufTy).Contents (Elt F) → (⟨S4x256x4096, .f32⟩ : BufTy).Contents (Elt F)),
    unary main_arg16 main_v293 ((extractStridedSlice S128x256x1 ![0, 0, 1] · slices_S128x256x7_S128x256x1_0_0_1) : (⟨S128x256x7, .f32⟩ : BufTy).Contents (Elt F) → (⟨S128x256x1, .f32⟩ : BufTy).Contents (Elt F)),
    reshape main_v293 main_v294 (rfl : (.f32 : EltTy) = .f32) shapeCasts_S128x256x1_S128x256,
    binary main_v294 main_v292 main_v295 ((fun l r => Host.dotGeneral dot_S128x256_S4x256x4096_S128x4x4096_1_1_0_02_n_n none l r) : (⟨S128x256, .f32⟩ : BufTy).Contents (Elt F) → (⟨S4x256x4096, .f32⟩ : BufTy).Contents (Elt F) → (⟨S128x4x4096, .f32⟩ : BufTy).Contents (Elt F)),
    unary main_v295 main_v296 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v291 main_v296 main_v297 (addf : (⟨S4x128x4096, .f32⟩ : BufTy).Contents (Elt F) → (⟨S4x128x4096, .f32⟩ : BufTy).Contents (Elt F) → (⟨S4x128x4096, .f32⟩ : BufTy).Contents (Elt F)),
    unary main_v286 main_v298 ((extractStridedSlice S4x256x4096 ![0, 0, 2] · slices_S4x256x4102_S4x256x4096_0_0_2) : (⟨S4x256x4102, .f32⟩ : BufTy).Contents (Elt F) → (⟨S4x256x4096, .f32⟩ : BufTy).Contents (Elt F)),
    unary main_arg16 main_v299 ((extractStridedSlice S128x256x1 ![0, 0, 2] · slices_S128x256x7_S128x256x1_0_0_2) : (⟨S128x256x7, .f32⟩ : BufTy).Contents (Elt F) → (⟨S128x256x1, .f32⟩ : BufTy).Contents (Elt F)),
    reshape main_v299 main_v300 (rfl : (.f32 : EltTy) = .f32) shapeCasts_S128x256x1_S128x256,
    binary main_v300 main_v298 main_v301 ((fun l r => Host.dotGeneral dot_S128x256_S4x256x4096_S128x4x4096_1_1_0_02_n_n none l r) : (⟨S128x256, .f32⟩ : BufTy).Contents (Elt F) → (⟨S4x256x4096, .f32⟩ : BufTy).Contents (Elt F) → (⟨S128x4x4096, .f32⟩ : BufTy).Contents (Elt F)),
    unary main_v301 main_v302 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v297 main_v302 main_v303 (addf : (⟨S4x128x4096, .f32⟩ : BufTy).Contents (Elt F) → (⟨S4x128x4096, .f32⟩ : BufTy).Contents (Elt F) → (⟨S4x128x4096, .f32⟩ : BufTy).Contents (Elt F)),
    unary main_v286 main_v304 ((extractStridedSlice S4x256x4096 ![0, 0, 3] · slices_S4x256x4102_S4x256x4096_0_0_3) : (⟨S4x256x4102, .f32⟩ : BufTy).Contents (Elt F) → (⟨S4x256x4096, .f32⟩ : BufTy).Contents (Elt F)),
    unary main_arg16 main_v305 ((extractStridedSlice S128x256x1 ![0, 0, 3] · slices_S128x256x7_S128x256x1_0_0_3) : (⟨S128x256x7, .f32⟩ : BufTy).Contents (Elt F) → (⟨S128x256x1, .f32⟩ : BufTy).Contents (Elt F)),
    reshape main_v305 main_v306 (rfl : (.f32 : EltTy) = .f32) shapeCasts_S128x256x1_S128x256,
    binary main_v306 main_v304 main_v307 ((fun l r => Host.dotGeneral dot_S128x256_S4x256x4096_S128x4x4096_1_1_0_02_n_n none l r) : (⟨S128x256, .f32⟩ : BufTy).Contents (Elt F) → (⟨S4x256x4096, .f32⟩ : BufTy).Contents (Elt F) → (⟨S128x4x4096, .f32⟩ : BufTy).Contents (Elt F)),
    unary main_v307 main_v308 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v303 main_v308 main_v309 (addf : (⟨S4x128x4096, .f32⟩ : BufTy).Contents (Elt F) → (⟨S4x128x4096, .f32⟩ : BufTy).Contents (Elt F) → (⟨S4x128x4096, .f32⟩ : BufTy).Contents (Elt F)),
    unary main_v286 main_v310 ((extractStridedSlice S4x256x4096 ![0, 0, 4] · slices_S4x256x4102_S4x256x4096_0_0_4) : (⟨S4x256x4102, .f32⟩ : BufTy).Contents (Elt F) → (⟨S4x256x4096, .f32⟩ : BufTy).Contents (Elt F)),
    unary main_arg16 main_v311 ((extractStridedSlice S128x256x1 ![0, 0, 4] · slices_S128x256x7_S128x256x1_0_0_4) : (⟨S128x256x7, .f32⟩ : BufTy).Contents (Elt F) → (⟨S128x256x1, .f32⟩ : BufTy).Contents (Elt F)),
    reshape main_v311 main_v312 (rfl : (.f32 : EltTy) = .f32) shapeCasts_S128x256x1_S128x256,
    binary main_v312 main_v310 main_v313 ((fun l r => Host.dotGeneral dot_S128x256_S4x256x4096_S128x4x4096_1_1_0_02_n_n none l r) : (⟨S128x256, .f32⟩ : BufTy).Contents (Elt F) → (⟨S4x256x4096, .f32⟩ : BufTy).Contents (Elt F) → (⟨S128x4x4096, .f32⟩ : BufTy).Contents (Elt F)),
    unary main_v313 main_v314 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v309 main_v314 main_v315 (addf : (⟨S4x128x4096, .f32⟩ : BufTy).Contents (Elt F) → (⟨S4x128x4096, .f32⟩ : BufTy).Contents (Elt F) → (⟨S4x128x4096, .f32⟩ : BufTy).Contents (Elt F)),
    unary main_v286 main_v316 ((extractStridedSlice S4x256x4096 ![0, 0, 5] · slices_S4x256x4102_S4x256x4096_0_0_5) : (⟨S4x256x4102, .f32⟩ : BufTy).Contents (Elt F) → (⟨S4x256x4096, .f32⟩ : BufTy).Contents (Elt F)),
    unary main_arg16 main_v317 ((extractStridedSlice S128x256x1 ![0, 0, 5] · slices_S128x256x7_S128x256x1_0_0_5) : (⟨S128x256x7, .f32⟩ : BufTy).Contents (Elt F) → (⟨S128x256x1, .f32⟩ : BufTy).Contents (Elt F)),
    reshape main_v317 main_v318 (rfl : (.f32 : EltTy) = .f32) shapeCasts_S128x256x1_S128x256,
    binary main_v318 main_v316 main_v319 ((fun l r => Host.dotGeneral dot_S128x256_S4x256x4096_S128x4x4096_1_1_0_02_n_n none l r) : (⟨S128x256, .f32⟩ : BufTy).Contents (Elt F) → (⟨S4x256x4096, .f32⟩ : BufTy).Contents (Elt F) → (⟨S128x4x4096, .f32⟩ : BufTy).Contents (Elt F)),
    unary main_v319 main_v320 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v315 main_v320 main_v321 (addf : (⟨S4x128x4096, .f32⟩ : BufTy).Contents (Elt F) → (⟨S4x128x4096, .f32⟩ : BufTy).Contents (Elt F) → (⟨S4x128x4096, .f32⟩ : BufTy).Contents (Elt F)),
    unary main_v286 main_v322 ((extractStridedSlice S4x256x4096 ![0, 0, 6] · slices_S4x256x4102_S4x256x4096_0_0_6) : (⟨S4x256x4102, .f32⟩ : BufTy).Contents (Elt F) → (⟨S4x256x4096, .f32⟩ : BufTy).Contents (Elt F)),
    unary main_arg16 main_v323 ((extractStridedSlice S128x256x1 ![0, 0, 6] · slices_S128x256x7_S128x256x1_0_0_6) : (⟨S128x256x7, .f32⟩ : BufTy).Contents (Elt F) → (⟨S128x256x1, .f32⟩ : BufTy).Contents (Elt F)),
    reshape main_v323 main_v324 (rfl : (.f32 : EltTy) = .f32) shapeCasts_S128x256x1_S128x256,
    binary main_v324 main_v322 main_v325 ((fun l r => Host.dotGeneral dot_S128x256_S4x256x4096_S128x4x4096_1_1_0_02_n_n none l r) : (⟨S128x256, .f32⟩ : BufTy).Contents (Elt F) → (⟨S4x256x4096, .f32⟩ : BufTy).Contents (Elt F) → (⟨S128x4x4096, .f32⟩ : BufTy).Contents (Elt F)),
    unary main_v325 main_v326 ((transpose S4x128x4096 [1, 0, 2] · transposes_S128x4x4096_S4x128x4096_1_0_2) : (⟨S128x4x4096, .f32⟩ : BufTy).Contents (Elt F) → (⟨S4x128x4096, .f32⟩ : BufTy).Contents (Elt F)),
    binary main_v321 main_v326 main_v327 (addf : (⟨S4x128x4096, .f32⟩ : BufTy).Contents (Elt F) → (⟨S4x128x4096, .f32⟩ : BufTy).Contents (Elt F) → (⟨S4x128x4096, .f32⟩ : BufTy).Contents (Elt F)),
    unary main_arg17 main_v328 (broadcastInDim S1x128x1 ![1] bcast_S128_S1x128x1_1 : (⟨S128, .f32⟩ : BufTy).Contents (Elt F) → (⟨S1x128x1, .f32⟩ : BufTy).Contents (Elt F)),
    unary main_v328 main_v329 (broadcastInDim S4x128x4096 ![0, 1, 2] bcast_S1x128x1_S4x128x4096_0_1_2 : (⟨S1x128x1, .f32⟩ : BufTy).Contents (Elt F) → (⟨S4x128x4096, .f32⟩ : BufTy).Contents (Elt F)),
    binary main_v327 main_v329 main_v330 (addf : (⟨S4x128x4096, .f32⟩ : BufTy).Contents (Elt F) → (⟨S4x128x4096, .f32⟩ : BufTy).Contents (Elt F) → (⟨S4x128x4096, .f32⟩ : BufTy).Contents (Elt F)),
    nullary main_cst_18 (constant S_ .f32 0x00000000#32),
    unary main_cst_18 main_v331 (broadcastInDim S4x128x4096 ![] bcast_S_S4x128x4096 : (⟨S_, .f32⟩ : BufTy).Contents (Elt F) → (⟨S4x128x4096, .f32⟩ : BufTy).Contents (Elt F)),
    binary main_v330 main_v331 main_v332 (cmpf .ogt : (⟨S4x128x4096, .f32⟩ : BufTy).Contents (Elt F) → (⟨S4x128x4096, .f32⟩ : BufTy).Contents (Elt F) → (⟨S4x128x4096, .i1⟩ : BufTy).Contents (Elt F)),
    nullary main_cst_19 (constant S_ .f32 0x3DCCCCCD#32),
    unary main_cst_19 main_v333 (broadcastInDim S4x128x4096 ![] bcast_S_S4x128x4096 : (⟨S_, .f32⟩ : BufTy).Contents (Elt F) → (⟨S4x128x4096, .f32⟩ : BufTy).Contents (Elt F)),
    binary main_v333 main_v330 main_v334 (mulf : (⟨S4x128x4096, .f32⟩ : BufTy).Contents (Elt F) → (⟨S4x128x4096, .f32⟩ : BufTy).Contents (Elt F) → (⟨S4x128x4096, .f32⟩ : BufTy).Contents (Elt F)),
    ternary main_v332 main_v330 main_v334 main_v335 select ]

/-- The references that `opsD2` writes. -/
def opsD2_W : List (Ref sig .tc) :=
  [main_cst_17, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329, main_v330, main_cst_18, main_v331, main_v332, main_cst_19, main_v333, main_v334, main_v335]

/-- The operations of the second decoder layer write only the listed buffers. -/
theorem opsD2_writes : (opsD2 (F := F)).Forall fun op => op.writes ⊆ ((opsD2_W).map (Proc.devRef (τ := τ) .tc)).toFinset :=
  forall_writes_sub_of_map rfl

/-- The operations of the third decoder layer. -/
def opsD3 : List (HloOp τ sig (Elt F)) :=
  [ nullary main_cst_20 (constant S_ .f32 0x00000000#32),
    binary main_v335 main_cst_20 main_v336 ((fun x v => pad S4x128x16390 ![0, 0, 5] ![0, 0, 4] ![0, 0, 3] x v pads_S4x128x4096_S4x128x16390_000_000_543 h_S_) : (⟨S4x128x4096, .f32⟩ : BufTy).Contents (Elt F) → (⟨S_, .f32⟩ : BufTy).Contents (Elt F) → (⟨S4x128x16390, .f32⟩ : BufTy).Contents (Elt F)),
    unary main_v336 main_v337 ((extractStridedSlice S4x128x16384 ![0, 0, 0] · slices_S4x128x16390_S4x128x16384_0_0_0) : (⟨S4x128x16390, .f32⟩ : BufTy).Contents (Elt F) → (⟨S4x128x16384, .f32⟩ : BufTy).Contents (Elt F)),
    unary main_arg18 main_v338 ((extractStridedSlice S64x128x1 ![0, 0, 0] · slices_S64x128x7_S64x128x1_0_0_0) : (⟨S64x128x7, .f32⟩ : BufTy).Contents (Elt F) → (⟨S64x128x1, .f32⟩ : BufTy).Contents (Elt F)),
    reshape main_v338 main_v339 (rfl : (.f32 : EltTy) = .f32) shapeCasts_S64x128x1_S64x128,
    binary main_v339 main_v337 main_v340 ((fun l r => Host.dotGeneral dot_S64x128_S4x128x16384_S64x4x16384_1_1_0_02_n_n none l r) : (⟨S64x128, .f32⟩ : BufTy).Contents (Elt F) → (⟨S4x128x16384, .f32⟩ : BufTy).Contents (Elt F) → (⟨S64x4x16384, .f32⟩ : BufTy).Contents (Elt F)),
    unary main_v340 main_v341 ((transpose S4x64x16384 [1, 0, 2] · transposes_S64x4x16384_S4x64x16384_1_0_2) : (⟨S64x4x16384, .f32⟩ : BufTy).Contents (Elt F) → (⟨S4x64x16384, .f32⟩ : BufTy).Contents (Elt F)),
    unary main_v336 main_v342 ((extractStridedSlice S4x128x16384 ![0, 0, 1] · slices_S4x128x16390_S4x128x16384_0_0_1) : (⟨S4x128x16390, .f32⟩ : BufTy).Contents (Elt F) → (⟨S4x128x16384, .f32⟩ : BufTy).Contents (Elt F)),
    unary main_arg18 main_v343 ((extractStridedSlice S64x128x1 ![0, 0, 1] · slices_S64x128x7_S64x128x1_0_0_1) : (⟨S64x128x7, .f32⟩ : BufTy).Contents (Elt F) → (⟨S64x128x1, .f32⟩ : BufTy).Contents (Elt F)),
    reshape main_v343 main_v344 (rfl : (.f32 : EltTy) = .f32) shapeCasts_S64x128x1_S64x128,
    binary main_v344 main_v342 main_v345 ((fun l r => Host.dotGeneral dot_S64x128_S4x128x16384_S64x4x16384_1_1_0_02_n_n none l r) : (⟨S64x128, .f32⟩ : BufTy).Contents (Elt F) → (⟨S4x128x16384, .f32⟩ : BufTy).Contents (Elt F) → (⟨S64x4x16384, .f32⟩ : BufTy).Contents (Elt F)),
    unary main_v345 main_v346 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v341 main_v346 main_v347 (addf : (⟨S4x64x16384, .f32⟩ : BufTy).Contents (Elt F) → (⟨S4x64x16384, .f32⟩ : BufTy).Contents (Elt F) → (⟨S4x64x16384, .f32⟩ : BufTy).Contents (Elt F)),
    unary main_v336 main_v348 ((extractStridedSlice S4x128x16384 ![0, 0, 2] · slices_S4x128x16390_S4x128x16384_0_0_2) : (⟨S4x128x16390, .f32⟩ : BufTy).Contents (Elt F) → (⟨S4x128x16384, .f32⟩ : BufTy).Contents (Elt F)),
    unary main_arg18 main_v349 ((extractStridedSlice S64x128x1 ![0, 0, 2] · slices_S64x128x7_S64x128x1_0_0_2) : (⟨S64x128x7, .f32⟩ : BufTy).Contents (Elt F) → (⟨S64x128x1, .f32⟩ : BufTy).Contents (Elt F)),
    reshape main_v349 main_v350 (rfl : (.f32 : EltTy) = .f32) shapeCasts_S64x128x1_S64x128,
    binary main_v350 main_v348 main_v351 ((fun l r => Host.dotGeneral dot_S64x128_S4x128x16384_S64x4x16384_1_1_0_02_n_n none l r) : (⟨S64x128, .f32⟩ : BufTy).Contents (Elt F) → (⟨S4x128x16384, .f32⟩ : BufTy).Contents (Elt F) → (⟨S64x4x16384, .f32⟩ : BufTy).Contents (Elt F)),
    unary main_v351 main_v352 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v347 main_v352 main_v353 (addf : (⟨S4x64x16384, .f32⟩ : BufTy).Contents (Elt F) → (⟨S4x64x16384, .f32⟩ : BufTy).Contents (Elt F) → (⟨S4x64x16384, .f32⟩ : BufTy).Contents (Elt F)),
    unary main_v336 main_v354 ((extractStridedSlice S4x128x16384 ![0, 0, 3] · slices_S4x128x16390_S4x128x16384_0_0_3) : (⟨S4x128x16390, .f32⟩ : BufTy).Contents (Elt F) → (⟨S4x128x16384, .f32⟩ : BufTy).Contents (Elt F)),
    unary main_arg18 main_v355 ((extractStridedSlice S64x128x1 ![0, 0, 3] · slices_S64x128x7_S64x128x1_0_0_3) : (⟨S64x128x7, .f32⟩ : BufTy).Contents (Elt F) → (⟨S64x128x1, .f32⟩ : BufTy).Contents (Elt F)),
    reshape main_v355 main_v356 (rfl : (.f32 : EltTy) = .f32) shapeCasts_S64x128x1_S64x128,
    binary main_v356 main_v354 main_v357 ((fun l r => Host.dotGeneral dot_S64x128_S4x128x16384_S64x4x16384_1_1_0_02_n_n none l r) : (⟨S64x128, .f32⟩ : BufTy).Contents (Elt F) → (⟨S4x128x16384, .f32⟩ : BufTy).Contents (Elt F) → (⟨S64x4x16384, .f32⟩ : BufTy).Contents (Elt F)),
    unary main_v357 main_v358 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v353 main_v358 main_v359 (addf : (⟨S4x64x16384, .f32⟩ : BufTy).Contents (Elt F) → (⟨S4x64x16384, .f32⟩ : BufTy).Contents (Elt F) → (⟨S4x64x16384, .f32⟩ : BufTy).Contents (Elt F)),
    unary main_v336 main_v360 ((extractStridedSlice S4x128x16384 ![0, 0, 4] · slices_S4x128x16390_S4x128x16384_0_0_4) : (⟨S4x128x16390, .f32⟩ : BufTy).Contents (Elt F) → (⟨S4x128x16384, .f32⟩ : BufTy).Contents (Elt F)),
    unary main_arg18 main_v361 ((extractStridedSlice S64x128x1 ![0, 0, 4] · slices_S64x128x7_S64x128x1_0_0_4) : (⟨S64x128x7, .f32⟩ : BufTy).Contents (Elt F) → (⟨S64x128x1, .f32⟩ : BufTy).Contents (Elt F)),
    reshape main_v361 main_v362 (rfl : (.f32 : EltTy) = .f32) shapeCasts_S64x128x1_S64x128,
    binary main_v362 main_v360 main_v363 ((fun l r => Host.dotGeneral dot_S64x128_S4x128x16384_S64x4x16384_1_1_0_02_n_n none l r) : (⟨S64x128, .f32⟩ : BufTy).Contents (Elt F) → (⟨S4x128x16384, .f32⟩ : BufTy).Contents (Elt F) → (⟨S64x4x16384, .f32⟩ : BufTy).Contents (Elt F)),
    unary main_v363 main_v364 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v359 main_v364 main_v365 (addf : (⟨S4x64x16384, .f32⟩ : BufTy).Contents (Elt F) → (⟨S4x64x16384, .f32⟩ : BufTy).Contents (Elt F) → (⟨S4x64x16384, .f32⟩ : BufTy).Contents (Elt F)),
    unary main_v336 main_v366 ((extractStridedSlice S4x128x16384 ![0, 0, 5] · slices_S4x128x16390_S4x128x16384_0_0_5) : (⟨S4x128x16390, .f32⟩ : BufTy).Contents (Elt F) → (⟨S4x128x16384, .f32⟩ : BufTy).Contents (Elt F)),
    unary main_arg18 main_v367 ((extractStridedSlice S64x128x1 ![0, 0, 5] · slices_S64x128x7_S64x128x1_0_0_5) : (⟨S64x128x7, .f32⟩ : BufTy).Contents (Elt F) → (⟨S64x128x1, .f32⟩ : BufTy).Contents (Elt F)),
    reshape main_v367 main_v368 (rfl : (.f32 : EltTy) = .f32) shapeCasts_S64x128x1_S64x128,
    binary main_v368 main_v366 main_v369 ((fun l r => Host.dotGeneral dot_S64x128_S4x128x16384_S64x4x16384_1_1_0_02_n_n none l r) : (⟨S64x128, .f32⟩ : BufTy).Contents (Elt F) → (⟨S4x128x16384, .f32⟩ : BufTy).Contents (Elt F) → (⟨S64x4x16384, .f32⟩ : BufTy).Contents (Elt F)),
    unary main_v369 main_v370 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v365 main_v370 main_v371 (addf : (⟨S4x64x16384, .f32⟩ : BufTy).Contents (Elt F) → (⟨S4x64x16384, .f32⟩ : BufTy).Contents (Elt F) → (⟨S4x64x16384, .f32⟩ : BufTy).Contents (Elt F)),
    unary main_v336 main_v372 ((extractStridedSlice S4x128x16384 ![0, 0, 6] · slices_S4x128x16390_S4x128x16384_0_0_6) : (⟨S4x128x16390, .f32⟩ : BufTy).Contents (Elt F) → (⟨S4x128x16384, .f32⟩ : BufTy).Contents (Elt F)),
    unary main_arg18 main_v373 ((extractStridedSlice S64x128x1 ![0, 0, 6] · slices_S64x128x7_S64x128x1_0_0_6) : (⟨S64x128x7, .f32⟩ : BufTy).Contents (Elt F) → (⟨S64x128x1, .f32⟩ : BufTy).Contents (Elt F)),
    reshape main_v373 main_v374 (rfl : (.f32 : EltTy) = .f32) shapeCasts_S64x128x1_S64x128,
    binary main_v374 main_v372 main_v375 ((fun l r => Host.dotGeneral dot_S64x128_S4x128x16384_S64x4x16384_1_1_0_02_n_n none l r) : (⟨S64x128, .f32⟩ : BufTy).Contents (Elt F) → (⟨S4x128x16384, .f32⟩ : BufTy).Contents (Elt F) → (⟨S64x4x16384, .f32⟩ : BufTy).Contents (Elt F)),
    unary main_v375 main_v376 ((transpose S4x64x16384 [1, 0, 2] · transposes_S64x4x16384_S4x64x16384_1_0_2) : (⟨S64x4x16384, .f32⟩ : BufTy).Contents (Elt F) → (⟨S4x64x16384, .f32⟩ : BufTy).Contents (Elt F)),
    binary main_v371 main_v376 main_v377 (addf : (⟨S4x64x16384, .f32⟩ : BufTy).Contents (Elt F) → (⟨S4x64x16384, .f32⟩ : BufTy).Contents (Elt F) → (⟨S4x64x16384, .f32⟩ : BufTy).Contents (Elt F)),
    unary main_arg19 main_v378 (broadcastInDim S1x64x1 ![1] bcast_S64_S1x64x1_1 : (⟨S64, .f32⟩ : BufTy).Contents (Elt F) → (⟨S1x64x1, .f32⟩ : BufTy).Contents (Elt F)),
    unary main_v378 main_v379 (broadcastInDim S4x64x16384 ![0, 1, 2] bcast_S1x64x1_S4x64x16384_0_1_2 : (⟨S1x64x1, .f32⟩ : BufTy).Contents (Elt F) → (⟨S4x64x16384, .f32⟩ : BufTy).Contents (Elt F)),
    binary main_v377 main_v379 main_v380 (addf : (⟨S4x64x16384, .f32⟩ : BufTy).Contents (Elt F) → (⟨S4x64x16384, .f32⟩ : BufTy).Contents (Elt F) → (⟨S4x64x16384, .f32⟩ : BufTy).Contents (Elt F)),
    nullary main_cst_21 (constant S_ .f32 0x00000000#32),
    unary main_cst_21 main_v381 (broadcastInDim S4x64x16384 ![] bcast_S_S4x64x16384 : (⟨S_, .f32⟩ : BufTy).Contents (Elt F) → (⟨S4x64x16384, .f32⟩ : BufTy).Contents (Elt F)),
    binary main_v380 main_v381 main_v382 (cmpf .ogt : (⟨S4x64x16384, .f32⟩ : BufTy).Contents (Elt F) → (⟨S4x64x16384, .f32⟩ : BufTy).Contents (Elt F) → (⟨S4x64x16384, .i1⟩ : BufTy).Contents (Elt F)),
    nullary main_cst_22 (constant S_ .f32 0x3DCCCCCD#32),
    unary main_cst_22 main_v383 (broadcastInDim S4x64x16384 ![] bcast_S_S4x64x16384 : (⟨S_, .f32⟩ : BufTy).Contents (Elt F) → (⟨S4x64x16384, .f32⟩ : BufTy).Contents (Elt F)),
    binary main_v383 main_v380 main_v384 (mulf : (⟨S4x64x16384, .f32⟩ : BufTy).Contents (Elt F) → (⟨S4x64x16384, .f32⟩ : BufTy).Contents (Elt F) → (⟨S4x64x16384, .f32⟩ : BufTy).Contents (Elt F)),
    ternary main_v382 main_v380 main_v384 main_v385 select ]

/-- The references that `opsD3` writes. -/
def opsD3_W : List (Ref sig .tc) :=
  [main_cst_20, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_cst_21, main_v381, main_v382, main_cst_22, main_v383, main_v384, main_v385]

/-- The operations of the third decoder layer write only the listed buffers. -/
theorem opsD3_writes : (opsD3 (F := F)).Forall fun op => op.writes ⊆ ((opsD3_W).map (Proc.devRef (τ := τ) .tc)).toFinset :=
  forall_writes_sub_of_map rfl

/-- The operations of the fourth decoder layer, the result. -/
def opsD4 : List (HloOp τ sig (Elt F)) :=
  [ nullary main_cst_23 (constant S_ .f32 0x00000000#32),
    binary main_v385 main_cst_23 main_v386 ((fun x v => pad S4x64x32774 ![0, 0, 4] ![0, 0, 3] ![0, 0, 1] x v pads_S4x64x16384_S4x64x32774_000_000_431 h_S_) : (⟨S4x64x16384, .f32⟩ : BufTy).Contents (Elt F) → (⟨S_, .f32⟩ : BufTy).Contents (Elt F) → (⟨S4x64x32774, .f32⟩ : BufTy).Contents (Elt F)),
    unary main_v386 main_v387 ((extractStridedSlice S4x64x32768 ![0, 0, 0] · slices_S4x64x32774_S4x64x32768_0_0_0) : (⟨S4x64x32774, .f32⟩ : BufTy).Contents (Elt F) → (⟨S4x64x32768, .f32⟩ : BufTy).Contents (Elt F)),
    unary main_arg20 main_v388 ((extractStridedSlice S1x64x1 ![0, 0, 0] · slices_S1x64x7_S1x64x1_0_0_0) : (⟨S1x64x7, .f32⟩ : BufTy).Contents (Elt F) → (⟨S1x64x1, .f32⟩ : BufTy).Contents (Elt F)),
    reshape main_v388 main_v389 (rfl : (.f32 : EltTy) = .f32) shapeCasts_S1x64x1_S1x64,
    binary main_v389 main_v387 main_v390 ((fun l r => Host.dotGeneral dot_S1x64_S4x64x32768_S1x4x32768_1_1_0_02_n_n none l r) : (⟨S1x64, .f32⟩ : BufTy).Contents (Elt F) → (⟨S4x64x32768, .f32⟩ : BufTy).Contents (Elt F) → (⟨S1x4x32768, .f32⟩ : BufTy).Contents (Elt F)),
    unary main_v390 main_v391 ((transpose S4x1x32768 [1, 0, 2] · transposes_S1x4x32768_S4x1x32768_1_0_2) : (⟨S1x4x32768, .f32⟩ : BufTy).Contents (Elt F) → (⟨S4x1x32768, .f32⟩ : BufTy).Contents (Elt F)),
    unary main_v386 main_v392 ((extractStridedSlice S4x64x32768 ![0, 0, 1] · slices_S4x64x32774_S4x64x32768_0_0_1) : (⟨S4x64x32774, .f32⟩ : BufTy).Contents (Elt F) → (⟨S4x64x32768, .f32⟩ : BufTy).Contents (Elt F)),
    unary main_arg20 main_v393 ((extractStridedSlice S1x64x1 ![0, 0, 1] · slices_S1x64x7_S1x64x1_0_0_1) : (⟨S1x64x7, .f32⟩ : BufTy).Contents (Elt F) → (⟨S1x64x1, .f32⟩ : BufTy).Contents (Elt F)),
    reshape main_v393 main_v394 (rfl : (.f32 : EltTy) = .f32) shapeCasts_S1x64x1_S1x64,
    binary main_v394 main_v392 main_v395 ((fun l r => Host.dotGeneral dot_S1x64_S4x64x32768_S1x4x32768_1_1_0_02_n_n none l r) : (⟨S1x64, .f32⟩ : BufTy).Contents (Elt F) → (⟨S4x64x32768, .f32⟩ : BufTy).Contents (Elt F) → (⟨S1x4x32768, .f32⟩ : BufTy).Contents (Elt F)),
    unary main_v395 main_v396 ((transpose S4x1x32768 [1, 0, 2] · transposes_S1x4x32768_S4x1x32768_1_0_2) : (⟨S1x4x32768, .f32⟩ : BufTy).Contents (Elt F) → (⟨S4x1x32768, .f32⟩ : BufTy).Contents (Elt F)),
    binary main_v391 main_v396 main_v397 (addf : (⟨S4x1x32768, .f32⟩ : BufTy).Contents (Elt F) → (⟨S4x1x32768, .f32⟩ : BufTy).Contents (Elt F) → (⟨S4x1x32768, .f32⟩ : BufTy).Contents (Elt F)),
    unary main_v386 main_v398 ((extractStridedSlice S4x64x32768 ![0, 0, 2] · slices_S4x64x32774_S4x64x32768_0_0_2) : (⟨S4x64x32774, .f32⟩ : BufTy).Contents (Elt F) → (⟨S4x64x32768, .f32⟩ : BufTy).Contents (Elt F)),
    unary main_arg20 main_v399 ((extractStridedSlice S1x64x1 ![0, 0, 2] · slices_S1x64x7_S1x64x1_0_0_2) : (⟨S1x64x7, .f32⟩ : BufTy).Contents (Elt F) → (⟨S1x64x1, .f32⟩ : BufTy).Contents (Elt F)),
    reshape main_v399 main_v400 (rfl : (.f32 : EltTy) = .f32) shapeCasts_S1x64x1_S1x64,
    binary main_v400 main_v398 main_v401 ((fun l r => Host.dotGeneral dot_S1x64_S4x64x32768_S1x4x32768_1_1_0_02_n_n none l r) : (⟨S1x64, .f32⟩ : BufTy).Contents (Elt F) → (⟨S4x64x32768, .f32⟩ : BufTy).Contents (Elt F) → (⟨S1x4x32768, .f32⟩ : BufTy).Contents (Elt F)),
    unary main_v401 main_v402 ((transpose S4x1x32768 [1, 0, 2] · transposes_S1x4x32768_S4x1x32768_1_0_2) : (⟨S1x4x32768, .f32⟩ : BufTy).Contents (Elt F) → (⟨S4x1x32768, .f32⟩ : BufTy).Contents (Elt F)),
    binary main_v397 main_v402 main_v403 (addf : (⟨S4x1x32768, .f32⟩ : BufTy).Contents (Elt F) → (⟨S4x1x32768, .f32⟩ : BufTy).Contents (Elt F) → (⟨S4x1x32768, .f32⟩ : BufTy).Contents (Elt F)),
    unary main_v386 main_v404 ((extractStridedSlice S4x64x32768 ![0, 0, 3] · slices_S4x64x32774_S4x64x32768_0_0_3) : (⟨S4x64x32774, .f32⟩ : BufTy).Contents (Elt F) → (⟨S4x64x32768, .f32⟩ : BufTy).Contents (Elt F)),
    unary main_arg20 main_v405 ((extractStridedSlice S1x64x1 ![0, 0, 3] · slices_S1x64x7_S1x64x1_0_0_3) : (⟨S1x64x7, .f32⟩ : BufTy).Contents (Elt F) → (⟨S1x64x1, .f32⟩ : BufTy).Contents (Elt F)),
    reshape main_v405 main_v406 (rfl : (.f32 : EltTy) = .f32) shapeCasts_S1x64x1_S1x64,
    binary main_v406 main_v404 main_v407 ((fun l r => Host.dotGeneral dot_S1x64_S4x64x32768_S1x4x32768_1_1_0_02_n_n none l r) : (⟨S1x64, .f32⟩ : BufTy).Contents (Elt F) → (⟨S4x64x32768, .f32⟩ : BufTy).Contents (Elt F) → (⟨S1x4x32768, .f32⟩ : BufTy).Contents (Elt F)),
    unary main_v407 main_v408 ((transpose S4x1x32768 [1, 0, 2] · transposes_S1x4x32768_S4x1x32768_1_0_2) : (⟨S1x4x32768, .f32⟩ : BufTy).Contents (Elt F) → (⟨S4x1x32768, .f32⟩ : BufTy).Contents (Elt F)),
    binary main_v403 main_v408 main_v409 (addf : (⟨S4x1x32768, .f32⟩ : BufTy).Contents (Elt F) → (⟨S4x1x32768, .f32⟩ : BufTy).Contents (Elt F) → (⟨S4x1x32768, .f32⟩ : BufTy).Contents (Elt F)),
    unary main_v386 main_v410 ((extractStridedSlice S4x64x32768 ![0, 0, 4] · slices_S4x64x32774_S4x64x32768_0_0_4) : (⟨S4x64x32774, .f32⟩ : BufTy).Contents (Elt F) → (⟨S4x64x32768, .f32⟩ : BufTy).Contents (Elt F)),
    unary main_arg20 main_v411 ((extractStridedSlice S1x64x1 ![0, 0, 4] · slices_S1x64x7_S1x64x1_0_0_4) : (⟨S1x64x7, .f32⟩ : BufTy).Contents (Elt F) → (⟨S1x64x1, .f32⟩ : BufTy).Contents (Elt F)),
    reshape main_v411 main_v412 (rfl : (.f32 : EltTy) = .f32) shapeCasts_S1x64x1_S1x64,
    binary main_v412 main_v410 main_v413 ((fun l r => Host.dotGeneral dot_S1x64_S4x64x32768_S1x4x32768_1_1_0_02_n_n none l r) : (⟨S1x64, .f32⟩ : BufTy).Contents (Elt F) → (⟨S4x64x32768, .f32⟩ : BufTy).Contents (Elt F) → (⟨S1x4x32768, .f32⟩ : BufTy).Contents (Elt F)),
    unary main_v413 main_v414 ((transpose S4x1x32768 [1, 0, 2] · transposes_S1x4x32768_S4x1x32768_1_0_2) : (⟨S1x4x32768, .f32⟩ : BufTy).Contents (Elt F) → (⟨S4x1x32768, .f32⟩ : BufTy).Contents (Elt F)),
    binary main_v409 main_v414 main_v415 (addf : (⟨S4x1x32768, .f32⟩ : BufTy).Contents (Elt F) → (⟨S4x1x32768, .f32⟩ : BufTy).Contents (Elt F) → (⟨S4x1x32768, .f32⟩ : BufTy).Contents (Elt F)),
    unary main_v386 main_v416 ((extractStridedSlice S4x64x32768 ![0, 0, 5] · slices_S4x64x32774_S4x64x32768_0_0_5) : (⟨S4x64x32774, .f32⟩ : BufTy).Contents (Elt F) → (⟨S4x64x32768, .f32⟩ : BufTy).Contents (Elt F)),
    unary main_arg20 main_v417 ((extractStridedSlice S1x64x1 ![0, 0, 5] · slices_S1x64x7_S1x64x1_0_0_5) : (⟨S1x64x7, .f32⟩ : BufTy).Contents (Elt F) → (⟨S1x64x1, .f32⟩ : BufTy).Contents (Elt F)),
    reshape main_v417 main_v418 (rfl : (.f32 : EltTy) = .f32) shapeCasts_S1x64x1_S1x64,
    binary main_v418 main_v416 main_v419 ((fun l r => Host.dotGeneral dot_S1x64_S4x64x32768_S1x4x32768_1_1_0_02_n_n none l r) : (⟨S1x64, .f32⟩ : BufTy).Contents (Elt F) → (⟨S4x64x32768, .f32⟩ : BufTy).Contents (Elt F) → (⟨S1x4x32768, .f32⟩ : BufTy).Contents (Elt F)),
    unary main_v419 main_v420 ((transpose S4x1x32768 [1, 0, 2] · transposes_S1x4x32768_S4x1x32768_1_0_2) : (⟨S1x4x32768, .f32⟩ : BufTy).Contents (Elt F) → (⟨S4x1x32768, .f32⟩ : BufTy).Contents (Elt F)),
    binary main_v415 main_v420 main_v421 (addf : (⟨S4x1x32768, .f32⟩ : BufTy).Contents (Elt F) → (⟨S4x1x32768, .f32⟩ : BufTy).Contents (Elt F) → (⟨S4x1x32768, .f32⟩ : BufTy).Contents (Elt F)),
    unary main_v386 main_v422 ((extractStridedSlice S4x64x32768 ![0, 0, 6] · slices_S4x64x32774_S4x64x32768_0_0_6) : (⟨S4x64x32774, .f32⟩ : BufTy).Contents (Elt F) → (⟨S4x64x32768, .f32⟩ : BufTy).Contents (Elt F)),
    unary main_arg20 main_v423 ((extractStridedSlice S1x64x1 ![0, 0, 6] · slices_S1x64x7_S1x64x1_0_0_6) : (⟨S1x64x7, .f32⟩ : BufTy).Contents (Elt F) → (⟨S1x64x1, .f32⟩ : BufTy).Contents (Elt F)),
    reshape main_v423 main_v424 (rfl : (.f32 : EltTy) = .f32) shapeCasts_S1x64x1_S1x64,
    binary main_v424 main_v422 main_v425 ((fun l r => Host.dotGeneral dot_S1x64_S4x64x32768_S1x4x32768_1_1_0_02_n_n none l r) : (⟨S1x64, .f32⟩ : BufTy).Contents (Elt F) → (⟨S4x64x32768, .f32⟩ : BufTy).Contents (Elt F) → (⟨S1x4x32768, .f32⟩ : BufTy).Contents (Elt F)),
    unary main_v425 main_v426 ((transpose S4x1x32768 [1, 0, 2] · transposes_S1x4x32768_S4x1x32768_1_0_2) : (⟨S1x4x32768, .f32⟩ : BufTy).Contents (Elt F) → (⟨S4x1x32768, .f32⟩ : BufTy).Contents (Elt F)),
    binary main_v421 main_v426 main_v427 (addf : (⟨S4x1x32768, .f32⟩ : BufTy).Contents (Elt F) → (⟨S4x1x32768, .f32⟩ : BufTy).Contents (Elt F) → (⟨S4x1x32768, .f32⟩ : BufTy).Contents (Elt F)),
    unary main_arg21 main_v428 (broadcastInDim S1x1x1 ![1] bcast_S1_S1x1x1_1 : (⟨S1, .f32⟩ : BufTy).Contents (Elt F) → (⟨S1x1x1, .f32⟩ : BufTy).Contents (Elt F)),
    unary main_v428 main_v429 (broadcastInDim S4x1x32768 ![0, 1, 2] bcast_S1x1x1_S4x1x32768_0_1_2 : (⟨S1x1x1, .f32⟩ : BufTy).Contents (Elt F) → (⟨S4x1x32768, .f32⟩ : BufTy).Contents (Elt F)),
    binary main_v427 main_v429 main_v430 (addf : (⟨S4x1x32768, .f32⟩ : BufTy).Contents (Elt F) → (⟨S4x1x32768, .f32⟩ : BufTy).Contents (Elt F) → (⟨S4x1x32768, .f32⟩ : BufTy).Contents (Elt F)),
    unary main_v430 main_v431 (Host.tanh : (⟨S4x1x32768, .f32⟩ : BufTy).Contents (Elt F) → (⟨S4x1x32768, .f32⟩ : BufTy).Contents (Elt F)) ]

/-- The references that `opsD4` writes. -/
def opsD4_W : List (Ref sig .tc) :=
  [main_cst_23, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_v431]

/-- The operations of the fourth decoder layer write only the listed buffers. -/
theorem opsD4_writes : (opsD4 (F := F)).Forall fun op => op.writes ⊆ ((opsD4_W).map (Proc.devRef (τ := τ) .tc)).toFinset :=
  forall_writes_sub_of_map rfl

/-- Every operation of @main, in order. -/
def ops : List (HloOp τ sig (Elt F)) := opsE1 ++ (opsE2 ++ (opsE3 ++ (opsE4 ++ (opsQ ++ (opsD1 ++ (opsD2 ++ (opsD3 ++ (opsD4))))))))

end Cert.Proof.Ref

end
-- ==== Proof.Value.RefEnc.lean ====
/-
  The reference's inner layers at an index: the convolution over the channels and the seven taps, under the
  activation.
-/
module

public import proofs.«01_k».proof.Proof.Value.RefOps
public import proofs.«01_k».proof.Proof.Value.Coords
public import Idealize.ShloMosaic.Lib.StableHlo.ReadAt
public import Idealize.ShloMosaic.Lib.Pointwise

@[expose] public section

set_option maxRecDepth 16384

noncomputable section

namespace Cert.Proof.Ref

open Cert.ReferenceIdeal Cert.ReferenceIdeal.Gen Cert.Proof.Conv Cert.Proof.Taps
open Idealize.ShloMosaic Idealize.ShloMosaic.TcCoe Idealize.ShloMosaic.StableHlo Idealize.SL.Sem

variable (V : Valuation τ sig (Elt Ideal))

set_option maxHeartbeats 2000000 in
/-- The second encoder layer: stride 4, one zero on the left. -/
theorem E2_at (b : Fin 4) (o : Fin 128) (t : Fin 4096) :
    at3 (after opsE2 V (main_v99 : DevRef τ sig) : Vec Ideal S4x128x4096 .f32) b o t
      = lrelu (convT 1 4 1 (at3 (V (main_arg3 : DevRef τ sig) : Vec Ideal S128x64x7 .f32))
          (at1 (V (main_arg4 : DevRef τ sig) : Vec Ideal S128 .f32))
          (at3 (V (main_v49 : DevRef τ sig) : Vec Ideal S4x64x16384 .f32)) b o t) := by
  show (after opsE2 V (main_v99 : DevRef τ sig) : Vec Ideal S4x128x4096 .f32) (ix3 b o t) = _
  unfold opsE2
  after_reads_simp
  pointwise
  refine lrelu_of_eq rfl (congrArg₂ (· + ·) (seven (at3 (V (main_arg3 : DevRef τ sig) : Vec Ideal S128x64x7 .f32) o)
    (at3 (V (main_v49 : DevRef τ sig) : Vec Ideal S4x64x16384 .f32) b) _ _ _ _ _ _ _ ?_ ?_ ?_ ?_ ?_ ?_ ?_) rfl)
  all_goals
    intro c
    refine tap_read _ _ _ (at3 (V (main_v49 : DevRef τ sig) : Vec Ideal S4x64x16384 .f32) b c) _ _ _ _ ?_ ?_
    all_goals first | (push_cast; omega) | (intro h; push_cast; omega)

set_option maxHeartbeats 2000000 in
/-- The third encoder layer: stride 4, one zero on the left. -/
theorem E3_at (b : Fin 4) (o : Fin 256) (t : Fin 1024) :
    at3 (after opsE3 V (main_v149 : DevRef τ sig) : Vec Ideal S4x256x1024 .f32) b o t
      = lrelu (convT 1 4 1 (at3 (V (main_arg5 : DevRef τ sig) : Vec Ideal S256x128x7 .f32))
          (at1 (V (main_arg6 : DevRef τ sig) : Vec Ideal S256 .f32))
          (at3 (V (main_v99 : DevRef τ sig) : Vec Ideal S4x128x4096 .f32)) b o t) := by
  show (after opsE3 V (main_v149 : DevRef τ sig) : Vec Ideal S4x256x1024 .f32) (ix3 b o t) = _
  unfold opsE3
  after_reads_simp
  pointwise
  refine lrelu_of_eq rfl (congrArg₂ (· + ·) (seven (at3 (V (main_arg5 : DevRef τ sig) : Vec Ideal S256x128x7 .f32) o)
    (at3 (V (main_v99 : DevRef τ sig) : Vec Ideal S4x128x4096 .f32) b) _ _ _ _ _ _ _ ?_ ?_ ?_ ?_ ?_ ?_ ?_) rfl)
  all_goals
    intro c
    refine tap_read _ _ _ (at3 (V (main_v99 : DevRef τ sig) : Vec Ideal S4x128x4096 .f32) b c) _ _ _ _ ?_ ?_
    all_goals first | (push_cast; omega) | (intro h; push_cast; omega)

set_option maxHeartbeats 2000000 in
/-- The fourth encoder layer: stride 4, one zero on the left, no activation. -/
theorem E4_at (b : Fin 4) (o : Fin 512) (t : Fin 256) :
    at3 (after opsE4 V (main_v194 : DevRef τ sig) : Vec Ideal S4x512x256 .f32) b o t
      = convT 1 4 1 (at3 (V (main_arg7 : DevRef τ sig) : Vec Ideal S512x256x7 .f32))
          (at1 (V (main_arg8 : DevRef τ sig) : Vec Ideal S512 .f32))
          (at3 (V (main_v149 : DevRef τ sig) : Vec Ideal S4x256x1024 .f32)) b o t := by
  show (after opsE4 V (main_v194 : DevRef τ sig) : Vec Ideal S4x512x256 .f32) (ix3 b o t) = _
  unfold opsE4
  after_reads_simp
  pointwise
  refine congrArg₂ (· + ·) (seven (at3 (V (main_arg7 : DevRef τ sig) : Vec Ideal S512x256x7 .f32) o)
    (at3 (V (main_v149 : DevRef τ sig) : Vec Ideal S4x256x1024 .f32) b) _ _ _ _ _ _ _ ?_ ?_ ?_ ?_ ?_ ?_ ?_) rfl
  all_goals
    intro c
    refine tap_read _ _ _ (at3 (V (main_v149 : DevRef τ sig) : Vec Ideal S4x256x1024 .f32) b c) _ _ _ _ ?_ ?_
    all_goals first | (push_cast; omega) | (intro h; push_cast; omega)

set_option maxHeartbeats 2000000 in
/-- The first decoder layer: three zeros between two samples, five on the left. -/
theorem D1_at (b : Fin 4) (o : Fin 256) (t : Fin 1024) :
    at3 (after opsD1 V (main_v285 : DevRef τ sig) : Vec Ideal S4x256x1024 .f32) b o t
      = lrelu (convT 4 1 5 (at3 (V (main_arg14 : DevRef τ sig) : Vec Ideal S256x512x7 .f32))
          (at1 (V (main_arg15 : DevRef τ sig) : Vec Ideal S256 .f32))
          (at3 (V (main_v235 : DevRef τ sig) : Vec Ideal S4x512x256 .f32)) b o t) := by
  show (after opsD1 V (main_v285 : DevRef τ sig) : Vec Ideal S4x256x1024 .f32) (ix3 b o t) = _
  unfold opsD1
  after_reads_simp
  pointwise
  refine lrelu_of_eq rfl (congrArg₂ (· + ·) (seven (at3 (V (main_arg14 : DevRef τ sig) : Vec Ideal S256x512x7 .f32) o)
    (at3 (V (main_v235 : DevRef τ sig) : Vec Ideal S4x512x256 .f32) b) _ _ _ _ _ _ _ ?_ ?_ ?_ ?_ ?_ ?_ ?_) rfl)
  all_goals
    intro c
    refine tap_read _ _ _ (at3 (V (main_v235 : DevRef τ sig) : Vec Ideal S4x512x256 .f32) b c) _ _ _ _ ?_ ?_
    all_goals first | (push_cast; omega) | (intro h; push_cast; omega)

set_option maxHeartbeats 2000000 in
/-- The second decoder layer: three zeros between two samples, five on the left. -/
theorem D2_at (b : Fin 4) (o : Fin 128) (t : Fin 4096) :
    at3 (after opsD2 V (main_v335 : DevRef τ sig) : Vec Ideal S4x128x4096 .f32) b o t
      = lrelu (convT 4 1 5 (at3 (V (main_arg16 : DevRef τ sig) : Vec Ideal S128x256x7 .f32))
          (at1 (V (main_arg17 : DevRef τ sig) : Vec Ideal S128 .f32))
          (at3 (V (main_v285 : DevRef τ sig) : Vec Ideal S4x256x1024 .f32)) b o t) := by
  show (after opsD2 V (main_v335 : DevRef τ sig) : Vec Ideal S4x128x4096 .f32) (ix3 b o t) = _
  unfold opsD2
  after_reads_simp
  pointwise
  refine lrelu_of_eq rfl (congrArg₂ (· + ·) (seven (at3 (V (main_arg16 : DevRef τ sig) : Vec Ideal S128x256x7 .f32) o)
    (at3 (V (main_v285 : DevRef τ sig) : Vec Ideal S4x256x1024 .f32) b) _ _ _ _ _ _ _ ?_ ?_ ?_ ?_ ?_ ?_ ?_) rfl)
  all_goals
    intro c
    refine tap_read _ _ _ (at3 (V (main_v285 : DevRef τ sig) : Vec Ideal S4x256x1024 .f32) b c) _ _ _ _ ?_ ?_
    all_goals first | (push_cast; omega) | (intro h; push_cast; omega)

set_option maxHeartbeats 2000000 in
/-- The third decoder layer: three zeros between two samples, five on the left. -/
theorem D3_at (b : Fin 4) (o : Fin 64) (t : Fin 16384) :
    at3 (after opsD3 V (main_v385 : DevRef τ sig) : Vec Ideal S4x64x16384 .f32) b o t
      = lrelu (convT 4 1 5 (at3 (V (main_arg18 : DevRef τ sig) : Vec Ideal S64x128x7 .f32))
          (at1 (V (main_arg19 : DevRef τ sig) : Vec Ideal S64 .f32))
          (at3 (V (main_v335 : DevRef τ sig) : Vec Ideal S4x128x4096 .f32)) b o t) := by
  show (after opsD3 V (main_v385 : DevRef τ sig) : Vec Ideal S4x64x16384 .f32) (ix3 b o t) = _
  unfold opsD3
  after_reads_simp
  pointwise
  refine lrelu_of_eq rfl (congrArg₂ (· + ·) (seven (at3 (V (main_arg18 : DevRef τ sig) : Vec Ideal S64x128x7 .f32) o)
    (at3 (V (main_v335 : DevRef τ sig) : Vec Ideal S4x128x4096 .f32) b) _ _ _ _ _ _ _ ?_ ?_ ?_ ?_ ?_ ?_ ?_) rfl)
  all_goals
    intro c
    refine tap_read _ _ _ (at3 (V (main_v335 : DevRef τ sig) : Vec Ideal S4x128x4096 .f32) b c) _ _ _ _ ?_ ?_
    all_goals first | (push_cast; omega) | (intro h; push_cast; omega)

end Cert.Proof.Ref

end
-- ==== Proof.Value.RefEnds.lean ====
/-
  The reference's first and last layers at an index: the convolution over the channels and the seven taps, under the
  activation.
-/
module

public import proofs.«01_k».proof.Proof.Value.RefEnc
public import proofs.«01_k».proof.Proof.Value.Coords
public import Idealize.ShloMosaic.Lib.StableHlo.ReadAt
public import Idealize.ShloMosaic.Lib.Pointwise

@[expose] public section

set_option maxRecDepth 16384

noncomputable section

namespace Cert.Proof.Ref

open Cert.ReferenceIdeal Cert.ReferenceIdeal.Gen Cert.Proof.Conv Cert.Proof.Taps
open Idealize.ShloMosaic Idealize.ShloMosaic.TcCoe Idealize.ShloMosaic.StableHlo Idealize.SL.Sem

variable (V : Valuation τ sig (Elt Ideal))

set_option maxHeartbeats 400000 in
/-- The first encoder layer: stride 2, two zeros on the left. -/
theorem E1_at (b : Fin 4) (o : Fin 64) (t : Fin 16384) :
    at3 (after opsE1 V (main_v49 : DevRef τ sig) : Vec Ideal S4x64x16384 .f32) b o t
      = lrelu (convT 1 2 2 (at3 (V (main_arg1 : DevRef τ sig) : Vec Ideal S64x1x7 .f32))
          (at1 (V (main_arg2 : DevRef τ sig) : Vec Ideal S64 .f32))
          (at3 (V (main_arg0 : DevRef τ sig) : Vec Ideal S4x1x32768 .f32)) b o t) := by
  show (after opsE1 V (main_v49 : DevRef τ sig) : Vec Ideal S4x64x16384 .f32) (ix3 b o t) = _
  unfold opsE1
  after_reads_simp
  pointwise
  refine lrelu_of_eq rfl (congrArg₂ (· + ·) (seven_of (at3 (V (main_arg1 : DevRef τ sig) : Vec Ideal S64x1x7 .f32) o)
    (at3 (V (main_arg0 : DevRef τ sig) : Vec Ideal S4x1x32768 .f32) b) _ _ _ _ _ _ _ ?_ ?_ ?_ ?_ ?_ ?_ ?_) rfl)
  all_goals
    intro c
    obtain rfl : c = 0 := Subsingleton.elim _ _
    refine congrArg₂ (· * ·) rfl (tap_read _ _ _ (at3 (V (main_arg0 : DevRef τ sig) : Vec Ideal S4x1x32768 .f32) b 0) _ _ _ _ ?_ ?_)
    all_goals first | (push_cast; omega) | (intro h; push_cast; omega)

set_option maxHeartbeats 400000 in
/-- The last decoder layer: one zero between two samples, four on the left, and the hyperbolic tangent. -/
theorem D4_at (b : Fin 4) (o : Fin 1) (t : Fin 32768) :
    at3 (after opsD4 V (main_v431 : DevRef τ sig) : Vec Ideal S4x1x32768 .f32) b o t
      = Ideal.tanh (convT 2 1 4 (at3 (V (main_arg20 : DevRef τ sig) : Vec Ideal S1x64x7 .f32))
          (at1 (V (main_arg21 : DevRef τ sig) : Vec Ideal S1 .f32))
          (at3 (V (main_v385 : DevRef τ sig) : Vec Ideal S4x64x16384 .f32)) b o t) := by
  obtain rfl : o = 0 := Subsingleton.elim _ _
  show (after opsD4 V (main_v431 : DevRef τ sig) : Vec Ideal S4x1x32768 .f32) (ix3 b 0 t) = _
  unfold opsD4
  after_reads_simp
  pointwise
  refine congrArg Ideal.tanh (congrArg₂ (· + ·) (seven (at3 (V (main_arg20 : DevRef τ sig) : Vec Ideal S1x64x7 .f32) 0)
    (at3 (V (main_v385 : DevRef τ sig) : Vec Ideal S4x64x16384 .f32) b) _ _ _ _ _ _ _ ?_ ?_ ?_ ?_ ?_ ?_ ?_) rfl)
  all_goals
    intro c
    refine tap_read _ _ _ (at3 (V (main_v385 : DevRef τ sig) : Vec Ideal S4x64x16384 .f32) b c) _ _ _ _ ?_ ?_
    all_goals first | (push_cast; omega) | (intro h; push_cast; omega)

end Cert.Proof.Ref

end
-- ==== Proof.Value.ChainEnc.lean ====
/-
  The encoder's four layers in both programs: each call leaves, in flat order, what the reference's layer computes.
-/
module

public import proofs.«01_k».proof.Proof.Gen.KernelIdeal.Frame
public import proofs.«01_k».proof.Proof.Value.Reg0
public import proofs.«01_k».proof.Proof.Value.Reg1
public import proofs.«01_k».proof.Proof.Value.Reg2
public import proofs.«01_k».proof.Proof.Value.Reg3
public import proofs.«01_k».proof.Proof.Value.HostEnc
public import proofs.«01_k».proof.Proof.Value.HostEnds
public import proofs.«01_k».proof.Proof.Value.RefEnc
public import proofs.«01_k».proof.Proof.Value.RefEnds

@[expose] public section

set_option maxRecDepth 16384

noncomputable section

namespace Cert.Proof.Chain

open Cert.Proof.Conv Cert.Proof.Taps
open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)
  (U : Valuation Cert.ReferenceIdeal.τ Cert.ReferenceIdeal.sig (Elt Ideal))

/-- `layer` with the three tap matrices given one by one. -/
theorem layer3 {a b S So C O F P Din Dout N T T' : ℕ} (ha : 0 < a) (hab : b * So = a * S) (hP : P < a * S + a)
    (hr : b * So + 6 < 2 * (a * S) + P + b) (hD : Din = S * C) (hDo : Dout = So * O) (hN : N = 4 * F) (hT : T = S * F)
    (hT' : T' = So * F) (hC : 0 < C) (hO : 0 < O)
    {r : Fin 4 → Fin C → Fin T → EReal} {r' : Fin 4 → Fin O → Fin T' → EReal} {w w' : Fin O → Fin C → Fin 7 → EReal}
    {bb bb' : Fin O → EReal} {act : EReal → EReal}
    {x : Fin N → Fin Din → EReal} {A B D : Fin Din → Fin Dout → EReal} {bias : Fin Dout → EReal}
    {κ : Fin 3 → Fin Din → Fin Dout → ℤ}
    (hx : ∀ n α, x n α = lay r (n * Din + α))
    (hw : ∀ d (α : Fin Din) (β : Fin Dout), (![A, B, D] : Fin 3 → _) d α β
      = wsel (w' ⟨β % O, Nat.mod_lt _ hO⟩ ⟨α % C, Nat.mod_lt _ hC⟩) (κ d α β))
    (hb : ∀ β : Fin Dout, bias β = bb' ⟨β % O, Nat.mod_lt _ hO⟩)
    (hr' : ∀ bi o t, r' bi o t = act (convT a b P w bb r bi o t))
    (ww : w' = w) (wb : bb' = bb)
    (hκ : ∀ d (α : Fin Din) (β : Fin Dout), κ d α β = a * (S * ((d : ℕ) - 1) + ((α / C : ℕ) : ℤ)) - b * ((β / O : ℕ) : ℤ) + P)
    (n : Fin N) (β : Fin Dout) :
    act (convAt F x A B D bias n β) = lay r' (n * Dout + β) := by
  subst ww wb
  exact layer ha hab hP hr hD hDo hN hT hT' hC hO r r' _ _ act x ![A, B, D] bias hx
    (fun d α β => (hw d α β).trans (by rw [hκ])) hb hr' n β

set_option maxHeartbeats 400000 in
/-- The first encoder layer: the first call leaves the reference's first feature map. -/
theorem e1
    (hw : (W0 m ρ c (main_arg1 : DevRef τ sig) : Vec Ideal S64x1x7 .f32) = U (Proc.tc.devRef Cert.ReferenceIdeal.main_arg1))
    (hb : (W0 m ρ c (main_arg2 : DevRef τ sig) : Vec Ideal S64 .f32) = U (Proc.tc.devRef Cert.ReferenceIdeal.main_arg2))
    (hx : (W0 m ρ c (main_arg0 : DevRef τ sig) : Vec Ideal S4x1x32768 .f32) = U (Proc.tc.devRef Cert.ReferenceIdeal.main_arg0))
    (n : Fin 1024) (β : Fin 4096) :
    at2 .bf16 (W2 m ρ c (main_v55 : DevRef τ sig) : Vec Ideal S1024x4096 .bf16) n β
      = lay (at3 (after Ref.opsE1 U (Proc.tc.devRef Cert.ReferenceIdeal.main_v49) : Vec Ideal Cert.ReferenceIdeal.S4x64x16384 .f32)) ((n : ℕ) * 4096 + β) :=
  (congrFun (congrFun (congrArg (at2 (n0 := 1024) (n1 := 4096) .bf16) (W2_arr m ρ c 7)) n) β).trans <| (Reg.conv0 (V1 m ρ) c n β).trans <|
  layer3 (a := 1) (b := 2) (S := 128) (So := 64) (P := 2) (T := 32768) (T' := 16384)
    (by decide) (by decide) (by decide) (by decide) (by decide) (by decide) (by decide) (by decide) (by decide) (by decide) (by decide)
    (fun n α => (Host.x0 (W0 m ρ c) n α).trans (by rw [hx])) (Host.w0 (W0 m ρ c)) (Host.b0 (W0 m ρ c)) (Ref.E1_at U)
    (congrArg at3 hw) (congrArg at1 hb) (fun _ _ _ => rfl) n β

set_option maxHeartbeats 400000 in
/-- The second encoder layer. -/
theorem e2
    (hw : (W2 m ρ c (main_arg3 : DevRef τ sig) : Vec Ideal S128x64x7 .f32) = U (Proc.tc.devRef Cert.ReferenceIdeal.main_arg3))
    (hb : (W2 m ρ c (main_arg4 : DevRef τ sig) : Vec Ideal S128 .f32) = U (Proc.tc.devRef Cert.ReferenceIdeal.main_arg4))
    (h : ∀ n β, at2 .bf16 (W2 m ρ c (main_v55 : DevRef τ sig) : Vec Ideal S1024x4096 .bf16) n β
      = lay (at3 (U (Proc.tc.devRef Cert.ReferenceIdeal.main_v49) : Vec Ideal Cert.ReferenceIdeal.S4x64x16384 .f32)) ((n : ℕ) * 4096 + β))
    (n : Fin 16384) (β : Fin 128) :
    at2 .bf16 (W4 m ρ c (main_v97 : DevRef τ sig) : Vec Ideal S16384x128 .bf16) n β
      = lay (at3 (after Ref.opsE2 U (Proc.tc.devRef Cert.ReferenceIdeal.main_v99) : Vec Ideal Cert.ReferenceIdeal.S4x128x4096 .f32)) ((n : ℕ) * 128 + β) :=
  (congrFun (congrFun (congrArg (at2 (n0 := 16384) (n1 := 128) .bf16) (W4_arr m ρ c 7)) n) β).trans <| (Reg.conv1 (V3 m ρ) c n β).trans <|
  layer3 (a := 1) (b := 4) (S := 4) (So := 1) (P := 1) (T := 16384) (T' := 4096)
    (by decide) (by decide) (by decide) (by decide) (by decide) (by decide) (by decide) (by decide) (by decide) (by decide) (by decide)
    (Host.x1 (W2 m ρ c) _ h) (Host.w1 (W2 m ρ c)) (Host.b1 (W2 m ρ c)) (Ref.E2_at U) (congrArg at3 hw) (congrArg at1 hb) (fun _ _ _ => rfl) n β

set_option maxHeartbeats 400000 in
/-- The third encoder layer. -/
theorem e3
    (hw : (W4 m ρ c (main_arg5 : DevRef τ sig) : Vec Ideal S256x128x7 .f32) = U (Proc.tc.devRef Cert.ReferenceIdeal.main_arg5))
    (hb : (W4 m ρ c (main_arg6 : DevRef τ sig) : Vec Ideal S256 .f32) = U (Proc.tc.devRef Cert.ReferenceIdeal.main_arg6))
    (h : ∀ n β, at2 .bf16 (W4 m ρ c (main_v97 : DevRef τ sig) : Vec Ideal S16384x128 .bf16) n β
      = lay (at3 (U (Proc.tc.devRef Cert.ReferenceIdeal.main_v99) : Vec Ideal Cert.ReferenceIdeal.S4x128x4096 .f32)) ((n : ℕ) * 128 + β))
    (n : Fin 4096) (β : Fin 256) :
    at2 .bf16 (W6 m ρ c (main_v139 : DevRef τ sig) : Vec Ideal S4096x256 .bf16) n β
      = lay (at3 (after Ref.opsE3 U (Proc.tc.devRef Cert.ReferenceIdeal.main_v149) : Vec Ideal Cert.ReferenceIdeal.S4x256x1024 .f32)) ((n : ℕ) * 256 + β) :=
  (congrFun (congrFun (congrArg (at2 (n0 := 4096) (n1 := 256) .bf16) (W6_arr m ρ c 7)) n) β).trans <| (Reg.conv2 (V5 m ρ) c n β).trans <|
  layer3 (a := 1) (b := 4) (S := 4) (So := 1) (P := 1) (T := 4096) (T' := 1024)
    (by decide) (by decide) (by decide) (by decide) (by decide) (by decide) (by decide) (by decide) (by decide) (by decide) (by decide)
    (Host.x2 (W4 m ρ c) _ h) (Host.w2 (W4 m ρ c)) (Host.b2 (W4 m ρ c)) (Ref.E3_at U) (congrArg at3 hw) (congrArg at1 hb) (fun _ _ _ => rfl) n β

set_option maxHeartbeats 400000 in
/-- The fourth encoder layer, which has no activation: the embedding. -/
theorem e4
    (hw : (W6 m ρ c (main_arg7 : DevRef τ sig) : Vec Ideal S512x256x7 .f32) = U (Proc.tc.devRef Cert.ReferenceIdeal.main_arg7))
    (hb : (W6 m ρ c (main_arg8 : DevRef τ sig) : Vec Ideal S512 .f32) = U (Proc.tc.devRef Cert.ReferenceIdeal.main_arg8))
    (h : ∀ n β, at2 .bf16 (W6 m ρ c (main_v139 : DevRef τ sig) : Vec Ideal S4096x256 .bf16) n β
      = lay (at3 (U (Proc.tc.devRef Cert.ReferenceIdeal.main_v149) : Vec Ideal Cert.ReferenceIdeal.S4x256x1024 .f32)) ((n : ℕ) * 256 + β))
    (n : Fin 1024) (β : Fin 512) :
    at2 .f32 (W8 m ρ c (main_v181 : DevRef τ sig) : Vec Ideal S1024x512 .f32) n β
      = lay (at3 (after Ref.opsE4 U (Proc.tc.devRef Cert.ReferenceIdeal.main_v194) : Vec Ideal Cert.ReferenceIdeal.S4x512x256 .f32)) ((n : ℕ) * 512 + β) :=
  (congrFun (congrFun (congrArg (at2 (n0 := 1024) (n1 := 512) .f32) (W8_arr m ρ c 7)) n) β).trans <| (Reg.conv3 (V7 m ρ) c n β).trans <|
  layer3 (act := fun v => v) (a := 1) (b := 4) (S := 4) (So := 1) (P := 1) (T := 1024) (T' := 256)
    (by decide) (by decide) (by decide) (by decide) (by decide) (by decide) (by decide) (by decide) (by decide) (by decide) (by decide)
    (Host.x3 (W6 m ρ c) _ h) (Host.w3 (W6 m ρ c)) (Host.b3 (W6 m ρ c)) (Ref.E4_at U) (congrArg at3 hw) (congrArg at1 hb) (fun _ _ _ => rfl) n β

end Cert.Proof.Chain

end
-- ==== Proof.Value.First.lean ====
/-
  The first index at which a row of distances is least: what the reference's arg-min returns, and what the kernel's
  minimum of the indices at the row's minimum returns.
-/
module

public import proofs.«01_k».proof.Proof.Value.Coords
public import Idealize.ShloMosaic.Lib.SortNet.Extract
public import Idealize.ShloMosaic.Lib.Pointwise

@[expose] public section

noncomputable section

namespace Cert.Proof.First

open Idealize.ShloMosaic

/-- `i` is the first index at which `f` is least. -/
def IsFirst {n : ℕ} (f : Fin n → EReal) (i : Fin n) : Prop := ∀ j, f i ≤ f j ∧ (f j = f i → i ≤ j)

/-- There is one such index at most. -/
theorem IsFirst.unique {n : ℕ} {f : Fin n → EReal} {i j : Fin n} (hi : IsFirst f i) (hj : IsFirst f j) : i = j := by
  have e : f i = f j := le_antisymm (hi j).1 (hj i).1
  exact le_antisymm ((hi j).2 e.symm) ((hj i).2 e)

/-- Adding one real to the whole row keeps it. -/
theorem IsFirst.shift {n : ℕ} {f : Fin n → EReal} {i : Fin n} (a : ℝ) (h : IsFirst (fun j => (a : EReal) + f j) i) : IsFirst f i := by
  intro j
  have := h j
  constructor
  · by_contra hc
    exact absurd (EReal.add_lt_add_left_coe (not_le.mp hc) a) (not_lt.mpr this.1)
  · intro e
    exact this.2 (by simp only [e])

/-- The word of an index reads back as the index. -/
theorem toInt_word (n : ℕ) (h : n < 2000) : (BitVec.ofNat 32 n).toInt = n := by
  rw [BitVec.toInt_eq_toNat_of_lt (by rw [BitVec.toNat_ofNat]; omega), BitVec.toNat_ofNat]
  omega

/-- The lesser of two pairs, by value and then by index: what one step of the arg-min keeps. -/
def step (a b : EReal × BitVec 32) : EReal × BitVec 32 :=
  if a.1 < b.1 then a else if a.1 = b.1 ∧ a.2.toInt < b.2.toInt then a else b

/-- A step keeps one of its two pairs, and the kept pair comes before neither of them: its value is at most theirs, and at
    equal values so is its position. -/
theorem step_cases (a b : EReal × BitVec 32) : (step a b = a ∨ step a b = b)
    ∧ ((step a b).1 ≤ a.1 ∧ (a.1 = (step a b).1 → (step a b).2.toInt ≤ a.2.toInt))
    ∧ ((step a b).1 ≤ b.1 ∧ (b.1 = (step a b).1 → (step a b).2.toInt ≤ b.2.toInt)) := by
  unfold step
  by_cases h : a.1 < b.1
  · rw [if_pos h]
    exact ⟨.inl rfl, ⟨le_rfl, fun _ => le_rfl⟩, h.le, fun e => absurd h (by rw [e]; exact lt_irrefl _)⟩
  · rw [if_neg h]
    by_cases h' : a.1 = b.1 ∧ a.2.toInt < b.2.toInt
    · rw [if_pos h']
      exact ⟨.inl rfl, ⟨le_rfl, fun _ => le_rfl⟩, h'.1.le, fun _ => h'.2.le⟩
    · rw [if_neg h']
      refine ⟨.inr rfl, ⟨not_lt.mp h, fun e => ?_⟩, le_rfl, fun _ => le_rfl⟩
      by_contra hc
      exact h' ⟨e, not_le.mp hc⟩

/-- Folding the step over a list keeps one of the pairs, least by value and then by index. -/
theorem fold_step (L : List (EReal × BitVec 32)) (z : EReal × BitVec 32) :
    (L.foldl step z = z ∨ L.foldl step z ∈ L)
    ∧ ∀ p, (p = z ∨ p ∈ L) → (L.foldl step z).1 ≤ p.1 ∧ (p.1 = (L.foldl step z).1 → (L.foldl step z).2.toInt ≤ p.2.toInt) := by
  induction L generalizing z with
  | nil => exact ⟨.inl rfl, fun p hp => by simp at hp; subst hp; exact ⟨le_rfl, fun _ => le_rfl⟩⟩
  | cons b L ih =>
    obtain ⟨h1, h2⟩ := ih (step z b)
    obtain ⟨c1, c2, c3⟩ := step_cases z b
    have hz := h2 (step z b) (.inl rfl)
    rw [List.foldl_cons]
    have key : ∀ p : EReal × BitVec 32, ((step z b).1 ≤ p.1 ∧ (p.1 = (step z b).1 → (step z b).2.toInt ≤ p.2.toInt)) →
        (L.foldl step (step z b)).1 ≤ p.1 ∧ (p.1 = (L.foldl step (step z b)).1 → (L.foldl step (step z b)).2.toInt ≤ p.2.toInt) := by
      intro p hp
      refine ⟨hz.1.trans hp.1, fun e => ?_⟩
      have e' : (step z b).1 = (L.foldl step (step z b)).1 := le_antisymm (e ▸ hp.1) hz.1
      exact (hz.2 e').trans (hp.2 (e.trans e'.symm))
    refine ⟨?_, fun p hp => ?_⟩
    · rcases h1 with h | h
      · rcases c1 with c | c
        · exact .inl (h.trans c)
        · exact .inr (by rw [h, c]; exact List.mem_cons_self)
      · exact .inr (List.mem_cons_of_mem _ h)
    · rcases hp with rfl | hp
      · exact key _ c2
      · rcases List.mem_cons.mp hp with rfl | hp
        · exact key _ c3
        · exact h2 p (.inr hp)

/-- The same for a row of `n` values with their indices as words, from the greatest value and the index zero. -/
theorem fold_first {n : ℕ} (hn : n < 2000) (h0 : 0 < n) (f : Fin n → EReal) (L : List (EReal × BitVec 32))
    (hL : ∀ p, p ∈ L ↔ ∃ j : Fin n, p = (f j, BitVec.ofNat 32 j)) :
    ∃ i : Fin n, (L.foldl step (⊤, 0#32)).2 = BitVec.ofNat 32 i ∧ IsFirst f i := by
  obtain ⟨h1, h2⟩ := fold_step L (⊤, 0#32)
  have hr : ∃ i : Fin n, L.foldl step (⊤, 0#32) = (f i, BitVec.ofNat 32 i) := by
    rcases h1 with h | h
    · refine ⟨⟨0, h0⟩, ?_⟩
      have := (h2 (f ⟨0, h0⟩, BitVec.ofNat 32 0) (.inr ((hL _).mpr ⟨⟨0, h0⟩, rfl⟩))).1
      rw [h] at this ⊢
      exact Prod.ext (top_le_iff.mp this).symm rfl
    · exact (hL _).mp h
  obtain ⟨i, hi⟩ := hr
  refine ⟨i, by rw [hi], fun j => ?_⟩
  have := h2 (f j, BitVec.ofNat 32 j) (.inr ((hL _).mpr ⟨j, rfl⟩))
  rw [hi] at this
  refine ⟨this.1, fun e => ?_⟩
  have h := this.2 e
  dsimp only at h
  rw [toInt_word _ (by have := i.isLt; omega), toInt_word _ (by have := j.isLt; omega)] at h
  exact_mod_cast h

/-- The least of the indices at which the row is its minimum (a larger word elsewhere) is the first such index. -/
theorem fold_minsi {n : ℕ} (hn : n < 2000) (h0 : 0 < n) (f : Fin n → EReal) (g : Fin n → BitVec 32)
    (hg : ∀ j, g j = if f j = Finset.univ.fold min ⊤ f then BitVec.ofNat 32 j else BitVec.ofNat 32 n) :
    ∃ i : Fin n, Finset.univ.fold IntOp.minsi 2147483647#32 g = BitVec.ofNat 32 i ∧ IsFirst f i := by
  have hle : ∀ j, Finset.univ.fold min ⊤ f ≤ f j := fun j => Finset.fold_min_le _ |>.mpr (.inr ⟨j, Finset.mem_univ _, le_rfl⟩)
  have hm : ∃ j, f j = Finset.univ.fold min ⊤ f := by
    by_contra hc
    push Not at hc
    have : Finset.univ.fold min ⊤ f < Finset.univ.fold min ⊤ f := by
      rw [Finset.lt_fold_min]
      refine ⟨?_, fun x _ => lt_of_le_of_ne (hle x) (hc x).symm⟩
      exact lt_of_lt_of_le (lt_of_le_of_ne (hle ⟨0, h0⟩) (hc _).symm) le_top
    exact lt_irrefl _ this
  obtain ⟨i, hi, hmin⟩ := (Finset.univ.filter fun j => f j = Finset.univ.fold min ⊤ f).exists_min_image id
    (by obtain ⟨j, hj⟩ := hm; exact ⟨j, by simp [hj]⟩)
  simp only [Finset.mem_filter, Finset.mem_univ, true_and, id] at hi hmin
  refine ⟨i, ?_, fun j => ⟨hi.le.trans (hle j), fun e => hmin j (e.trans hi)⟩⟩
  apply BitVec.eq_of_toInt_eq
  have hf : (Finset.univ.fold IntOp.minsi 2147483647#32 g).toInt
      = Finset.univ.fold min (2147483647#32 : BitVec 32).toInt fun j => (g j).toInt :=
    (Finset.fold_hom (op' := min) (m := BitVec.toInt) fun x y => SortNet.toInt_minsi x y).symm
  have hin := i.isLt
  have hw : (BitVec.ofNat 32 (i : ℕ)).toInt = (i : ℕ) := toInt_word _ (by omega)
  rw [hf, hw]
  apply le_antisymm
  · rw [Finset.fold_min_le]
    refine .inr ⟨i, Finset.mem_univ _, ?_⟩
    rw [hg, if_pos hi, hw]
  · rw [Finset.le_fold_min]
    refine ⟨by rw [show (2147483647#32 : BitVec 32).toInt = 2147483647 from by decide]; omega, fun j _ => ?_⟩
    rw [hg]
    split
    · rename_i h
      rw [toInt_word _ (by have := j.isLt; omega)]
      exact_mod_cast hmin j h
    · rw [toInt_word _ hn]
      exact_mod_cast hin.le

end Cert.Proof.First

end
-- ==== Proof.Value.Vq.lean ====
/-
  The quantizer's arithmetic: the row of distances, its first minimum, the mean over a batch's rows and the two
  matrices of the modulation.
-/
module

public import proofs.«01_k».proof.Proof.Value.First

@[expose] public section

set_option maxRecDepth 16384

noncomputable section

namespace Cert.Proof.Vq

open Idealize.ShloMosaic Cert.Proof.First

/-- The word of two is two. -/
theorem two_eq : Ideal.ofBits .f32 1073741824#32 = ((2 : ℝ) : EReal) := by
  simp [Ideal.ofBits, Ideal.ieee, -EReal.coe_mul]; norm_num

/-- The word of 256 is 256. -/
theorem word256_eq : Ideal.ofBits .f32 1132462080#32 = ((256 : ℝ) : EReal) := by
  simp [Ideal.ofBits, Ideal.ieee, -EReal.coe_mul]; norm_num

/-- The word of 1/256 is 1/256. -/
theorem inv256_eq : Ideal.ofBits .f32 998244352#32 = ((1 / 256 : ℝ) : EReal) := by
  simp [Ideal.ofBits, Ideal.ieee, -EReal.coe_mul]; norm_num

/-- The word of infinity is infinity. -/
theorem inf_eq : Ideal.ofBits .f32 2139095040#32 = (⊤ : EReal) := by
  simp [Ideal.ofBits, Ideal.ieee]

/-- A real that is not negative goes into a sum. -/
theorem mul_sum_coe {ι : Type} [DecidableEq ι] (s : Finset ι) (a : ℝ) (h : 0 ≤ a) (f : ι → EReal) : (a : EReal) * ∑ i ∈ s, f i = ∑ i ∈ s, (a : EReal) * f i := by
  induction s using Finset.induction_on with
  | empty => simp
  | insert x s hx ih =>
    rw [Finset.sum_insert hx, Finset.sum_insert hx, EReal.left_distrib_of_nonneg_of_ne_top (EReal.coe_nonneg.mpr h) (EReal.coe_ne_top a), ih]

/-- The sum of reals is the real sum. -/
theorem coe_sum {ι : Type} [DecidableEq ι] (s : Finset ι) (f : ι → ℝ) : ((∑ i ∈ s, f i : ℝ) : EReal) = ∑ i ∈ s, (f i : EReal) := by
  induction s using Finset.induction_on with
  | empty => simp
  | insert x s hx ih => rw [Finset.sum_insert hx, Finset.sum_insert hx, EReal.coe_add, ih]

/-- The distance of a row to the `j`-th entry, without the row's own square. -/
def dist (e : Fin 512 → EReal) (cb : Fin 1024 → Fin 512 → EReal) (j : Fin 1024) : EReal :=
  ∑ c, cb j c * cb j c - ((2 : ℝ) : EReal) * ∑ c, e c * cb j c

/-- The same with the row's own square, the doubling inside the sum. -/
def distFull (e : Fin 512 → EReal) (cb : Fin 1024 → Fin 512 → EReal) (j : Fin 1024) : EReal :=
  ∑ c, e c * e c - ∑ c, ((2 : ℝ) : EReal) * e c * cb j c + ∑ c, cb j c * cb j c

/-- The full distance is the short one moved by the row's square. -/
theorem distFull_eq (e : Fin 512 → EReal) (cb : Fin 1024 → Fin 512 → EReal) (j : Fin 1024) :
    distFull e cb j = ∑ c, e c * e c + dist e cb j := by
  unfold distFull dist
  rw [mul_sum_coe _ _ (by norm_num)]
  simp only [mul_assoc, sub_eq_add_neg]
  rw [add_assoc, add_comm (-_)]

/-- Over a real row both have the same first minimum. -/
theorem first_eq (e : Fin 512 → EReal) (he : ∀ c, ∃ r : ℝ, e c = r) (cb : Fin 1024 → Fin 512 → EReal) {i j : Fin 1024}
    (hi : IsFirst (distFull e cb) i) (hj : IsFirst (dist e cb) j) : i = j := by
  choose r hr using he
  refine IsFirst.unique (IsFirst.shift (∑ c, r c * r c) ?_) hj
  have : (fun j => ((∑ c, r c * r c : ℝ) : EReal) + dist e cb j) = distFull e cb := by
    funext j
    rw [distFull_eq]
    simp only [hr, ← EReal.coe_mul]
    rw [coe_sum]
  rw [this]; exact hi

/-- The modulation's row: a product with one matrix and its bias, then with another and its bias. -/
def film (m : Fin 512 → EReal) (lw : Fin 512 → Fin 512 → EReal) (lb : Fin 512 → EReal) (fw : Fin 1024 → Fin 512 → EReal) (fb : Fin 1024 → EReal)
    (j : Fin 1024) : EReal := ∑ o, (∑ c, m c * lw o c + lb o) * fw j o + fb j

/-- The mean over one batch's 256 rows: the masked sum over all rows. -/
theorem mean_eq (f : Fin 1024 → EReal) (b : Fin 4) :
    (∑ q : Fin 1024, if q.val / 256 = b.val then ((1 / 256 : ℝ) : EReal) * f q else 0)
      = ((1 / 256 : ℝ) : EReal) * ∑ t : Fin 256, f ⟨b.val * 256 + t.val, by omega⟩ := by
  have h : (∑ q : Fin 1024, if q.val / 256 = b.val then ((1 / 256 : ℝ) : EReal) * f q else 0)
      = ∑ p : Fin 4 × Fin 256, if p.1 = b then ((1 / 256 : ℝ) : EReal) * f ⟨p.1.val * 256 + p.2.val, by omega⟩ else 0 := by
    refine (Fintype.sum_equiv (finProdFinEquiv (m := 4) (n := 256)) _ _ fun p => ?_).symm
    have e : (finProdFinEquiv p : Fin (4 * 256)).val = p.2.val + 256 * p.1.val := rfl
    have e' : (finProdFinEquiv p : Fin 1024) = ⟨p.1.val * 256 + p.2.val, by omega⟩ := Fin.ext (by rw [e]; dsimp only; omega)
    have hd : (p.1 = b) ↔ ((finProdFinEquiv p : Fin 1024).val / 256 = b.val) := by
      rw [e', Fin.ext_iff]; dsimp only; omega
    by_cases hb : p.1 = b
    · rw [if_pos hb, if_pos (hd.mp hb), e']
    · rw [if_neg hb, if_neg (fun x => hb (hd.mpr x))]
  rw [h, Fintype.sum_prod_type, Finset.sum_eq_single b, mul_sum_coe _ _ (by norm_num)]
  · simp
  · intro b' _ hb'
    simp [hb']
  · simp

end Cert.Proof.Vq

end
-- ==== Proof.Value.Reg4.lean ====
/-
  What the quantizer's call leaves in its result array: the nearest codebook row under its batch's modulation.
-/
module

public import proofs.«01_k».proof.Proof.Gen.KernelIdeal.Frame.Region4
public import proofs.«01_k».proof.Proof.Value.Vq
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv Cert.Proof.First Cert.Proof.Vq
open Idealize.ShloMosaic Idealize.ShloMosaic.TcCoe Idealize.SL.Sem
open Idealize.ShloMosaic.Pipeline (Dat)

/-- A one-hot word as a float: one where the two words are equal, zero elsewhere. -/
theorem hot (a b : BitVec 32) : (FloatOps.sitofp .f32 (BitVec.setWidth 32 (IntOp.cmpi CmpIPredicate.eq a b)) : Ideal .f32) = if a = b then (1 : EReal) else 0 := by
  by_cases h : a = b
  · rw [if_pos h, show IntOp.cmpi CmpIPredicate.eq a b = 1#1 by simp [IntOp.cmpi, h]]
    show (((BitVec.setWidth 32 1#1).toInt : ℝ) : EReal) = 1
    rw [show (BitVec.setWidth 32 1#1).toInt = 1 by decide]; norm_num
  · rw [if_neg h, show IntOp.cmpi CmpIPredicate.eq a b = 0#1 by simp [IntOp.cmpi, beq_eq_false_iff_ne.mpr h]]
    show (((BitVec.setWidth 32 0#1).toInt : ℝ) : EReal) = 0
    rw [show (BitVec.setWidth 32 0#1).toInt = 0 by decide]; norm_num

/-- Two indices have the same word only when they are the same. -/
theorem word_inj {n : ℕ} (hn : n < 2000) (i j : Fin n) (h : BitVec.ofNat 32 i = BitVec.ofNat 32 j) : i = j := by
  have := congrArg BitVec.toInt h
  rw [toInt_word _ (by omega), toInt_word _ (by omega)] at this
  exact Fin.ext (by exact_mod_cast this)

set_option maxHeartbeats 1000000 in
/-- The chosen row: the codebook's row at the first minimum of the distances. -/
theorem code4 (x0 x1 : Vec Ideal S1024x512 .f32) (n : Fin 1024) :
    ∃ i : Fin 1024, IsFirst (dist (at2 .f32 x0 n) (at2 .f32 x1)) i ∧ ∀ c, (k4_pay5 x0 x1 : Vec Ideal S1024x512 .f32) (ix2 n c) = at2 .f32 x1 i c := by
  obtain ⟨i, h1, h2⟩ := fold_minsi (by norm_num) (by norm_num) (dist (at2 .f32 x0 n) (at2 .f32 x1))
    (fun j => if dist (at2 .f32 x0 n) (at2 .f32 x1) j = Finset.univ.fold min ⊤ (dist (at2 .f32 x0 n) (at2 .f32 x1)) then BitVec.ofNat 32 j else BitVec.ofNat 32 1024)
    (fun _ => rfl)
  refine ⟨i, h2, fun c => ?_⟩
  pointwise [k4_pay5, k4_pay4]
  rw [two_eq, inf_eq]
  have key : ∀ x : Fin 1024, (FloatOps.sitofp .f32 (BitVec.setWidth 32 (IntOp.cmpi CmpIPredicate.eq (BitVec.ofNat 32 ↑x) (BitVec.ofNat 32 i))) : Ideal .f32)
      = if x = i then (1 : EReal) else 0 := by
    intro x
    rw [hot]
    by_cases h : x = i
    · rw [if_pos h, if_pos (by rw [h])]
    · rw [if_neg h, if_neg (fun e => h (word_inj (by norm_num) _ _ e))]
  refine Eq.trans (b := ∑ x : Fin 1024, (if x = i then (1 : EReal) else 0) * x1 (ix2 x c)) ?_ ?_
  · refine Finset.sum_congr rfl fun x _ => ?_
    rw [← key x, ← h1]
    rfl
  · rw [Finset.sum_eq_single i]
    · rw [if_pos rfl, one_mul]; rfl
    · intro b _ hb
      rw [if_neg hb, zero_mul]
    · simp

/-- The batch's number at a row, as the body computes it: the row's number over 256. -/
theorem seg : ∀ x : Fin 1024, Scalar.select
      (IntOp.andi
        (IntOp.cmpi CmpIPredicate.ne
          (IntOp.subi (BitVec.setWidth 32 (IntOp.cmpi CmpIPredicate.sgt (BitVec.ofNat 32 ↑x) 0#32))
            (BitVec.setWidth 32 (IntOp.cmpi CmpIPredicate.slt (BitVec.ofNat 32 ↑x) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 ↑x) 256#32) 0#32))
      (IntOp.subi (IntOp.divsi ArithUnit.vector (BitVec.ofNat 32 ↑x) 256#32) 1#32)
      (IntOp.divsi ArithUnit.vector (BitVec.ofNat 32 ↑x) 256#32) = BitVec.ofNat 32 (x.val / 256) := by
  decide +kernel

set_option maxHeartbeats 1000000 in
/-- The modulation's rows: of the mean over each batch's rows. -/
theorem film4 (x0 : Vec Ideal S1024x512 .f32) (x2 : Vec Ideal S512x512 .f32) (x3 : Vec Ideal S1x512 .f32) (x4 : Vec Ideal S1024x512 .f32) (x5 : Vec Ideal S1x1024 .f32)
    (b : Fin 4) (j : Fin 1024) :
    (k4_pay9 (k4_pay4 x0) (iota .tc S4x1024 32 [1] iota_S4x1024_d1_w32) 256#32 k4_pay6 k4_pay7 k4_pay8 x2 x3 x4 x5 : Vec Ideal S4x1024 .f32) (ix2 b j)
      = film (fun c => ((1 / 256 : ℝ) : EReal) * ∑ t : Fin 256, at2 .f32 x0 ⟨b.val * 256 + t.val, by omega⟩ c) (at2 .f32 x2) (at2 .f32 x3 0) (at2 .f32 x4)
        (at2 .f32 x5 0) j := by
  pointwise [k4_pay9, k4_pay4, k4_pay6, k4_pay7, k4_pay8]
  refine congrArg (· + at2 .f32 x5 0 j) (Finset.sum_congr rfl fun o _ => congrArg (· * at2 .f32 x4 j o)
    (congrArg (· + at2 .f32 x3 0 o) (Finset.sum_congr rfl fun c _ => congrArg (· * at2 .f32 x2 o c) ?_)))
  refine Eq.trans ?_ (mean_eq (fun q => at2 .f32 x0 q c) b)
  refine Finset.sum_congr rfl fun q _ => ?_
  rw [seg q, inv256_eq]
  have hb := b.isLt
  have hq := q.isLt
  by_cases h : q.val / 256 = b.val
  · rw [if_pos h, h, show IntOp.cmpi CmpIPredicate.eq (BitVec.ofNat 32 ↑b) (BitVec.ofNat 32 ↑b) = 1#1 by simp [IntOp.cmpi]]
    rfl
  · rw [if_neg h, show IntOp.cmpi CmpIPredicate.eq (BitVec.ofNat 32 (q.val / 256)) (BitVec.ofNat 32 ↑b) = 0#1 from ?_]
    · rfl
    · have : BitVec.ofNat 32 (q.val / 256) ≠ BitVec.ofNat 32 ↑b := fun e => h (by
        have := congrArg BitVec.toInt e
        rw [toInt_word _ (by omega), toInt_word _ (by omega)] at this
        exact_mod_cast this)
      simp [IntOp.cmpi, beq_eq_false_iff_ne.mpr this]

set_option maxHeartbeats 1000000 in
/-- What the body leaves at a row of batch `b`: the chosen row times the scale, and the shift. -/
theorem out4_at (x0 x1 : Vec Ideal S1024x512 .f32) (x2 : Vec Ideal S512x512 .f32) (x3 : Vec Ideal S1x512 .f32) (x4 : Vec Ideal S1024x512 .f32) (x5 : Vec Ideal S1x1024 .f32)
    (n : Fin 1024) (b : Fin 4) (hb : n.val / 256 = b.val) (β : Fin 512) (P : Vec Ideal S1024x512 .f32) (Q : Vec Ideal S4x1024 .f32)
    (hP : P = k4_pay5 x0 x1) (hQ : Q = k4_pay9 (k4_pay4 x0) (iota .tc S4x1024 32 [1] iota_S4x1024_d1_w32) 256#32 k4_pay6 k4_pay7 k4_pay8 x2 x3 x4 x5) :
    (out4_6 x0 x1 x2 x3 x4 x5 : Vec Ideal S1024x512 .bf16) (ix2 n β)
      = P (ix2 n β) * Q (ix2 b ⟨β.val, by omega⟩) + Q (ix2 b ⟨β.val + 512, by omega⟩) := by
  unfold_out out4_6
  frame_out
  rw [show k4_pay5 x0 x1 = P from hP.symm]
  unfold k4_pay12 k4_pay10 k4_pay11
  simp only [← hQ]
  canon_tiles x h
  all_goals
    idx_vars x
    pointwise [k4_pay1, k4_pay2, k4_pay3]
    refine congrArg₂ (· + ·) (congrArg₂ (· * ·) (congrArg P (congrArg₂ ix2 (Fin.ext ?_) (Fin.ext ?_))) (congrArg Q (congrArg₂ ix2 (Fin.ext ?_) (Fin.ext ?_))))
      (congrArg Q (congrArg₂ ix2 (Fin.ext ?_) (Fin.ext ?_)))
  all_goals first | omega | (dsimp only; omega) | (rw [← hb, h0]; show _ = _; omega) | (rw [← hb]; simp; omega)

/-- Every window's one block is its whole array. -/
theorem idx4 : win4_0.index t4_0 = ![0, 0] ∧ win4_1.index t4_0 = ![0, 0] ∧ win4_2.index t4_0 = ![0, 0] ∧ win4_3.index t4_0 = ![0, 0]
    ∧ win4_4.index t4_0 = ![0, 0] ∧ win4_5.index t4_0 = ![0, 0] := by decide +kernel

variable (V : (c : Dev nD) → (b : Ref sig .tc) → Buf (Elt Ideal) ((c : Thread nD τ).loc b))

set_option maxHeartbeats 1000000 in
/-- The result array after the call, at a row of batch `b`: the nearest codebook row times the batch's scale, and its
    shift. -/
theorem vq4 (c : Dev nD) (n : Fin 1024) : ∃ i : Fin 1024,
    IsFirst (dist (at2 .f32 (V c main_v181 : Vec Ideal S1024x512 .f32) n) (at2 .f32 (V c main_arg9 : Vec Ideal S1024x512 .f32))) i
    ∧ ∀ (b : Fin 4), n.val / 256 = b.val → ∀ β : Fin 512,
      let M := film (fun c' => ((1 / 256 : ℝ) : EReal) * ∑ t : Fin 256, at2 .f32 (V c main_v181 : Vec Ideal S1024x512 .f32) ⟨b.val * 256 + t.val, by omega⟩ c')
        (at2 .f32 (V c main_arg10 : Vec Ideal S512x512 .f32)) (at2 .f32 (V c main_v182 : Vec Ideal S1x512 .f32) 0)
        (at2 .f32 (V c main_arg12 : Vec Ideal S1024x512 .f32)) (at2 .f32 (V c main_v183 : Vec Ideal S1x1024 .f32) 0)
      at2 (n0 := 1024) (n1 := 512) .bf16 ((dat4 V c).arrAt 6 cfg4.N) n β
        = at2 .f32 (V c main_arg9 : Vec Ideal S1024x512 .f32) i β * M ⟨β.val, by omega⟩ + M ⟨β.val + 512, by omega⟩ := by
  obtain ⟨i, h1, h2⟩ := code4 (V c main_v181) (V c main_arg9) n
  refine ⟨i, h1, fun b hb β => ?_⟩
  intro M
  rw [← h2 β]
  have hM : ∀ j, M j = _ := fun j => (film4 (V c main_v181) (V c main_arg10) (V c main_v182) (V c main_arg12) (V c main_v183) b j).symm
  rw [hM, hM]
  refine congrFun (a := ix2 n β) ((dat4 V c).arrAt_eq_of_after_last 6 t4_0 (by decide +kernel)
    (out4_6 (V c main_v181) (V c main_arg9) (V c main_arg10) (V c main_v182) (V c main_arg12) (V c main_v183)) fun j => ?_) |>.trans
    (out4_at _ _ _ _ _ _ n b hb β _ _ rfl rfl)
  blk_simp
  rw [after4_6]
  have e0 : iblk4 V c 0 t4_0 = V c main_v181 := funext fun y => by blk_ext [iblk4, idx4.1]
  have e1 : iblk4 V c 1 t4_0 = V c main_arg9 := funext fun y => by blk_ext [iblk4, idx4.2.1]
  have e2 : iblk4 V c 2 t4_0 = V c main_arg10 := funext fun y => by blk_ext [iblk4, idx4.2.2.1]
  have e3 : iblk4 V c 3 t4_0 = V c main_v182 := funext fun y => by blk_ext [iblk4, idx4.2.2.2.1]
  have e4 : iblk4 V c 4 t4_0 = V c main_arg12 := funext fun y => by blk_ext [iblk4, idx4.2.2.2.2.1]
  have e5 : iblk4 V c 5 t4_0 = V c main_v183 := funext fun y => by blk_ext [iblk4, idx4.2.2.2.2.2]
  rw [e0, e1, e2, e3, e4, e5]

end Cert.Proof.Reg

end
-- ==== Proof.Value.RefQ.lean ====
/-
  The reference's quantizer at an index: the distances, the first minimum, the chosen rows and the modulation.
-/
module

public import proofs.«01_k».proof.Proof.Value.RefOps
public import proofs.«01_k».proof.Proof.Value.Vq
public import Idealize.ShloMosaic.Lib.StableHlo.ReadAt
public import Idealize.ShloMosaic.Lib.Routing.Ops
public import Idealize.ShloMosaic.Lib.ReduceAll
public import Idealize.ShloMosaic.Lib.Pointwise
public import Idealize.ShloMosaic.Lib.Pointwise.IndexBridge

@[expose] public section

set_option maxRecDepth 16384

noncomputable section

namespace Cert.Proof.Ref

open Cert.ReferenceIdeal Cert.ReferenceIdeal.Gen Cert.Proof.Conv Cert.Proof.First Cert.Proof.Vq
open Idealize.ShloMosaic Idealize.ShloMosaic.TcCoe Idealize.ShloMosaic.StableHlo Idealize.SL.Sem

/-- The mean, and the distances of every row to every codebook row. -/
def opsQ1 : List (HloOp τ sig (Elt Ideal)) := opsQ.take 24
/-- The index of the nearest codebook row. -/
def opsQ2 : List (HloOp τ sig (Elt Ideal)) := (opsQ.drop 24).take 5
/-- The nearest codebook rows themselves. -/
def opsQ3 : List (HloOp τ sig (Elt Ideal)) := (opsQ.drop 29).take 23
/-- The modulation of the chosen rows. -/
def opsQ4 : List (HloOp τ sig (Elt Ideal)) := opsQ.drop 52

variable (V : Valuation τ sig (Elt Ideal))

/-- The quantizer is its four parts, one after another. -/
theorem after_opsQ : after (opsQ (F := Ideal)) V = after opsQ4 (after opsQ3 (after opsQ2 (after opsQ1 V))) := rfl

set_option maxHeartbeats 1000000 in
/-- The distance of a row to a codebook row. -/
theorem Q1_dist (n j : Fin 1024) :
    at2 .f32 (after opsQ1 V (main_v213 : DevRef τ sig) : Vec Ideal S1024x1024 .f32) n j
      = distFull (fun c => at3 (V (main_v194 : DevRef τ sig) : Vec Ideal S4x512x256 .f32) ⟨n.val / 256, by omega⟩ c ⟨n.val % 256, by omega⟩)
          (at2 .f32 (V (main_arg9 : DevRef τ sig) : Vec Ideal S1024x512 .f32)) j := by
  show (after opsQ1 V (main_v213 : DevRef τ sig) : Vec Ideal S1024x1024 .f32) (ix2 n j) = _
  simp only [opsQ1, opsQ, List.take_succ_cons, List.take_zero]
  after_reads_simp
  pointwise
  rw [two_eq]
  rfl

set_option maxHeartbeats 1000000 in
/-- The mean over the positions. -/
theorem Q1_mean (b : Fin 4) (c : Fin 512) :
    at2 .f32 (after opsQ1 V (main_v197 : DevRef τ sig) : Vec Ideal S4x512 .f32) b c
      = ((1 / 256 : ℝ) : EReal) * ∑ t, at3 (V (main_v194 : DevRef τ sig) : Vec Ideal S4x512x256 .f32) b c t := by
  show (after opsQ1 V (main_v197 : DevRef τ sig) : Vec Ideal S4x512 .f32) (ix2 b c) = _
  simp only [opsQ1, opsQ, List.take_succ_cons, List.take_zero]
  after_reads_simp
  pointwise
  rw [word256_eq, Ideal.div_coe (by norm_num), mul_comm]
  rfl

/-- One step of the reference's arg-min keeps the lesser pair. -/
theorem reducer_eq : (reducer_argmin_f32_i32 (F := Ideal)) = step := by
  funext a b
  obtain ⟨x, i⟩ := a
  obtain ⟨y, j⟩ := b
  unfold step reducer_argmin_f32_i32
  have hs : IntOp.cmpi CmpIPredicate.slt i j = if i.toInt < j.toInt then 1#1 else 0#1 := by
    simp only [IntOp.cmpi, BitVec.slt]
    by_cases h : i.toInt < j.toInt <;> simp [h]
  by_cases h1 : x < y <;> by_cases h2 : x = y <;> by_cases h3 : i.toInt < j.toInt <;>
    simp [Ideal.cmpf_def, Ideal.cmp, Scalar.select, IntOp.ori, IntOp.andi, hs, h1, h2, h3]

set_option maxHeartbeats 1000000 in
/-- The index is the first minimum of the row of distances. -/
theorem Q2_min (n : Fin 1024) : ∃ i : Fin 1024,
    (after opsQ2 V (main_v214 : DevRef τ sig) : IVec S1024 32) (ix1 n) = BitVec.ofNat 32 i
      ∧ IsFirst (at2 .f32 (V (main_v213 : DevRef τ sig) : Vec Ideal S1024x1024 .f32) n) i := by
  simp only [opsQ2, opsQ, List.drop_succ_cons, List.drop_zero, List.take_succ_cons, List.take_zero]
  after_reads_simp
  rw [Ideal.argReduce_eq_reduce2, Host.reduce2_eq_foldl_fiber, reducer_eq]
  rw [show (constant S_ FTy.f32 (2139095040#32) (Shape.Idx.first h_S_) : Ideal .f32) = (⊤ : EReal) from inf_eq]
  refine fold_first (by norm_num) (by norm_num) _ _ fun p => ?_
  have hd : ∀ a b : Fin 1024, reducesTo_S1024x1024_S1024_d1.drop (ix2 a b : S1024x1024.Idx) = ix1 a := by
    intro a b
    rw [eq_ix1 (reducesTo_S1024x1024_S1024_d1.drop (ix2 a b : S1024x1024.Idx))]
    exact congrArg ix1 (Fin.ext (Shape.ReducesTo.drop_apply_val_of_eq (s := S1024x1024) (t := S1024) (axes := [1]) reducesTo_S1024x1024_S1024_d1 (ix2 a b) 0 0))
  unfold Host.argReduceFiber
  rw [List.mem_map]
  constructor
  · rintro ⟨m, hm, rfl⟩
    rw [List.mem_filter] at hm
    have h := of_decide_eq_true hm.2
    generalize S1024x1024.rowMajor.symm m = y at h ⊢
    idx_vars y
    rw [hd] at h
    have : y0 = n := congrFun h 0
    subst this
    exact ⟨y1, rfl⟩
  · rintro ⟨j, rfl⟩
    refine ⟨S1024x1024.rowMajor (ix2 n j), List.mem_filter.mpr ⟨List.mem_finRange _, decide_eq_true ?_⟩, ?_⟩
    · rw [Equiv.symm_apply_apply, hd]
    · rw [Equiv.symm_apply_apply]; rfl

/-- An index that is not negative is taken as it is. -/
theorem wrap : ∀ i : Fin 1024, Scalar.select (IntOp.cmpi CmpIPredicate.slt (BitVec.ofNat 32 i) 0#32) (IntOp.addi (BitVec.ofNat 32 i) 1024#32) (BitVec.ofNat 32 i)
    = BitVec.ofNat 32 i := by decide +kernel

/-- Every index lies inside the codebook. -/
theorem inside : ∀ i : Fin 1024, IntOp.andi (IntOp.cmpi CmpIPredicate.sge (BitVec.ofNat 32 i) 0#32) (IntOp.cmpi CmpIPredicate.sle (BitVec.ofNat 32 i) 1023#32) = 1#1 := by
  decide +kernel

set_option maxHeartbeats 1000000 in
/-- The chosen row. -/
theorem Q3_row (g : Fin 1024 → Fin 1024) (hi : ∀ n, (V (main_v214 : DevRef τ sig) : IVec S1024 32) (ix1 n) = BitVec.ofNat 32 (g n))
    (n : Fin 1024) (c : Fin 512) :
    at2 .f32 (after opsQ3 V (main_v215 : DevRef τ sig) : Vec Ideal S1024x512 .f32) n c
      = at2 .f32 (V (main_arg9 : DevRef τ sig) : Vec Ideal S1024x512 .f32) (g n) c := by
  show (after opsQ3 V (main_v215 : DevRef τ sig) : Vec Ideal S1024x512 .f32) (ix2 n c) = _
  simp only [opsQ3, opsQ, List.drop_succ_cons, List.drop_zero, List.take_succ_cons, List.take_zero]
  after_reads_simp
  generalize hx : (broadcastInDim S1024x1 ![0] bcast_S1024_S1024x1_0
    (select
      (cmpi CmpIPredicate.slt (V (main_v214 : DevRef τ sig) : IVec S1024 32) (broadcastInDim S1024 ![] bcast_S_S1024 (constantI S_ 32 0#32)))
      (addi (V (main_v214 : DevRef τ sig) : IVec S1024 32) (broadcastInDim S1024 ![] bcast_S_S1024 (constantI S_ 32 1024#32)))
      (V (main_v214 : DevRef τ sig) : IVec S1024 32)) : IVec S1024x1 32) = idx
  have hi' : ∀ n, idx (ix2 n 0) = BitVec.ofNat 32 (g n) := by
    intro n
    subst hx
    pointwise
    rw [hi n]
    exact wrap (g n)
  have hm : ∀ n, Host.reduce IntOp.andi (andi (cmpi CmpIPredicate.sge idx (broadcastInDim S1024x1 ![] bcast_S_S1024x1 (constantI S_ 32 0#32)))
      (cmpi CmpIPredicate.sle idx (broadcastInDim S1024x1 ![0, 1] bcast_S1x1_S1024x1_0_1 (broadcastInDim S1x1 ![1] bcast_S1_S1x1_1 (constantI S1 32 1023#32)))))
      (constantI S_ 1 1#1) reducesTo_S1024x1_S1024_d1 h_S_ n = 1#1 := by
    intro n
    refine Host.reduce_andi_one _ _ _ _ _ rfl fun y => ?_
    idx_vars y
    pointwise
    have : y1 = 0 := Subsingleton.elim _ _
    subst this
    rw [hi' y0]
    exact inside (g y0)
  show Scalar.select (Host.reduce IntOp.andi _ _ _ _ _) (Host.gather _ _ _ (ix2 n c)) _ = _
  rw [hm, ix2_eq_valueIdx, Routing.gather_row _ rfl rfl rfl rfl rfl _ _ n c (g n) (by rw [← ix2_eq_valueIdx]; exact hi' n) (by norm_num), ← ix2_eq_valueIdx]
  rfl

set_option maxHeartbeats 1000000 in
/-- The modulation: the chosen row times the scale, and the shift. -/
theorem Q4_film (b : Fin 4) (c : Fin 512) (t : Fin 256) :
    let M := film (at2 .f32 (V (main_v197 : DevRef τ sig) : Vec Ideal S4x512 .f32) b)
        (at2 .f32 (V (main_arg10 : DevRef τ sig) : Vec Ideal S512x512 .f32)) (at1 (V (main_arg11 : DevRef τ sig) : Vec Ideal S512 .f32))
        (at2 .f32 (V (main_arg12 : DevRef τ sig) : Vec Ideal S1024x512 .f32)) (at1 (V (main_arg13 : DevRef τ sig) : Vec Ideal S1024 .f32))
    at3 (after opsQ4 V (main_v235 : DevRef τ sig) : Vec Ideal S4x512x256 .f32) b c t
      = M ⟨c.val, by omega⟩ * at2 .f32 (V (main_v215 : DevRef τ sig) : Vec Ideal S1024x512 .f32) ⟨b.val * 256 + t.val, by omega⟩ c
        + M ⟨512 + c.val, by omega⟩ := by
  intro M
  show (after opsQ4 V (main_v235 : DevRef τ sig) : Vec Ideal S4x512x256 .f32) (ix3 b c t) = _
  simp only [opsQ4, opsQ, List.drop_succ_cons, List.drop_zero]
  after_reads_simp
  pointwise
  rfl

end Cert.Proof.Ref

end
-- ==== Proof.Value.RefVq.lean ====
/-
  The reference's quantizer as a whole: the row of each position, and what becomes of it.
-/
module

public import proofs.«01_k».proof.Proof.Value.RefQ

@[expose] public section

set_option maxRecDepth 16384

noncomputable section

namespace Cert.Proof.Ref

open Cert.ReferenceIdeal Cert.ReferenceIdeal.Gen Cert.Proof.Conv Cert.Proof.First Cert.Proof.Vq
open Idealize.ShloMosaic Idealize.ShloMosaic.TcCoe Idealize.ShloMosaic.StableHlo Idealize.SL.Sem

variable (V : Valuation τ sig (Elt Ideal))

/-- The buffers the quantizer reads from outside. -/
def qIn : List (Ref sig .tc) := [main_arg9, main_arg10, main_arg11, main_arg12, main_arg13]

set_option maxHeartbeats 1000000 in
/-- The first part leaves the codebook and the modulation's weights as they were. -/
theorem Q1_keep (r : Ref sig .tc) (h : r ∈ qIn) : after opsQ1 V (Proc.tc.devRef r) = V (Proc.tc.devRef r) := by
  simp only [qIn, List.mem_cons, List.not_mem_nil, or_false] at h
  rcases h with rfl | rfl | rfl | rfl | rfl <;>
  · simp only [opsQ1, opsQ, List.take_succ_cons, List.take_zero]
    after_reads_simp

set_option maxHeartbeats 1000000 in
/-- So does the second, and it leaves the mean. -/
theorem Q2_keep (r : Ref sig .tc) (h : r ∈ main_v197 :: qIn) : after opsQ2 V (Proc.tc.devRef r) = V (Proc.tc.devRef r) := by
  simp only [qIn, List.mem_cons, List.not_mem_nil, or_false] at h
  rcases h with rfl | rfl | rfl | rfl | rfl | rfl <;>
  · simp only [opsQ2, opsQ, List.drop_succ_cons, List.drop_zero, List.take_succ_cons, List.take_zero]
    after_reads_simp

set_option maxHeartbeats 1000000 in
/-- So does the third. -/
theorem Q3_keep (r : Ref sig .tc) (h : r ∈ main_v197 :: qIn) : after opsQ3 V (Proc.tc.devRef r) = V (Proc.tc.devRef r) := by
  simp only [qIn, List.mem_cons, List.not_mem_nil, or_false] at h
  rcases h with rfl | rfl | rfl | rfl | rfl | rfl <;>
  · simp only [opsQ3, opsQ, List.drop_succ_cons, List.drop_zero, List.take_succ_cons, List.take_zero]
    after_reads_simp

/-- Each position takes the first of its nearest codebook rows, modulated by its batch's mean. -/
theorem Q_at : ∃ g : Fin 1024 → Fin 1024,
    (∀ n : Fin 1024, IsFirst (distFull (fun c => at3 (V (main_v194 : DevRef τ sig) : Vec Ideal S4x512x256 .f32) ⟨n.val / 256, by omega⟩ c ⟨n.val % 256, by omega⟩)
          (at2 .f32 (V (main_arg9 : DevRef τ sig) : Vec Ideal S1024x512 .f32))) (g n))
    ∧ ∀ (b : Fin 4) (c : Fin 512) (t : Fin 256),
      let M := film (fun c' => ((1 / 256 : ℝ) : EReal) * ∑ t, at3 (V (main_v194 : DevRef τ sig) : Vec Ideal S4x512x256 .f32) b c' t)
        (at2 .f32 (V (main_arg10 : DevRef τ sig) : Vec Ideal S512x512 .f32)) (at1 (V (main_arg11 : DevRef τ sig) : Vec Ideal S512 .f32))
        (at2 .f32 (V (main_arg12 : DevRef τ sig) : Vec Ideal S1024x512 .f32)) (at1 (V (main_arg13 : DevRef τ sig) : Vec Ideal S1024 .f32))
      at3 (after opsQ V (main_v235 : DevRef τ sig) : Vec Ideal S4x512x256 .f32) b c t
        = M ⟨c.val, by omega⟩ * at2 .f32 (V (main_arg9 : DevRef τ sig) : Vec Ideal S1024x512 .f32) (g ⟨b.val * 256 + t.val, by omega⟩) c
          + M ⟨512 + c.val, by omega⟩ := by
  choose g hg hf using Q2_min (after opsQ1 V)
  refine ⟨g, fun n => ?_, fun b c t => ?_⟩
  · rw [show distFull _ _ = at2 .f32 (after opsQ1 V (main_v213 : DevRef τ sig) : Vec Ideal S1024x1024 .f32) n from
      funext fun j => (Q1_dist V n j).symm]
    exact hf n
  · intro M
    rw [after_opsQ]
    refine (Q4_film (after opsQ3 (after opsQ2 (after opsQ1 V))) b c t).trans ?_
    rw [Q3_row (after opsQ2 (after opsQ1 V)) g hg]
    rw [Q3_keep _ main_v197 (by decide), Q3_keep _ main_arg10 (by decide), Q3_keep _ main_arg11 (by decide),
      Q3_keep _ main_arg12 (by decide), Q3_keep _ main_arg13 (by decide), Q2_keep _ main_v197 (by decide),
      Q2_keep _ main_arg9 (by decide), Q2_keep _ main_arg10 (by decide), Q2_keep _ main_arg11 (by decide),
      Q2_keep _ main_arg12 (by decide), Q2_keep _ main_arg13 (by decide), Q1_keep _ main_arg9 (by decide),
      Q1_keep _ main_arg10 (by decide), Q1_keep _ main_arg11 (by decide), Q1_keep _ main_arg12 (by decide),
      Q1_keep _ main_arg13 (by decide)]
    rw [show at2 .f32 (after opsQ1 V (main_v197 : DevRef τ sig) : Vec Ideal S4x512 .f32) b = _ from funext fun c' => Q1_mean V b c']

end Cert.Proof.Ref

end
-- ==== Proof.Value.Real.lean ====
/-
  Real numbers among the extended reals: a convolution of real numbers by real weights is real.
-/
module

public import proofs.«01_k».proof.Proof.Value.Coords

@[expose] public section

noncomputable section

namespace Cert.Proof.Real

open Cert.Proof.Conv Cert.Proof.Taps Idealize.ShloMosaic

/-- An extended real that is a real number. -/
def IsReal (x : EReal) : Prop := ∃ r : ℝ, x = r

/-- Zero is real. -/
theorem IsReal.zero : IsReal 0 := ⟨0, rfl⟩

/-- A sum of two reals is real. -/
theorem IsReal.add {x y : EReal} : IsReal x → IsReal y → IsReal (x + y) := by
  rintro ⟨r, rfl⟩ ⟨s, rfl⟩; exact ⟨r + s, (EReal.coe_add r s).symm⟩

/-- A product of two reals is real. -/
theorem IsReal.mul {x y : EReal} : IsReal x → IsReal y → IsReal (x * y) := by
  rintro ⟨r, rfl⟩ ⟨s, rfl⟩; exact ⟨r * s, (EReal.coe_mul r s).symm⟩

/-- A finite sum of reals is real. -/
theorem IsReal.sum {ι : Type} (s : Finset ι) (f : ι → EReal) (h : ∀ i, IsReal (f i)) : IsReal (∑ i ∈ s, f i) := by
  classical
  induction s using Finset.induction_on with
  | empty => rw [Finset.sum_empty]; exact .zero
  | insert a s ha ih => rw [Finset.sum_insert ha]; exact (h a).add ih

/-- A number whose absolute value is below infinity is real. -/
theorem IsReal.of_abs {x : EReal} (h : max x (-x) < ⊤) : IsReal x := by
  induction x with
  | bot => simp at h
  | top => simp at h
  | coe r => exact ⟨r, rfl⟩

/-- The activation's slope is a real number. -/
theorem slope : IsReal (Ideal.ofBits .f32 1036831949#32) := by
  simp [IsReal, Ideal.ofBits, Ideal.ieee, -EReal.coe_mul]

/-- The leaky rectifier of a real is real. -/
theorem IsReal.lrelu {x : EReal} (h : IsReal x) : IsReal (lrelu x) := by
  unfold Conv.lrelu
  split
  · exact h
  · exact slope.mul h

/-- What a tap reads of a real signal is real. -/
theorem IsReal.tapval {T : ℕ} {a b P t k : ℤ} {x : Fin T → EReal} (h : ∀ i, IsReal (x i)) : IsReal (tapval a b P x t k) := by
  unfold Taps.tapval ext
  split
  · split
    · exact h _
    · exact .zero
  · exact .zero

/-- A convolution of real numbers by real weights with real biases is real. -/
theorem IsReal.convT {C T O : ℕ} {a b P : ℕ} {w : Fin O → Fin C → Fin 7 → EReal} {bb : Fin O → EReal}
    {x : Fin 4 → Fin C → Fin T → EReal} (hw : ∀ o c k, IsReal (w o c k)) (hb : ∀ o, IsReal (bb o))
    (hx : ∀ b c t, IsReal (x b c t)) (bi : Fin 4) (o : Fin O) (t : ℕ) : IsReal (convT a b P w bb x bi o t) := by
  unfold Conv.convT
  exact (IsReal.sum _ _ fun c => IsReal.sum _ _ fun k => (hw o c k).mul (.tapval (hx bi c))).add (hb o)

end Cert.Proof.Real

end
-- ==== Proof.Value.ChainQ.lean ====
/-
  The quantizer in both programs: the fifth call leaves, in flat order, what the reference's quantizer computes.
-/
module

public import proofs.«01_k».proof.Proof.Gen.KernelIdeal.Frame
public import proofs.«01_k».proof.Proof.Value.Reg4
public import proofs.«01_k».proof.Proof.Value.RefVq
public import proofs.«01_k».proof.Proof.Value.Real

@[expose] public section

set_option maxRecDepth 16384

noncomputable section

namespace Cert.Proof.Chain

open Cert.Proof.Conv Cert.Proof.Taps Cert.Proof.First Cert.Proof.Vq Cert.Proof.Real
open Idealize.ShloMosaic Idealize.ShloMosaic.TcCoe Idealize.ShloMosaic.StableHlo Idealize.SL.Sem
open Cert.KernelIdeal Cert.KernelIdeal.Gen

variable (X : Valuation τ sig (Elt Ideal))

/-- The first bias row of the modulation. -/
theorem lin_bias (j : Fin 512) : at2 .f32 (after hostOps4 X (main_v182 : DevRef τ sig) : Vec Ideal S1x512 .f32) 0 j
    = at1 (X (main_arg11 : DevRef τ sig) : Vec Ideal S512 .f32) j := by
  after_reads_simp
  unfold at2 at1
  pointwise

/-- The second bias row of the modulation. -/
theorem film_bias (j : Fin 1024) : at2 .f32 (after hostOps4 X (main_v183 : DevRef τ sig) : Vec Ideal S1x1024 .f32) 0 j
    = at1 (X (main_arg13 : DevRef τ sig) : Vec Ideal S1024 .f32) j := by
  after_reads_simp
  unfold at2 at1
  pointwise

variable (m : (ℓ : Loc nD τ sig) → Buf (Elt Ideal) ℓ) (ρ : Dev nD → PrngReg) (c : Dev nD)
  (U : Valuation Cert.ReferenceIdeal.τ Cert.ReferenceIdeal.sig (Elt Ideal))

set_option maxHeartbeats 1000000 in
/-- The quantizer: given a real embedding, the fifth call takes the reference's codebook rows and modulates them alike. -/
theorem q
    (h9 : (W9 m ρ c (main_arg9 : DevRef τ sig) : Vec Ideal S1024x512 .f32) = U (Proc.tc.devRef Cert.ReferenceIdeal.main_arg9))
    (h10 : (W9 m ρ c (main_arg10 : DevRef τ sig) : Vec Ideal S512x512 .f32) = U (Proc.tc.devRef Cert.ReferenceIdeal.main_arg10))
    (h11 : (W8 m ρ c (main_arg11 : DevRef τ sig) : Vec Ideal S512 .f32) = U (Proc.tc.devRef Cert.ReferenceIdeal.main_arg11))
    (h12 : (W9 m ρ c (main_arg12 : DevRef τ sig) : Vec Ideal S1024x512 .f32) = U (Proc.tc.devRef Cert.ReferenceIdeal.main_arg12))
    (h13 : (W8 m ρ c (main_arg13 : DevRef τ sig) : Vec Ideal S1024 .f32) = U (Proc.tc.devRef Cert.ReferenceIdeal.main_arg13))
    (h : ∀ n β, at2 .f32 (W8 m ρ c (main_v181 : DevRef τ sig) : Vec Ideal S1024x512 .f32) n β
      = lay (at3 (U (Proc.tc.devRef Cert.ReferenceIdeal.main_v194) : Vec Ideal Cert.ReferenceIdeal.S4x512x256 .f32)) ((n : ℕ) * 512 + β))
    (hr : ∀ b o t, IsReal (at3 (U (Proc.tc.devRef Cert.ReferenceIdeal.main_v194) : Vec Ideal Cert.ReferenceIdeal.S4x512x256 .f32) b o t))
    (n : Fin 1024) (β : Fin 512) :
    at2 .bf16 (W10 m ρ c (main_v184 : DevRef τ sig) : Vec Ideal S1024x512 .bf16) n β
      = lay (at3 (after Ref.opsQ U (Proc.tc.devRef Cert.ReferenceIdeal.main_v235) : Vec Ideal Cert.ReferenceIdeal.S4x512x256 .f32)) ((n : ℕ) * 512 + β) := by
  refine (congrFun (congrFun (congrArg (at2 (n0 := 1024) (n1 := 512) .bf16) (W10_arr m ρ c 6)) n) β).trans ?_
  obtain ⟨i, hi, hv⟩ := Reg.vq4 (V9 m ρ) c n
  obtain ⟨g, hg, hq⟩ := Ref.Q_at U
  have hn := n.isLt
  have he : ∀ (n : Fin 1024) (β : Fin 512), at2 .f32 (V9 m ρ c main_v181 : Vec Ideal S1024x512 .f32) n β
      = at3 (U (Proc.tc.devRef Cert.ReferenceIdeal.main_v194) : Vec Ideal Cert.ReferenceIdeal.S4x512x256 .f32) ⟨n.val / 256, by omega⟩ β ⟨n.val % 256, by omega⟩ := by
    intro n β
    rw [show V9 m ρ c main_v181 = W8 m ρ c (main_v181 : DevRef τ sig) from W9_of m ρ c main_v181 (by decide), h,
      lay_at _ ⟨n.val / 256, by omega⟩ β ⟨n.val % 256, by omega⟩ _ (by simp; omega)]
  have hcode : g n = i := by
    refine first_eq _ (fun c' => ?_) _ (hg n) ?_
    · exact hr _ _ _
    · rw [← h9]
      rw [show (fun c' => at3 (U (Proc.tc.devRef Cert.ReferenceIdeal.main_v194) : Vec Ideal Cert.ReferenceIdeal.S4x512x256 .f32) ⟨n.val / 256, by omega⟩ c' ⟨n.val % 256, by omega⟩)
        = at2 .f32 (V9 m ρ c main_v181 : Vec Ideal S1024x512 .f32) n from funext fun β => (he n β).symm]
      exact hi
  refine (hv ⟨n.val / 256, by omega⟩ rfl β).trans ?_
  rw [lay_at _ ⟨n.val / 256, by omega⟩ β ⟨n.val % 256, by omega⟩ _ (by simp; omega), hq]
  have hpos : (⟨n.val / 256 * 256 + n.val % 256, by omega⟩ : Fin 1024) = n := Fin.ext (Nat.div_add_mod' _ _)
  have hfilm : film (fun c' => ((1 / 256 : ℝ) : EReal) * ∑ t : Fin 256, at2 .f32 (V9 m ρ c main_v181 : Vec Ideal S1024x512 .f32) ⟨n.val / 256 * 256 + t.val, by omega⟩ c')
        (at2 .f32 (V9 m ρ c main_arg10 : Vec Ideal S512x512 .f32)) (at2 .f32 (V9 m ρ c main_v182 : Vec Ideal S1x512 .f32) 0)
        (at2 .f32 (V9 m ρ c main_arg12 : Vec Ideal S1024x512 .f32)) (at2 .f32 (V9 m ρ c main_v183 : Vec Ideal S1x1024 .f32) 0)
      = film (fun c' => ((1 / 256 : ℝ) : EReal) * ∑ t, at3 (U (Proc.tc.devRef Cert.ReferenceIdeal.main_v194) : Vec Ideal Cert.ReferenceIdeal.S4x512x256 .f32) ⟨n.val / 256, by omega⟩ c' t)
        (at2 .f32 (U (Proc.tc.devRef Cert.ReferenceIdeal.main_arg10) : Vec Ideal Cert.ReferenceIdeal.S512x512 .f32))
        (at1 (U (Proc.tc.devRef Cert.ReferenceIdeal.main_arg11) : Vec Ideal Cert.ReferenceIdeal.S512 .f32))
        (at2 .f32 (U (Proc.tc.devRef Cert.ReferenceIdeal.main_arg12) : Vec Ideal Cert.ReferenceIdeal.S1024x512 .f32))
        (at1 (U (Proc.tc.devRef Cert.ReferenceIdeal.main_arg13) : Vec Ideal Cert.ReferenceIdeal.S1024 .f32)) := by
    rw [← h10, ← h11, ← h12, ← h13]
    congr 1
    · funext c'
      congr 1
      refine Finset.sum_congr rfl fun t _ => (he _ _).trans ?_
      have ht := t.isLt
      exact congrArg₂ (fun a b => at3 (U (Proc.tc.devRef Cert.ReferenceIdeal.main_v194) : Vec Ideal Cert.ReferenceIdeal.S4x512x256 .f32) a c' b)
        (Fin.ext (by show (n.val / 256 * 256 + t.val) / 256 = n.val / 256; omega)) (Fin.ext (by show (n.val / 256 * 256 + t.val) % 256 = t.val; omega))
    · exact funext fun j => lin_bias (W8 m ρ c) j
    · exact funext fun j => film_bias (W8 m ρ c) j
  dsimp only
  rw [hfilm, ← h9]
  refine congrArg₂ (· + ·) ((mul_comm _ _).trans (congrArg₂ (· * ·) rfl ?_)) (congrArg _ (Fin.ext (Nat.add_comm _ _)))
  show at2 .f32 (W9 m ρ c (main_arg9 : DevRef τ sig) : Vec Ideal S1024x512 .f32) i β = _
  rw [hpos, hcode]

end Cert.Proof.Chain

end
-- ==== Proof.Value.Reg5.lean ====
/-
  What the first decoder layer's call leaves in its result array: the products over three neighbouring rows.
-/
module

public import proofs.«01_k».proof.Proof.Gen.KernelIdeal.Frame.Region5
public import proofs.«01_k».proof.Proof.Value.Coords
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv
open Idealize.ShloMosaic Idealize.ShloMosaic.TcCoe Idealize.SL.Sem
open Idealize.ShloMosaic.Pipeline (Dat)

/-- Where each window's block lies, and the two tests on the point's number. -/
theorem idx5 : ∀ t : Fin cfg5.N, win5_0.index t = ![t.val - 1, 0] ∧ win5_1.index t = ![t.val, 0]
    ∧ win5_2.index t = ![min (t.val + 1) 3, 0] ∧ win5_3.index t = ![0, 0] ∧ win5_4.index t = ![0, 0]
    ∧ win5_5.index t = ![0, 0] ∧ win5_6.index t = ![0, 0] ∧ win5_7.index t = ![t.val, 0]
    ∧ (Scalar.cmpi .eq (Scalar.remsi (BitVec.ofNat 32 ↑(grid5.coords t 0)) 1#32) 0#32 = 1#1 ↔ t.val % 1 = 0)
    ∧ (Scalar.cmpi .eq (Scalar.remsi (BitVec.ofNat 32 ↑(grid5.coords t 0)) 1#32) 0#32 = 1#1 ↔ t.val % 1 + 1 = 1) :=
  (by decide +kernel : ∀ t : Fin grid5.N, _)

set_option maxHeartbeats 1000000 in
/-- What the body computes from its blocks, at one row and column. -/
theorem pay5 (i : grid5.Coords) (x0 x1 x2 : Vec Ideal S256x512 .bf16) (x3 x4 x5 : Vec Ideal S512x1024 .f32) (x6 : Vec Ideal S1x1024 .f32)
    (t : ℕ) (X : Fin 1024 → Fin 512 → EReal) (wm w0 wp : Fin 512 → Fin 1024 → EReal) (bias : Fin 1024 → EReal)
    (r : Fin 256) (n : Fin 1024) (β : Fin 1024)
    (c0 : Scalar.cmpi .eq (Scalar.remsi (BitVec.ofNat 32 ↑(i 0)) 1#32) 0#32 = 1#1 ↔ t % 1 = 0)
    (c1 : Scalar.cmpi .eq (Scalar.remsi (BitVec.ofNat 32 ↑(i 0)) 1#32) 0#32 = 1#1 ↔ t % 1 + 1 = 1)
    (hn : n.val = 256 * t + r)
    (hB0 : ∀ (r' : Fin 256) (n' : Fin 1024) α, t % 1 ≠ 0 → n'.val + 256 = 256 * t + r' → at2 .bf16 x0 r' α = X n' α)
    (hB1 : ∀ (r' : Fin 256) (n' : Fin 1024) α, n'.val = 256 * t + r' → at2 .bf16 x1 r' α = X n' α)
    (hB2 : ∀ (r' : Fin 256) (n' : Fin 1024) α, n'.val = 256 * t + 256 + r' → at2 .bf16 x2 r' α = X n' α)
    (hb : at2 .f32 x6 0 = bias) (hWm : at2 .f32 x3 = wm) (hW0 : at2 .f32 x4 = w0) (hWp : at2 .f32 x5 = wp) :
    (k5_pay1 (k5_pay2 i x1 (View.ld x0 r5_1) (View.ld x2 r5_2) x6 x3 x4 x5) : Vec Ideal S256x1024 .bf16) (ix2 r β)
      = lrelu (convAt 256 X wm w0 wp bias n β) := by
  subst hb hWm hW0 hWp
  pointwise [k5_pay1, k5_pay2]
  exact lrelu_of_eq rfl (conv_point (F := 256) (m1 := 255) (P := 1) t _ _ _ _ _ (at2 .bf16 x0) (at2 .bf16 x1) (at2 .bf16 x2)
    (at2 .f32 x3) (at2 .f32 x4) (at2 .f32 x5) _ _ _ (by norm_num) (by norm_num) (by norm_num) c0 c1 r n β hn hB0 hB1 hB2 (by norm_num)
    rfl (fun _ => rfl) (fun _ => rfl) (fun _ => rfl))

variable (V : (c : Dev nD) → (b : Ref sig .tc) → Buf (Elt Ideal) ((c : Thread nD τ).loc b))

set_option maxHeartbeats 1000000 in
/-- The result array after the call: the products over three neighbouring rows of the operand, and the bias. -/
theorem conv5 (c : Dev nD) (n : Fin 1024) (β : Fin 1024) : at2 (n0 := 1024) (n1 := 1024) .bf16 ((dat5 V c).arrAt 7 cfg5.N) n β
    = lrelu (convAt 256 (at2 .bf16 (V c main_v228 : Vec Ideal S1024x512 .bf16))
      (at2 .f32 (V c main_v196 : Vec Ideal S512x1024 .f32)) (at2 .f32 (V c main_v217 : Vec Ideal S512x1024 .f32))
      (at2 .f32 (V c main_v223 : Vec Ideal S512x1024 .f32)) (at2 .f32 (V c main_v227 : Vec Ideal S1x1024 .f32) 0) n β) := by
  refine congrFun (a := ix2 n β) ((dat5 V c).arrAt_eq_of_covers 7 (fun y => lrelu (convAt 256 (at2 .bf16 (V c main_v228 : Vec Ideal S1024x512 .bf16))
      (at2 .f32 (V c main_v196 : Vec Ideal S512x1024 .f32)) (at2 .f32 (V c main_v217 : Vec Ideal S512x1024 .f32))
      (at2 .f32 (V c main_v223 : Vec Ideal S512x1024 .f32)) (at2 .f32 (V c main_v227 : Vec Ideal S1x1024 .f32) 0) (y 0) (y 1)))
    (by decide +kernel) fun t hf y => ?_)
  obtain ⟨i0, i1, i2, i3, i4, i5, i6, i7, c0, c1⟩ := idx5 t
  have ht : t.val < 4 := t.isLt
  blk_simp
  rw [after5_7]
  frame_out
  idx_vars y
  have e : (((View.whole main_v229).slice (win5_7.rect t)).emb (ix2 y0 y1)) = ix2 (n0 := 1024) (n1 := 1024) ⟨256 * t.val + y0.val, by omega⟩ y1 := by
    blk_ext [i7]
  rw [e]
  refine pay5 (grid5.coords t) (iblk5 V c 0 t) (iblk5 V c 1 t) (iblk5 V c 2 t) (iblk5 V c 3 t) (iblk5 V c 4 t) (iblk5 V c 5 t)
    (iblk5 V c 6 t) t.val _ _ _ _ _ y0 ⟨256 * t.val + y0.val, by omega⟩ y1 c0 c1 rfl
    (fun r' n' α h h' => ?_) (fun r' n' α h' => ?_) (fun r' n' α h' => ?_) (funext fun β => ?_) (funext₂ fun α β => ?_)
    (funext₂ fun α β => ?_) (funext₂ fun α β => ?_) <;> unfold at2
  · blk_ext [iblk5, i0]
  · blk_ext [iblk5, i1]
  · blk_ext [iblk5, i2]
  · blk_ext [iblk5, i6]
  · blk_ext [iblk5, i3]
  · blk_ext [iblk5, i4]
  · blk_ext [iblk5, i5]

end Cert.Proof.Reg

end
-- ==== Proof.Value.Reg6.lean ====
/-
  What the second decoder layer's call leaves in its result array: the products over three neighbouring rows.
-/
module

public import proofs.«01_k».proof.Proof.Gen.KernelIdeal.Frame.Region6
public import proofs.«01_k».proof.Proof.Value.Coords
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv
open Idealize.ShloMosaic Idealize.ShloMosaic.TcCoe Idealize.SL.Sem
open Idealize.ShloMosaic.Pipeline (Dat)

/-- Where each window's block lies, and the two tests on the point's number. -/
theorem idx6 : ∀ t : Fin cfg6.N, win6_0.index t = ![t.val - 1, 0] ∧ win6_1.index t = ![t.val, 0]
    ∧ win6_2.index t = ![min (t.val + 1) 3, 0] ∧ win6_3.index t = ![0, 0] ∧ win6_4.index t = ![0, 0]
    ∧ win6_5.index t = ![0, 0] ∧ win6_6.index t = ![0, 0] ∧ win6_7.index t = ![t.val, 0]
    ∧ (Scalar.cmpi .eq (Scalar.remsi (BitVec.ofNat 32 ↑(grid6.coords t 0)) 1#32) 0#32 = 1#1 ↔ t.val % 1 = 0)
    ∧ (Scalar.cmpi .eq (Scalar.remsi (BitVec.ofNat 32 ↑(grid6.coords t 0)) 1#32) 0#32 = 1#1 ↔ t.val % 1 + 1 = 1) :=
  (by decide +kernel : ∀ t : Fin grid6.N, _)

set_option maxHeartbeats 1000000 in
/-- What the body computes from its blocks, at one row and column. -/
theorem pay6 (i : grid6.Coords) (x0 x1 x2 : Vec Ideal S1024x256 .bf16) (x3 x4 x5 : Vec Ideal S256x512 .f32) (x6 : Vec Ideal S1x512 .f32)
    (t : ℕ) (X : Fin 4096 → Fin 256 → EReal) (wm w0 wp : Fin 256 → Fin 512 → EReal) (bias : Fin 512 → EReal)
    (r : Fin 1024) (n : Fin 4096) (β : Fin 512)
    (c0 : Scalar.cmpi .eq (Scalar.remsi (BitVec.ofNat 32 ↑(i 0)) 1#32) 0#32 = 1#1 ↔ t % 1 = 0)
    (c1 : Scalar.cmpi .eq (Scalar.remsi (BitVec.ofNat 32 ↑(i 0)) 1#32) 0#32 = 1#1 ↔ t % 1 + 1 = 1)
    (hn : n.val = 1024 * t + r)
    (hB0 : ∀ (r' : Fin 1024) (n' : Fin 4096) α, t % 1 ≠ 0 → n'.val + 1024 = 1024 * t + r' → at2 .bf16 x0 r' α = X n' α)
    (hB1 : ∀ (r' : Fin 1024) (n' : Fin 4096) α, n'.val = 1024 * t + r' → at2 .bf16 x1 r' α = X n' α)
    (hB2 : ∀ (r' : Fin 1024) (n' : Fin 4096) α, n'.val = 1024 * t + 1024 + r' → at2 .bf16 x2 r' α = X n' α)
    (hb : at2 .f32 x6 0 = bias) (hWm : at2 .f32 x3 = wm) (hW0 : at2 .f32 x4 = w0) (hWp : at2 .f32 x5 = wp) :
    (k6_pay1 (k6_pay2 i x1 (View.ld x0 r6_1) (View.ld x2 r6_2) x6 x3 x4 x5) : Vec Ideal S1024x512 .bf16) (ix2 r β)
      = lrelu (convAt 1024 X wm w0 wp bias n β) := by
  subst hb hWm hW0 hWp
  pointwise [k6_pay1, k6_pay2]
  exact lrelu_of_eq rfl (conv_point (F := 1024) (m1 := 1023) (P := 1) t _ _ _ _ _ (at2 .bf16 x0) (at2 .bf16 x1) (at2 .bf16 x2)
    (at2 .f32 x3) (at2 .f32 x4) (at2 .f32 x5) _ _ _ (by norm_num) (by norm_num) (by norm_num) c0 c1 r n β hn hB0 hB1 hB2 (by norm_num)
    rfl (fun _ => rfl) (fun _ => rfl) (fun _ => rfl))

variable (V : (c : Dev nD) → (b : Ref sig .tc) → Buf (Elt Ideal) ((c : Thread nD τ).loc b))

set_option maxHeartbeats 1000000 in
/-- The result array after the call: the products over three neighbouring rows of the operand, and the bias. -/
theorem conv6 (c : Dev nD) (n : Fin 4096) (β : Fin 512) : at2 (n0 := 4096) (n1 := 512) .bf16 ((dat6 V c).arrAt 7 cfg6.N) n β
    = lrelu (convAt 1024 (at2 .bf16 (V c main_v273 : Vec Ideal S4096x256 .bf16))
      (at2 .f32 (V c main_v241 : Vec Ideal S256x512 .f32)) (at2 .f32 (V c main_v262 : Vec Ideal S256x512 .f32))
      (at2 .f32 (V c main_v268 : Vec Ideal S256x512 .f32)) (at2 .f32 (V c main_v272 : Vec Ideal S1x512 .f32) 0) n β) := by
  refine congrFun (a := ix2 n β) ((dat6 V c).arrAt_eq_of_covers 7 (fun y => lrelu (convAt 1024 (at2 .bf16 (V c main_v273 : Vec Ideal S4096x256 .bf16))
      (at2 .f32 (V c main_v241 : Vec Ideal S256x512 .f32)) (at2 .f32 (V c main_v262 : Vec Ideal S256x512 .f32))
      (at2 .f32 (V c main_v268 : Vec Ideal S256x512 .f32)) (at2 .f32 (V c main_v272 : Vec Ideal S1x512 .f32) 0) (y 0) (y 1)))
    (by decide +kernel) fun t hf y => ?_)
  obtain ⟨i0, i1, i2, i3, i4, i5, i6, i7, c0, c1⟩ := idx6 t
  have ht : t.val < 4 := t.isLt
  blk_simp
  rw [after6_7]
  frame_out
  idx_vars y
  have e : (((View.whole main_v274).slice (win6_7.rect t)).emb (ix2 y0 y1)) = ix2 (n0 := 4096) (n1 := 512) ⟨1024 * t.val + y0.val, by omega⟩ y1 := by
    blk_ext [i7]
  rw [e]
  refine pay6 (grid6.coords t) (iblk6 V c 0 t) (iblk6 V c 1 t) (iblk6 V c 2 t) (iblk6 V c 3 t) (iblk6 V c 4 t) (iblk6 V c 5 t)
    (iblk6 V c 6 t) t.val _ _ _ _ _ y0 ⟨1024 * t.val + y0.val, by omega⟩ y1 c0 c1 rfl
    (fun r' n' α h h' => ?_) (fun r' n' α h' => ?_) (fun r' n' α h' => ?_) (funext fun β => ?_) (funext₂ fun α β => ?_)
    (funext₂ fun α β => ?_) (funext₂ fun α β => ?_) <;> unfold at2
  · blk_ext [iblk6, i0]
  · blk_ext [iblk6, i1]
  · blk_ext [iblk6, i2]
  · blk_ext [iblk6, i6]
  · blk_ext [iblk6, i3]
  · blk_ext [iblk6, i4]
  · blk_ext [iblk6, i5]

end Cert.Proof.Reg

end
-- ==== Proof.Value.Reg7.lean ====
/-
  What the third decoder layer's call leaves in its result array: the products over three neighbouring rows.
-/
module

public import proofs.«01_k».proof.Proof.Gen.KernelIdeal.Frame.Region7
public import proofs.«01_k».proof.Proof.Value.Coords
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv
open Idealize.ShloMosaic Idealize.ShloMosaic.TcCoe Idealize.SL.Sem
open Idealize.ShloMosaic.Pipeline (Dat)

/-- Where each window's block lies, and the two tests on the point's number. -/
theorem idx7 : ∀ t : Fin cfg7.N, win7_0.index t = ![t.val - 1, 0] ∧ win7_1.index t = ![t.val, 0]
    ∧ win7_2.index t = ![min (t.val + 1) 7, 0] ∧ win7_3.index t = ![0, 0] ∧ win7_4.index t = ![0, 0]
    ∧ win7_5.index t = ![0, 0] ∧ win7_6.index t = ![0, 0] ∧ win7_7.index t = ![t.val, 0]
    ∧ (Scalar.cmpi .eq (Scalar.remsi (BitVec.ofNat 32 ↑(grid7.coords t 0)) 2#32) 0#32 = 1#1 ↔ t.val % 2 = 0)
    ∧ (Scalar.cmpi .eq (Scalar.remsi (BitVec.ofNat 32 ↑(grid7.coords t 0)) 2#32) 1#32 = 1#1 ↔ t.val % 2 + 1 = 2) :=
  (by decide +kernel : ∀ t : Fin grid7.N, _)

set_option maxHeartbeats 1000000 in
/-- What the body computes from its blocks, at one row and column. -/
theorem pay7 (i : grid7.Coords) (x0 x1 x2 : Vec Ideal S2048x128 .bf16) (x3 x4 x5 : Vec Ideal S128x256 .f32) (x6 : Vec Ideal S1x256 .f32)
    (t : ℕ) (X : Fin 16384 → Fin 128 → EReal) (wm w0 wp : Fin 128 → Fin 256 → EReal) (bias : Fin 256 → EReal)
    (r : Fin 2048) (n : Fin 16384) (β : Fin 256)
    (c0 : Scalar.cmpi .eq (Scalar.remsi (BitVec.ofNat 32 ↑(i 0)) 2#32) 0#32 = 1#1 ↔ t % 2 = 0)
    (c1 : Scalar.cmpi .eq (Scalar.remsi (BitVec.ofNat 32 ↑(i 0)) 2#32) 1#32 = 1#1 ↔ t % 2 + 1 = 2)
    (hn : n.val = 2048 * t + r)
    (hB0 : ∀ (r' : Fin 2048) (n' : Fin 16384) α, t % 2 ≠ 0 → n'.val + 2048 = 2048 * t + r' → at2 .bf16 x0 r' α = X n' α)
    (hB1 : ∀ (r' : Fin 2048) (n' : Fin 16384) α, n'.val = 2048 * t + r' → at2 .bf16 x1 r' α = X n' α)
    (hB2 : ∀ (r' : Fin 2048) (n' : Fin 16384) α, n'.val = 2048 * t + 2048 + r' → at2 .bf16 x2 r' α = X n' α)
    (hb : at2 .f32 x6 0 = bias) (hWm : at2 .f32 x3 = wm) (hW0 : at2 .f32 x4 = w0) (hWp : at2 .f32 x5 = wp) :
    (k7_pay1 (k7_pay2 i x1 (View.ld x0 r7_1) (View.ld x2 r7_2) x6 x3 x4 x5) : Vec Ideal S2048x256 .bf16) (ix2 r β)
      = lrelu (convAt 4096 X wm w0 wp bias n β) := by
  subst hb hWm hW0 hWp
  pointwise [k7_pay1, k7_pay2]
  exact lrelu_of_eq rfl (conv_point (F := 4096) (m1 := 2047) (P := 2) t _ _ _ _ _ (at2 .bf16 x0) (at2 .bf16 x1) (at2 .bf16 x2)
    (at2 .f32 x3) (at2 .f32 x4) (at2 .f32 x5) _ _ _ (by norm_num) (by norm_num) (by norm_num) c0 c1 r n β hn hB0 hB1 hB2 (by norm_num)
    rfl (fun _ => rfl) (fun _ => rfl) (fun _ => rfl))

variable (V : (c : Dev nD) → (b : Ref sig .tc) → Buf (Elt Ideal) ((c : Thread nD τ).loc b))

set_option maxHeartbeats 1000000 in
/-- The result array after the call: the products over three neighbouring rows of the operand, and the bias. -/
theorem conv7 (c : Dev nD) (n : Fin 16384) (β : Fin 256) : at2 (n0 := 16384) (n1 := 256) .bf16 ((dat7 V c).arrAt 7 cfg7.N) n β
    = lrelu (convAt 4096 (at2 .bf16 (V c main_v318 : Vec Ideal S16384x128 .bf16))
      (at2 .f32 (V c main_v286 : Vec Ideal S128x256 .f32)) (at2 .f32 (V c main_v307 : Vec Ideal S128x256 .f32))
      (at2 .f32 (V c main_v313 : Vec Ideal S128x256 .f32)) (at2 .f32 (V c main_v317 : Vec Ideal S1x256 .f32) 0) n β) := by
  refine congrFun (a := ix2 n β) ((dat7 V c).arrAt_eq_of_covers 7 (fun y => lrelu (convAt 4096 (at2 .bf16 (V c main_v318 : Vec Ideal S16384x128 .bf16))
      (at2 .f32 (V c main_v286 : Vec Ideal S128x256 .f32)) (at2 .f32 (V c main_v307 : Vec Ideal S128x256 .f32))
      (at2 .f32 (V c main_v313 : Vec Ideal S128x256 .f32)) (at2 .f32 (V c main_v317 : Vec Ideal S1x256 .f32) 0) (y 0) (y 1)))
    (by decide +kernel) fun t hf y => ?_)
  obtain ⟨i0, i1, i2, i3, i4, i5, i6, i7, c0, c1⟩ := idx7 t
  have ht : t.val < 8 := t.isLt
  blk_simp
  rw [after7_7]
  frame_out
  idx_vars y
  have e : (((View.whole main_v319).slice (win7_7.rect t)).emb (ix2 y0 y1)) = ix2 (n0 := 16384) (n1 := 256) ⟨2048 * t.val + y0.val, by omega⟩ y1 := by
    blk_ext [i7]
  rw [e]
  refine pay7 (grid7.coords t) (iblk7 V c 0 t) (iblk7 V c 1 t) (iblk7 V c 2 t) (iblk7 V c 3 t) (iblk7 V c 4 t) (iblk7 V c 5 t)
    (iblk7 V c 6 t) t.val _ _ _ _ _ y0 ⟨2048 * t.val + y0.val, by omega⟩ y1 c0 c1 rfl
    (fun r' n' α h h' => ?_) (fun r' n' α h' => ?_) (fun r' n' α h' => ?_) (funext fun β => ?_) (funext₂ fun α β => ?_)
    (funext₂ fun α β => ?_) (funext₂ fun α β => ?_) <;> unfold at2
  · blk_ext [iblk7, i0]
  · blk_ext [iblk7, i1]
  · blk_ext [iblk7, i2]
  · blk_ext [iblk7, i6]
  · blk_ext [iblk7, i3]
  · blk_ext [iblk7, i4]
  · blk_ext [iblk7, i5]

end Cert.Proof.Reg

end
-- ==== Proof.Value.Reg8.lean ====
/-
  What the last decoder layer's call leaves in its result array: the products over three neighbouring rows.
-/
module

public import proofs.«01_k».proof.Proof.Gen.KernelIdeal.Frame.Region8
public import proofs.«01_k».proof.Proof.Value.Coords
public import Idealize.ShloMosaic.Lib.Pipeline.Value
public import Idealize.ShloMosaic.Lib.Pipeline.ValueKit

@[expose] public section

set_option maxRecDepth 16384

noncomputable section

namespace Cert.Proof.Reg

open Cert.KernelIdeal Cert.KernelIdeal.Gen Cert.Proof.Conv
open Idealize.ShloMosaic Idealize.ShloMosaic.TcCoe Idealize.SL.Sem
open Idealize.ShloMosaic.Pipeline (Dat)

/-- Where each window's block lies, and the two tests on the point's number. -/
theorem idx8 : ∀ t : Fin cfg8.N, win8_0.index t = ![t.val - 1, 0] ∧ win8_1.index t = ![t.val, 0]
    ∧ win8_2.index t = ![min (t.val + 1) 3, 0] ∧ win8_3.index t = ![0, 0] ∧ win8_4.index t = ![0, 0]
    ∧ win8_5.index t = ![0, 0] ∧ win8_6.index t = ![0, 0] ∧ win8_7.index t = ![t.val, 0]
    ∧ (Scalar.cmpi .eq (Scalar.remsi (BitVec.ofNat 32 ↑(grid8.coords t 0)) 1#32) 0#32 = 1#1 ↔ t.val % 1 = 0)
    ∧ (Scalar.cmpi .eq (Scalar.remsi (BitVec.ofNat 32 ↑(grid8.coords t 0)) 1#32) 0#32 = 1#1 ↔ t.val % 1 + 1 = 1) :=
  (by decide +kernel : ∀ t : Fin grid8.N, _)

set_option maxHeartbeats 1000000 in
/-- What the body computes from its blocks, at one row and column. -/
theorem pay8 (i : grid8.Coords) (x0 x1 x2 : Vec Ideal S256x4096 .bf16) (x3 x4 x5 : Vec Ideal S4096x128 .f32) (x6 : Vec Ideal S1x128 .f32)
    (t : ℕ) (X : Fin 1024 → Fin 4096 → EReal) (wm w0 wp : Fin 4096 → Fin 128 → EReal) (bias : Fin 128 → EReal)
    (r : Fin 256) (n : Fin 1024) (β : Fin 128)
    (c0 : Scalar.cmpi .eq (Scalar.remsi (BitVec.ofNat 32 ↑(i 0)) 1#32) 0#32 = 1#1 ↔ t % 1 = 0)
    (c1 : Scalar.cmpi .eq (Scalar.remsi (BitVec.ofNat 32 ↑(i 0)) 1#32) 0#32 = 1#1 ↔ t % 1 + 1 = 1)
    (hn : n.val = 256 * t + r)
    (hB0 : ∀ (r' : Fin 256) (n' : Fin 1024) α, t % 1 ≠ 0 → n'.val + 256 = 256 * t + r' → at2 .bf16 x0 r' α = X n' α)
    (hB1 : ∀ (r' : Fin 256) (n' : Fin 1024) α, n'.val = 256 * t + r' → at2 .bf16 x1 r' α = X n' α)
    (hB2 : ∀ (r' : Fin 256) (n' : Fin 1024) α, n'.val = 256 * t + 256 + r' → at2 .bf16 x2 r' α = X n' α)
    (hb : at2 .f32 x6 0 = bias) (hWm : at2 .f32 x3 = wm) (hW0 : at2 .f32 x4 = w0) (hWp : at2 .f32 x5 = wp) :
    (k8_pay1 (k8_pay2 i x1 (View.ld x0 r8_1) (View.ld x2 r8_2) x6 x3 x4 x5) : Vec Ideal S256x128 .f32) (ix2 r β)
      = Ideal.tanh (convAt 256 X wm w0 wp bias n β) := by
  subst hb hWm hW0 hWp
  pointwise [k8_pay1, k8_pay2]
  exact congrArg Ideal.tanh (conv_point (F := 256) (m1 := 255) (P := 1) t _ _ _ _ _ (at2 .bf16 x0) (at2 .bf16 x1) (at2 .bf16 x2)
    (at2 .f32 x3) (at2 .f32 x4) (at2 .f32 x5) _ _ _ (by norm_num) (by norm_num) (by norm_num) c0 c1 r n β hn hB0 hB1 hB2 (by norm_num)
    rfl (fun _ => rfl) (fun _ => rfl) (fun _ => rfl))

variable (V : (c : Dev nD) → (b : Ref sig .tc) → Buf (Elt Ideal) ((c : Thread nD τ).loc b))

set_option maxHeartbeats 1000000 in
/-- The result array after the call: the products over three neighbouring rows of the operand, and the bias. -/
theorem conv8 (c : Dev nD) (n : Fin 1024) (β : Fin 128) : at2 (n0 := 1024) (n1 := 128) .f32 ((dat8 V c).arrAt 7 cfg8.N) n β
    = Ideal.tanh (convAt 256 (at2 .bf16 (V c main_v368 : Vec Ideal S1024x4096 .bf16))
      (at2 .f32 (V c main_v338 : Vec Ideal S4096x128 .f32)) (at2 .f32 (V c main_v352 : Vec Ideal S4096x128 .f32))
      (at2 .f32 (V c main_v366 : Vec Ideal S4096x128 .f32)) (at2 .f32 (V c main_v367 : Vec Ideal S1x128 .f32) 0) n β) := by
  refine congrFun (a := ix2 n β) ((dat8 V c).arrAt_eq_of_covers 7 (fun y => Ideal.tanh (convAt 256 (at2 .bf16 (V c main_v368 : Vec Ideal S1024x4096 .bf16))
      (at2 .f32 (V c main_v338 : Vec Ideal S4096x128 .f32)) (at2 .f32 (V c main_v352 : Vec Ideal S4096x128 .f32))
      (at2 .f32 (V c main_v366 : Vec Ideal S4096x128 .f32)) (at2 .f32 (V c main_v367 : Vec Ideal S1x128 .f32) 0) (y 0) (y 1)))
    (by decide +kernel) fun t hf y => ?_)
  obtain ⟨i0, i1, i2, i3, i4, i5, i6, i7, c0, c1⟩ := idx8 t
  have ht : t.val < 4 := t.isLt
  blk_simp
  rw [after8_7]
  frame_out
  idx_vars y
  have e : (((View.whole main_v369).slice (win8_7.rect t)).emb (ix2 y0 y1)) = ix2 (n0 := 1024) (n1 := 128) ⟨256 * t.val + y0.val, by omega⟩ y1 := by
    blk_ext [i7]
  rw [e]
  refine pay8 (grid8.coords t) (iblk8 V c 0 t) (iblk8 V c 1 t) (iblk8 V c 2 t) (iblk8 V c 3 t) (iblk8 V c 4 t) (iblk8 V c 5 t)
    (iblk8 V c 6 t) t.val _ _ _ _ _ y0 ⟨256 * t.val + y0.val, by omega⟩ y1 c0 c1 rfl
    (fun r' n' α h h' => ?_) (fun r' n' α h' => ?_) (fun r' n' α h' => ?_) (funext fun β => ?_) (funext₂ fun α β => ?_)
    (funext₂ fun α β => ?_) (funext₂ fun α β => ?_) <;> unfold at2
  · blk_ext [iblk8, i0]
  · blk_ext [iblk8, i1]
  · blk_ext [iblk8, i2]
  · blk_ext [iblk8, i6]
  · blk_ext [iblk8, i3]
  · blk_ext [iblk8, i4]
  · blk_ext [iblk8, i5]

end Cert.Proof.Reg

end
-- ==== Proof.Value.HostDec.lean ====
/-
  What the kernel's program lays out before each of its first three decoder calls: the three matrices of the
  weights' taps, the bias and the layer's input, read at an index.
-/
module

public import proofs.«01_k».proof.Proof.Gen.KernelIdeal.Launch
public import proofs.«01_k».proof.Proof.Value.Place
public import Idealize.ShloMosaic.Lib.StableHlo.ReadAt

@[expose] public section

set_option maxRecDepth 16384

noncomputable section

namespace Cert.Proof.Host

open Cert.KernelIdeal Cert.KernelIdeal.Gen Cert.Proof.Conv Cert.Proof.Taps Cert.Proof.Place
open Idealize.ShloMosaic Idealize.ShloMosaic.TcCoe Idealize.ShloMosaic.StableHlo Idealize.SL.Sem

variable (X : Valuation τ sig (Elt Ideal))

set_option maxHeartbeats 1000000 in
/-- The first decoder layer's three matrices hold the taps of its weights. -/
theorem w5 (d : Fin 3) (α : Fin 512) (β : Fin 1024) :
    (![at2 .f32 (after hostOps5 X (main_v196 : DevRef τ sig) : Vec Ideal S512x1024 .f32),
       at2 .f32 (after hostOps5 X (main_v217 : DevRef τ sig) : Vec Ideal S512x1024 .f32),
       at2 .f32 (after hostOps5 X (main_v223 : DevRef τ sig) : Vec Ideal S512x1024 .f32)] : Fin 3 → Fin 512 → Fin 1024 → EReal) d α β
      = wsel (at3 (X (main_arg14 : DevRef τ sig) : Vec Ideal S256x512x7 .f32) ⟨β % 256, Nat.mod_lt _ (by decide)⟩ ⟨α % 512, Nat.mod_lt _ (by decide)⟩)
          (4 * (1 * (((d : ℕ) : ℤ) - 1) + (((α : ℕ) / 512 : ℕ) : ℤ)) - 1 * (((β : ℕ) / 256 : ℕ) : ℤ) + 5) := by
  after_reads_simp
  refine dec_mats _ rfl rfl rfl rfl rfl (by decide) (by decide) (X (main_arg14 : DevRef τ sig) : Vec Ideal S256x512x7 .f32) _ _ _ _ _ _ _ _ _ _ _ _
    (fun a b => ?_) ?_ ?_ ?_ ?_ (fun c o => ?_) (fun c o => ?_) (fun c o => ?_) (fun c o => ?_) (fun c o => ?_)
    (fun c o => ?_) (fun c o => ?_) d α β
  · unfold at2; pointwise
  all_goals first | (pointwise; rfl) | (pointwise; done)

/-- Its bias at a column is the bias of the column's channel. -/
theorem b5 (β : Fin 1024) :
    at2 .f32 (after hostOps5 X (main_v227 : DevRef τ sig) : Vec Ideal S1x1024 .f32) 0 β
      = at1 (X (main_arg15 : DevRef τ sig) : Vec Ideal S256 .f32) ⟨β % 256, Nat.mod_lt _ (by decide)⟩ := by
  after_reads_simp
  unfold at2 at1
  pointwise

/-- Its input's rows are the layer before's result in flat order. -/
theorem x5 (r : Fin 4 → Fin 512 → Fin 256 → EReal)
    (h : ∀ n β, at2 .bf16 (X (main_v184 : DevRef τ sig) : Vec Ideal S1024x512 .bf16) n β = lay r ((n : ℕ) * 512 + β)) (n : Fin 1024) (α : Fin 512) :
    at2 .bf16 (after hostOps5 X (main_v228 : DevRef τ sig) : Vec Ideal S1024x512 .bf16) n α = lay r ((n : ℕ) * 512 + α) := by
  after_reads_simp
  have hn := n.isLt
  have hα := α.isLt
  unfold at2
  pointwise
  refine (h _ _).trans (congrArg (lay r) ?_)
  all_goals first | rfl | (dsimp only; omega)

set_option maxHeartbeats 1000000 in
/-- The second decoder layer's three matrices hold the taps of its weights. -/
theorem w6 (d : Fin 3) (α : Fin 256) (β : Fin 512) :
    (![at2 .f32 (after hostOps6 X (main_v241 : DevRef τ sig) : Vec Ideal S256x512 .f32),
       at2 .f32 (after hostOps6 X (main_v262 : DevRef τ sig) : Vec Ideal S256x512 .f32),
       at2 .f32 (after hostOps6 X (main_v268 : DevRef τ sig) : Vec Ideal S256x512 .f32)] : Fin 3 → Fin 256 → Fin 512 → EReal) d α β
      = wsel (at3 (X (main_arg16 : DevRef τ sig) : Vec Ideal S128x256x7 .f32) ⟨β % 128, Nat.mod_lt _ (by decide)⟩ ⟨α % 256, Nat.mod_lt _ (by decide)⟩)
          (4 * (1 * (((d : ℕ) : ℤ) - 1) + (((α : ℕ) / 256 : ℕ) : ℤ)) - 1 * (((β : ℕ) / 128 : ℕ) : ℤ) + 5) := by
  after_reads_simp
  refine dec_mats _ rfl rfl rfl rfl rfl (by decide) (by decide) (X (main_arg16 : DevRef τ sig) : Vec Ideal S128x256x7 .f32) _ _ _ _ _ _ _ _ _ _ _ _
    (fun a b => ?_) ?_ ?_ ?_ ?_ (fun c o => ?_) (fun c o => ?_) (fun c o => ?_) (fun c o => ?_) (fun c o => ?_)
    (fun c o => ?_) (fun c o => ?_) d α β
  · unfold at2; pointwise
  all_goals first | (pointwise; rfl) | (pointwise; done)

/-- Its bias at a column is the bias of the column's channel. -/
theorem b6 (β : Fin 512) :
    at2 .f32 (after hostOps6 X (main_v272 : DevRef τ sig) : Vec Ideal S1x512 .f32) 0 β
      = at1 (X (main_arg17 : DevRef τ sig) : Vec Ideal S128 .f32) ⟨β % 128, Nat.mod_lt _ (by decide)⟩ := by
  after_reads_simp
  unfold at2 at1
  pointwise

/-- Its input's rows are the layer before's result in flat order. -/
theorem x6 (r : Fin 4 → Fin 256 → Fin 1024 → EReal)
    (h : ∀ n β, at2 .bf16 (X (main_v229 : DevRef τ sig) : Vec Ideal S1024x1024 .bf16) n β = lay r ((n : ℕ) * 1024 + β)) (n : Fin 4096) (α : Fin 256) :
    at2 .bf16 (after hostOps6 X (main_v273 : DevRef τ sig) : Vec Ideal S4096x256 .bf16) n α = lay r ((n : ℕ) * 256 + α) := by
  after_reads_simp
  have hn := n.isLt
  have hα := α.isLt
  unfold at2
  pointwise
  refine (h _ _).trans (congrArg (lay r) ?_)
  all_goals first | rfl | (dsimp only; omega)

set_option maxHeartbeats 1000000 in
/-- The third decoder layer's three matrices hold the taps of its weights. -/
theorem w7 (d : Fin 3) (α : Fin 128) (β : Fin 256) :
    (![at2 .f32 (after hostOps7 X (main_v286 : DevRef τ sig) : Vec Ideal S128x256 .f32),
       at2 .f32 (after hostOps7 X (main_v307 : DevRef τ sig) : Vec Ideal S128x256 .f32),
       at2 .f32 (after hostOps7 X (main_v313 : DevRef τ sig) : Vec Ideal S128x256 .f32)] : Fin 3 → Fin 128 → Fin 256 → EReal) d α β
      = wsel (at3 (X (main_arg18 : DevRef τ sig) : Vec Ideal S64x128x7 .f32) ⟨β % 64, Nat.mod_lt _ (by decide)⟩ ⟨α % 128, Nat.mod_lt _ (by decide)⟩)
          (4 * (1 * (((d : ℕ) : ℤ) - 1) + (((α : ℕ) / 128 : ℕ) : ℤ)) - 1 * (((β : ℕ) / 64 : ℕ) : ℤ) + 5) := by
  after_reads_simp
  refine dec_mats _ rfl rfl rfl rfl rfl (by decide) (by decide) (X (main_arg18 : DevRef τ sig) : Vec Ideal S64x128x7 .f32) _ _ _ _ _ _ _ _ _ _ _ _
    (fun a b => ?_) ?_ ?_ ?_ ?_ (fun c o => ?_) (fun c o => ?_) (fun c o => ?_) (fun c o => ?_) (fun c o => ?_)
    (fun c o => ?_) (fun c o => ?_) d α β
  · unfold at2; pointwise
  all_goals first | (pointwise; rfl) | (pointwise; done)

/-- Its bias at a column is the bias of the column's channel. -/
theorem b7 (β : Fin 256) :
    at2 .f32 (after hostOps7 X (main_v317 : DevRef τ sig) : Vec Ideal S1x256 .f32) 0 β
      = at1 (X (main_arg19 : DevRef τ sig) : Vec Ideal S64 .f32) ⟨β % 64, Nat.mod_lt _ (by decide)⟩ := by
  after_reads_simp
  unfold at2 at1
  pointwise

/-- Its input's rows are the layer before's result in flat order. -/
theorem x7 (r : Fin 4 → Fin 128 → Fin 4096 → EReal)
    (h : ∀ n β, at2 .bf16 (X (main_v274 : DevRef τ sig) : Vec Ideal S4096x512 .bf16) n β = lay r ((n : ℕ) * 512 + β)) (n : Fin 16384) (α : Fin 128) :
    at2 .bf16 (after hostOps7 X (main_v318 : DevRef τ sig) : Vec Ideal S16384x128 .bf16) n α = lay r ((n : ℕ) * 128 + α) := by
  after_reads_simp
  have hn := n.isLt
  have hα := α.isLt
  unfold at2
  pointwise
  refine (h _ _).trans (congrArg (lay r) ?_)
  all_goals first | rfl | (dsimp only; omega)

end Cert.Proof.Host

end
-- ==== Proof.Value.ChainDec.lean ====
/-
  The decoder's four layers in both programs: each call leaves, in flat order, what the reference's layer computes.
-/
module

public import proofs.«01_k».proof.Proof.Gen.KernelIdeal.Frame
public import proofs.«01_k».proof.Proof.Value.ChainEnc
public import proofs.«01_k».proof.Proof.Value.Reg5
public import proofs.«01_k».proof.Proof.Value.Reg6
public import proofs.«01_k».proof.Proof.Value.Reg7
public import proofs.«01_k».proof.Proof.Value.Reg8
public import proofs.«01_k».proof.Proof.Value.HostDec
public import proofs.«01_k».proof.Proof.Value.HostEnds
public import proofs.«01_k».proof.Proof.Value.RefEnc
public import proofs.«01_k».proof.Proof.Value.RefEnds

@[expose] public section

set_option maxRecDepth 16384

noncomputable section

namespace Cert.Proof.Chain

open Cert.Proof.Conv Cert.Proof.Taps
open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)
  (U : Valuation Cert.ReferenceIdeal.τ Cert.ReferenceIdeal.sig (Elt Ideal))

set_option maxHeartbeats 400000 in
/-- The first decoder layer. -/
theorem d1
    (hw : (W10 m ρ c (main_arg14 : DevRef τ sig) : Vec Ideal S256x512x7 .f32) = U (Proc.tc.devRef Cert.ReferenceIdeal.main_arg14))
    (hb : (W10 m ρ c (main_arg15 : DevRef τ sig) : Vec Ideal S256 .f32) = U (Proc.tc.devRef Cert.ReferenceIdeal.main_arg15))
    (h : ∀ n β, at2 .bf16 (W10 m ρ c (main_v184 : DevRef τ sig) : Vec Ideal S1024x512 .bf16) n β
      = lay (at3 (U (Proc.tc.devRef Cert.ReferenceIdeal.main_v235) : Vec Ideal Cert.ReferenceIdeal.S4x512x256 .f32)) ((n : ℕ) * 512 + β))
    (n : Fin 1024) (β : Fin 1024) :
    at2 .bf16 (W12 m ρ c (main_v229 : DevRef τ sig) : Vec Ideal S1024x1024 .bf16) n β
      = lay (at3 (after Ref.opsD1 U (Proc.tc.devRef Cert.ReferenceIdeal.main_v285) : Vec Ideal Cert.ReferenceIdeal.S4x256x1024 .f32)) ((n : ℕ) * 1024 + β) :=
  (congrFun (congrFun (congrArg (at2 (n0 := 1024) (n1 := 1024) .bf16) (W12_arr m ρ c 7)) n) β).trans <| (Reg.conv5 (V11 m ρ) c n β).trans <|
  layer3 (a := 4) (b := 1) (S := 1) (So := 4) (P := 5) (T := 256) (T' := 1024)
    (by decide) (by decide) (by decide) (by decide) (by decide) (by decide) (by decide) (by decide) (by decide) (by decide) (by decide)
    (Host.x5 (W10 m ρ c) _ h) (Host.w5 (W10 m ρ c)) (Host.b5 (W10 m ρ c)) (Ref.D1_at U) (congrArg at3 hw) (congrArg at1 hb) (fun _ _ _ => rfl) n β

set_option maxHeartbeats 400000 in
/-- The second decoder layer. -/
theorem d2
    (hw : (W12 m ρ c (main_arg16 : DevRef τ sig) : Vec Ideal S128x256x7 .f32) = U (Proc.tc.devRef Cert.ReferenceIdeal.main_arg16))
    (hb : (W12 m ρ c (main_arg17 : DevRef τ sig) : Vec Ideal S128 .f32) = U (Proc.tc.devRef Cert.ReferenceIdeal.main_arg17))
    (h : ∀ n β, at2 .bf16 (W12 m ρ c (main_v229 : DevRef τ sig) : Vec Ideal S1024x1024 .bf16) n β
      = lay (at3 (U (Proc.tc.devRef Cert.ReferenceIdeal.main_v285) : Vec Ideal Cert.ReferenceIdeal.S4x256x1024 .f32)) ((n : ℕ) * 1024 + β))
    (n : Fin 4096) (β : Fin 512) :
    at2 .bf16 (W14 m ρ c (main_v274 : DevRef τ sig) : Vec Ideal S4096x512 .bf16) n β
      = lay (at3 (after Ref.opsD2 U (Proc.tc.devRef Cert.ReferenceIdeal.main_v335) : Vec Ideal Cert.ReferenceIdeal.S4x128x4096 .f32)) ((n : ℕ) * 512 + β) :=
  (congrFun (congrFun (congrArg (at2 (n0 := 4096) (n1 := 512) .bf16) (W14_arr m ρ c 7)) n) β).trans <| (Reg.conv6 (V13 m ρ) c n β).trans <|
  layer3 (a := 4) (b := 1) (S := 1) (So := 4) (P := 5) (T := 1024) (T' := 4096)
    (by decide) (by decide) (by decide) (by decide) (by decide) (by decide) (by decide) (by decide) (by decide) (by decide) (by decide)
    (Host.x6 (W12 m ρ c) _ h) (Host.w6 (W12 m ρ c)) (Host.b6 (W12 m ρ c)) (Ref.D2_at U) (congrArg at3 hw) (congrArg at1 hb) (fun _ _ _ => rfl) n β

set_option maxHeartbeats 400000 in
/-- The third decoder layer. -/
theorem d3
    (hw : (W14 m ρ c (main_arg18 : DevRef τ sig) : Vec Ideal S64x128x7 .f32) = U (Proc.tc.devRef Cert.ReferenceIdeal.main_arg18))
    (hb : (W14 m ρ c (main_arg19 : DevRef τ sig) : Vec Ideal S64 .f32) = U (Proc.tc.devRef Cert.ReferenceIdeal.main_arg19))
    (h : ∀ n β, at2 .bf16 (W14 m ρ c (main_v274 : DevRef τ sig) : Vec Ideal S4096x512 .bf16) n β
      = lay (at3 (U (Proc.tc.devRef Cert.ReferenceIdeal.main_v335) : Vec Ideal Cert.ReferenceIdeal.S4x128x4096 .f32)) ((n : ℕ) * 512 + β))
    (n : Fin 16384) (β : Fin 256) :
    at2 .bf16 (W16 m ρ c (main_v319 : DevRef τ sig) : Vec Ideal S16384x256 .bf16) n β
      = lay (at3 (after Ref.opsD3 U (Proc.tc.devRef Cert.ReferenceIdeal.main_v385) : Vec Ideal Cert.ReferenceIdeal.S4x64x16384 .f32)) ((n : ℕ) * 256 + β) :=
  (congrFun (congrFun (congrArg (at2 (n0 := 16384) (n1 := 256) .bf16) (W16_arr m ρ c 7)) n) β).trans <| (Reg.conv7 (V15 m ρ) c n β).trans <|
  layer3 (a := 4) (b := 1) (S := 1) (So := 4) (P := 5) (T := 4096) (T' := 16384)
    (by decide) (by decide) (by decide) (by decide) (by decide) (by decide) (by decide) (by decide) (by decide) (by decide) (by decide)
    (Host.x7 (W14 m ρ c) _ h) (Host.w7 (W14 m ρ c)) (Host.b7 (W14 m ρ c)) (Ref.D3_at U) (congrArg at3 hw) (congrArg at1 hb) (fun _ _ _ => rfl) n β

set_option maxHeartbeats 400000 in
/-- The last decoder layer and the closing reshape: the result at each index. -/
theorem d4
    (hw : (W16 m ρ c (main_arg20 : DevRef τ sig) : Vec Ideal S1x64x7 .f32) = U (Proc.tc.devRef Cert.ReferenceIdeal.main_arg20))
    (hb : (W16 m ρ c (main_arg21 : DevRef τ sig) : Vec Ideal S1 .f32) = U (Proc.tc.devRef Cert.ReferenceIdeal.main_arg21))
    (h : ∀ n β, at2 .bf16 (W16 m ρ c (main_v319 : DevRef τ sig) : Vec Ideal S16384x256 .bf16) n β
      = lay (at3 (U (Proc.tc.devRef Cert.ReferenceIdeal.main_v385) : Vec Ideal Cert.ReferenceIdeal.S4x64x16384 .f32)) ((n : ℕ) * 256 + β))
    (b : Fin 4) (o : Fin 1) (t : Fin 32768) :
    at3 (W19 m ρ c (main_v370 : DevRef τ sig) : Vec Ideal S4x1x32768 .f32) b o t
      = at3 (after Ref.opsD4 U (Proc.tc.devRef Cert.ReferenceIdeal.main_v431) : Vec Ideal Cert.ReferenceIdeal.S4x1x32768 .f32) b o t :=
  Host.y9 (W18 m ρ c) _ (fun n β =>
    (congrFun (congrFun (congrArg (at2 (n0 := 1024) (n1 := 128) .f32) (W18_arr m ρ c 7)) n) β).trans <| (Reg.conv8 (V17 m ρ) c n β).trans <|
    layer3 (a := 2) (b := 1) (S := 64) (So := 128) (P := 4) (T := 16384) (T' := 32768)
      (by decide) (by decide) (by decide) (by decide) (by decide) (by decide) (by decide) (by decide) (by decide) (by decide) (by decide)
      (Host.x8 (W16 m ρ c) _ h) (Host.w8 (W16 m ρ c)) (Host.b8 (W16 m ρ c)) (Ref.D4_at U) (congrArg at3 hw) (congrArg at1 hb) (fun _ _ _ => rfl) n β)
    b o t

end Cert.Proof.Chain

end
-- ==== Proof.Value.RefReal.lean ====
/-
  The reference's stages: each leaves the arguments as they were, and from real inputs the embedding is real.
-/
module

public import proofs.«01_k».proof.Proof.Value.RefEnc
public import proofs.«01_k».proof.Proof.Value.RefEnds
public import proofs.«01_k».proof.Proof.Value.Real

@[expose] public section

set_option maxRecDepth 16384

noncomputable section

namespace Cert.Proof.Ref

open Cert.ReferenceIdeal Cert.ReferenceIdeal.Gen Cert.Proof.Conv Cert.Proof.Real
open Idealize.ShloMosaic Idealize.ShloMosaic.TcCoe Idealize.ShloMosaic.StableHlo Idealize.SL.Sem

/-- The program's arguments. -/
def args : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21]

/-- No stage writes an argument. -/
theorem args_free : ∀ a ∈ args, a ∉ opsE1_W ∧ a ∉ opsE2_W ∧ a ∉ opsE3_W ∧ a ∉ opsE4_W ∧ a ∉ opsQ_W ∧ a ∉ opsD1_W ∧ a ∉ opsD2_W
    ∧ a ∉ opsD3_W := by decide +kernel

variable (V : Valuation τ sig (Elt Ideal))

/-- The memory after the first encoder layer. -/
abbrev U1 : Valuation τ sig (Elt Ideal) := after opsE1 V
/-- The memory after the second encoder layer. -/
abbrev U2 : Valuation τ sig (Elt Ideal) := after opsE2 (U1 V)
/-- The memory after the third encoder layer. -/
abbrev U3 : Valuation τ sig (Elt Ideal) := after opsE3 (U2 V)
/-- The memory after the fourth encoder layer. -/
abbrev U4 : Valuation τ sig (Elt Ideal) := after opsE4 (U3 V)
/-- The memory after the quantiser and FiLM. -/
abbrev U5 : Valuation τ sig (Elt Ideal) := after opsQ (U4 V)
/-- The memory after the first decoder layer. -/
abbrev U6 : Valuation τ sig (Elt Ideal) := after opsD1 (U5 V)
/-- The memory after the second decoder layer. -/
abbrev U7 : Valuation τ sig (Elt Ideal) := after opsD2 (U6 V)
/-- The memory after the third decoder layer. -/
abbrev U8 : Valuation τ sig (Elt Ideal) := after opsD3 (U7 V)

variable {a : Ref sig .tc} (h : a ∈ args)
include h

/-- An argument still has its launch contents after the first encoder layer. -/
theorem U1_arg : U1 V (Proc.tc.devRef a) = V (Proc.tc.devRef a) := after_of_writes_sub _ _ opsE1_writes (args_free a h).1
/-- An argument still has its launch contents after the second encoder layer. -/
theorem U2_arg : U2 V (Proc.tc.devRef a) = V (Proc.tc.devRef a) :=
  (after_of_writes_sub _ _ opsE2_writes (args_free a h).2.1).trans (U1_arg V h)
/-- An argument still has its launch contents after the third encoder layer. -/
theorem U3_arg : U3 V (Proc.tc.devRef a) = V (Proc.tc.devRef a) :=
  (after_of_writes_sub _ _ opsE3_writes (args_free a h).2.2.1).trans (U2_arg V h)
/-- An argument still has its launch contents after the fourth encoder layer. -/
theorem U4_arg : U4 V (Proc.tc.devRef a) = V (Proc.tc.devRef a) :=
  (after_of_writes_sub _ _ opsE4_writes (args_free a h).2.2.2.1).trans (U3_arg V h)
/-- An argument still has its launch contents after the quantiser and FiLM. -/
theorem U5_arg : U5 V (Proc.tc.devRef a) = V (Proc.tc.devRef a) :=
  (after_of_writes_sub _ _ opsQ_writes (args_free a h).2.2.2.2.1).trans (U4_arg V h)
/-- An argument still has its launch contents after the first decoder layer. -/
theorem U6_arg : U6 V (Proc.tc.devRef a) = V (Proc.tc.devRef a) :=
  (after_of_writes_sub _ _ opsD1_writes (args_free a h).2.2.2.2.2.1).trans (U5_arg V h)
/-- An argument still has its launch contents after the second decoder layer. -/
theorem U7_arg : U7 V (Proc.tc.devRef a) = V (Proc.tc.devRef a) :=
  (after_of_writes_sub _ _ opsD2_writes (args_free a h).2.2.2.2.2.2.1).trans (U6_arg V h)
/-- An argument still has its launch contents after the third decoder layer. -/
theorem U8_arg : U8 V (Proc.tc.devRef a) = V (Proc.tc.devRef a) :=
  (after_of_writes_sub _ _ opsD3_writes (args_free a h).2.2.2.2.2.2.2).trans (U7_arg V h)

omit h in
/-- From a real waveform, real weights and real biases the embedding is real. -/
theorem embed_real
    (h0 : ∀ i, IsReal ((V (main_arg0 : DevRef τ sig) : Vec Ideal S4x1x32768 .f32) i))
    (h1 : ∀ i, IsReal ((V (main_arg1 : DevRef τ sig) : Vec Ideal S64x1x7 .f32) i)) (h2 : ∀ i, IsReal ((V (main_arg2 : DevRef τ sig) : Vec Ideal S64 .f32) i))
    (h3 : ∀ i, IsReal ((V (main_arg3 : DevRef τ sig) : Vec Ideal S128x64x7 .f32) i)) (h4 : ∀ i, IsReal ((V (main_arg4 : DevRef τ sig) : Vec Ideal S128 .f32) i))
    (h5 : ∀ i, IsReal ((V (main_arg5 : DevRef τ sig) : Vec Ideal S256x128x7 .f32) i)) (h6 : ∀ i, IsReal ((V (main_arg6 : DevRef τ sig) : Vec Ideal S256 .f32) i))
    (h7 : ∀ i, IsReal ((V (main_arg7 : DevRef τ sig) : Vec Ideal S512x256x7 .f32) i)) (h8 : ∀ i, IsReal ((V (main_arg8 : DevRef τ sig) : Vec Ideal S512 .f32) i))
    (b : Fin 4) (o : Fin 512) (t : Fin 256) : IsReal (at3 (U4 V (main_v194 : DevRef τ sig) : Vec Ideal S4x512x256 .f32) b o t) := by
  have r1 : ∀ b o t, IsReal (at3 (U1 V (main_v49 : DevRef τ sig) : Vec Ideal S4x64x16384 .f32) b o t) := fun b o t => by
    rw [E1_at]
    exact .lrelu (.convT (fun _ _ _ => h1 _) (fun _ => h2 _) (fun _ _ _ => h0 _) b o t)
  have r2 : ∀ b o t, IsReal (at3 (U2 V (main_v99 : DevRef τ sig) : Vec Ideal S4x128x4096 .f32) b o t) := fun b o t => by
    rw [E2_at, U1_arg V (a := main_arg3) (by decide), U1_arg V (a := main_arg4) (by decide)]
    exact .lrelu (.convT (fun _ _ _ => h3 _) (fun _ => h4 _) r1 b o t)
  have r3 : ∀ b o t, IsReal (at3 (U3 V (main_v149 : DevRef τ sig) : Vec Ideal S4x256x1024 .f32) b o t) := fun b o t => by
    rw [E3_at, U2_arg V (a := main_arg5) (by decide), U2_arg V (a := main_arg6) (by decide)]
    exact .lrelu (.convT (fun _ _ _ => h5 _) (fun _ => h6 _) r2 b o t)
  rw [E4_at, U3_arg V (a := main_arg7) (by decide), U3_arg V (a := main_arg8) (by decide)]
  exact .convT (fun _ _ _ => h7 _) (fun _ => h8 _) r3 b o t

end Cert.Proof.Ref

end
-- ==== Proof.Value.RefRun.lean ====
/-
  The run of the reference program: every buffer ends at the fold of the layers over the launch contents, and the
  arguments keep theirs.
-/
module

public import proofs.«01_k».proof.ReferenceIdeal
public import proofs.«01_k».proof.Proof.Value.RefOps
public import Idealize.ShloMosaic.Lib.StableHlo.Run
public import Idealize.ShloMosaic.Lib.Quiescent

@[expose] public section

set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of the first encoder layer touch only the program's buffers. -/
theorem opsE1_sub : (opsE1 (F := F)).Forall fun op => op.bufs ⊆ tcRefs τ sig := by
  unfold opsE1; simp only [List.Forall, nullary_bufs_sub, unary_bufs_sub, binary_bufs_sub, ternary_bufs_sub, quaternary_bufs_sub, reshape_bufs_sub, nary_bufs_sub, and_self]

/-- The operations of the first encoder layer allocate nothing. -/
theorem opsE1_fresh : ∀ op ∈ opsE1 (F := F), op.fresh = ∅ := by
  intro _ h; (repeat (cases h with | head => rfl | tail _ h => ?_)); exact nomatch h

/-- The operations of the second encoder layer touch only the program's buffers. -/
theorem opsE2_sub : (opsE2 (F := F)).Forall fun op => op.bufs ⊆ tcRefs τ sig := by
  unfold opsE2; simp only [List.Forall, nullary_bufs_sub, unary_bufs_sub, binary_bufs_sub, ternary_bufs_sub, quaternary_bufs_sub, reshape_bufs_sub, nary_bufs_sub, and_self]

/-- The operations of the second encoder layer allocate nothing. -/
theorem opsE2_fresh : ∀ op ∈ opsE2 (F := F), op.fresh = ∅ := by
  intro _ h; (repeat (cases h with | head => rfl | tail _ h => ?_)); exact nomatch h

/-- The operations of the third encoder layer touch only the program's buffers. -/
theorem opsE3_sub : (opsE3 (F := F)).Forall fun op => op.bufs ⊆ tcRefs τ sig := by
  unfold opsE3; simp only [List.Forall, nullary_bufs_sub, unary_bufs_sub, binary_bufs_sub, ternary_bufs_sub, quaternary_bufs_sub, reshape_bufs_sub, nary_bufs_sub, and_self]

/-- The operations of the third encoder layer allocate nothing. -/
theorem opsE3_fresh : ∀ op ∈ opsE3 (F := F), op.fresh = ∅ := by
  intro _ h; (repeat (cases h with | head => rfl | tail _ h => ?_)); exact nomatch h

/-- The operations of the fourth encoder layer touch only the program's buffers. -/
theorem opsE4_sub : (opsE4 (F := F)).Forall fun op => op.bufs ⊆ tcRefs τ sig := by
  unfold opsE4; simp only [List.Forall, nullary_bufs_sub, unary_bufs_sub, binary_bufs_sub, ternary_bufs_sub, quaternary_bufs_sub, reshape_bufs_sub, nary_bufs_sub, and_self]

/-- The operations of the fourth encoder layer allocate nothing. -/
theorem opsE4_fresh : ∀ op ∈ opsE4 (F := F), op.fresh = ∅ := by
  intro _ h; (repeat (cases h with | head => rfl | tail _ h => ?_)); exact nomatch h

/-- The operations of the quantiser and FiLM touch only the program's buffers. -/
theorem opsQ_sub : (opsQ (F := F)).Forall fun op => op.bufs ⊆ tcRefs τ sig := by
  unfold opsQ; simp only [List.Forall, nullary_bufs_sub, unary_bufs_sub, binary_bufs_sub, ternary_bufs_sub, quaternary_bufs_sub, reshape_bufs_sub, nary_bufs_sub, and_self]

/-- The operations of the quantiser and FiLM allocate nothing. -/
theorem opsQ_fresh : ∀ op ∈ opsQ (F := F), op.fresh = ∅ := by
  intro _ h; (repeat (cases h with | head => rfl | tail _ h => ?_)); exact nomatch h

/-- The operations of the first decoder layer touch only the program's buffers. -/
theorem opsD1_sub : (opsD1 (F := F)).Forall fun op => op.bufs ⊆ tcRefs τ sig := by
  unfold opsD1; simp only [List.Forall, nullary_bufs_sub, unary_bufs_sub, binary_bufs_sub, ternary_bufs_sub, quaternary_bufs_sub, reshape_bufs_sub, nary_bufs_sub, and_self]

/-- The operations of the first decoder layer allocate nothing. -/
theorem opsD1_fresh : ∀ op ∈ opsD1 (F := F), op.fresh = ∅ := by
  intro _ h; (repeat (cases h with | head => rfl | tail _ h => ?_)); exact nomatch h

/-- The operations of the second decoder layer touch only the program's buffers. -/
theorem opsD2_sub : (opsD2 (F := F)).Forall fun op => op.bufs ⊆ tcRefs τ sig := by
  unfold opsD2; simp only [List.Forall, nullary_bufs_sub, unary_bufs_sub, binary_bufs_sub, ternary_bufs_sub, quaternary_bufs_sub, reshape_bufs_sub, nary_bufs_sub, and_self]

/-- The operations of the second decoder layer allocate nothing. -/
theorem opsD2_fresh : ∀ op ∈ opsD2 (F := F), op.fresh = ∅ := by
  intro _ h; (repeat (cases h with | head => rfl | tail _ h => ?_)); exact nomatch h

/-- The operations of the third decoder layer touch only the program's buffers. -/
theorem opsD3_sub : (opsD3 (F := F)).Forall fun op => op.bufs ⊆ tcRefs τ sig := by
  unfold opsD3; simp only [List.Forall, nullary_bufs_sub, unary_bufs_sub, binary_bufs_sub, ternary_bufs_sub, quaternary_bufs_sub, reshape_bufs_sub, nary_bufs_sub, and_self]

/-- The operations of the third decoder layer allocate nothing. -/
theorem opsD3_fresh : ∀ op ∈ opsD3 (F := F), op.fresh = ∅ := by
  intro _ h; (repeat (cases h with | head => rfl | tail _ h => ?_)); exact nomatch h

/-- The operations of the fourth decoder layer touch only the program's buffers. -/
theorem opsD4_sub : (opsD4 (F := F)).Forall fun op => op.bufs ⊆ tcRefs τ sig := by
  unfold opsD4; simp only [List.Forall, nullary_bufs_sub, unary_bufs_sub, binary_bufs_sub, ternary_bufs_sub, quaternary_bufs_sub, reshape_bufs_sub, nary_bufs_sub, and_self]

/-- The operations of the fourth decoder layer allocate nothing. -/
theorem opsD4_fresh : ∀ op ∈ opsD4 (F := F), op.fresh = ∅ := by
  intro _ h; (repeat (cases h with | head => rfl | tail _ h => ?_)); exact nomatch h

/-- @main is that straight line. -/
theorem main_eq (c : Dev nD) : main (F := F) c = seq ops := rfl

/-- Two lists of operations folded one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- What holds of two lists holds of one after the other. -/
theorem forall_two {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- What holds of the members of two lists holds of the members of one after the other. -/
theorem mem_two {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-- The whole program's operations touch only the program's buffers. -/
theorem ops_sub : (ops (F := F)).Forall fun op => op.bufs ⊆ tcRefs τ sig :=
  forall_two opsE1_sub (forall_two opsE2_sub (forall_two opsE3_sub (forall_two opsE4_sub (forall_two opsQ_sub
    (forall_two opsD1_sub (forall_two opsD2_sub (forall_two opsD3_sub opsD4_sub)))))))

/-- The whole program's operations allocate nothing. -/
theorem ops_fresh : ∀ op ∈ ops (F := F), op.fresh = ∅ :=
  mem_two opsE1_fresh (mem_two opsE2_fresh (mem_two opsE3_fresh (mem_two opsE4_fresh (mem_two opsQ_fresh
    (mem_two opsD1_fresh (mem_two opsD2_fresh (mem_two opsD3_fresh opsD4_fresh)))))))

/-- The contents after every operation, layer by layer. -/
theorem after_ops (V : Valuation τ sig (Elt F)) :
    after ops V = after opsD4 (after opsD3 (after opsD2 (after opsD1 (after opsQ (after opsE4 (after opsE3 (after opsE2 (after opsE1 V)))))))) := by
  simp only [ops, after_two]

/-- A buffer that no layer writes keeps its contents. -/
theorem after_ops_keep (V : Valuation τ sig (Elt F)) (b : Ref sig .tc)
    (h : b ∉ opsE1_W ∧ b ∉ opsE2_W ∧ b ∉ opsE3_W ∧ b ∉ opsE4_W ∧ b ∉ opsQ_W ∧ b ∉ opsD1_W ∧ b ∉ opsD2_W ∧ b ∉ opsD3_W ∧ b ∉ opsD4_W) :
    after ops V (b : DevRef τ sig) = V (b : DevRef τ sig) := by
  obtain ⟨h1, h2, h3, h4, h5, h6, h7, h8, h9⟩ := h
  rw [after_ops, after_of_writes_sub _ _ opsD4_writes h9, after_of_writes_sub _ _ opsD3_writes h8, after_of_writes_sub _ _ opsD2_writes h7,
    after_of_writes_sub _ _ opsD1_writes h6, after_of_writes_sub _ _ opsQ_writes h5, after_of_writes_sub _ _ opsE4_writes h4,
    after_of_writes_sub _ _ opsE3_writes h3, after_of_writes_sub _ _ opsE2_writes h2, after_of_writes_sub _ _ opsE1_writes h1]

/-- Nothing is scoped in this program. -/
theorem scopedRefs_eq : (Finset.univ.filter fun b : Ref sig .tc => b.isScoped) = ∅ := by decide +kernel
/-- No semaphore is scoped in this program. -/
theorem scopedSems_eq : (Finset.univ.filter fun sm : SemLoc sig => sm.isScoped .tc) = ∅ := by decide +kernel

/-- From any memory with zero counters every execution of the reference terminates with every buffer at the fold of
    its operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The reference terminates with its result at the fold of its operations and its arguments as they were. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v431) = after ops (launchContents m c) (main_v431 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨h c main_v431,
    (h c main_arg0).trans (after_ops_keep _ main_arg0 (by decide)),
    (h c main_arg1).trans (after_ops_keep _ main_arg1 (by decide)),
    (h c main_arg2).trans (after_ops_keep _ main_arg2 (by decide)),
    (h c main_arg3).trans (after_ops_keep _ main_arg3 (by decide)),
    (h c main_arg4).trans (after_ops_keep _ main_arg4 (by decide)),
    (h c main_arg5).trans (after_ops_keep _ main_arg5 (by decide)),
    (h c main_arg6).trans (after_ops_keep _ main_arg6 (by decide)),
    (h c main_arg7).trans (after_ops_keep _ main_arg7 (by decide)),
    (h c main_arg8).trans (after_ops_keep _ main_arg8 (by decide)),
    (h c main_arg9).trans (after_ops_keep _ main_arg9 (by decide)),
    (h c main_arg10).trans (after_ops_keep _ main_arg10 (by decide)),
    (h c main_arg11).trans (after_ops_keep _ main_arg11 (by decide)),
    (h c main_arg12).trans (after_ops_keep _ main_arg12 (by decide)),
    (h c main_arg13).trans (after_ops_keep _ main_arg13 (by decide)),
    (h c main_arg14).trans (after_ops_keep _ main_arg14 (by decide)),
    (h c main_arg15).trans (after_ops_keep _ main_arg15 (by decide)),
    (h c main_arg16).trans (after_ops_keep _ main_arg16 (by decide)),
    (h c main_arg17).trans (after_ops_keep _ main_arg17 (by decide)),
    (h c main_arg18).trans (after_ops_keep _ main_arg18 (by decide)),
    (h c main_arg19).trans (after_ops_keep _ main_arg19 (by decide)),
    (h c main_arg20).trans (after_ops_keep _ main_arg20 (by decide)),
    (h c main_arg21).trans (after_ops_keep _ main_arg21 (by decide))⟩) (run m ρ)

/-- The reference terminates with its arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) ∧ r.2.sem = fun _ => 0) :=
  (θ_run defs _ _).mono (fun r h => ⟨fun c => (h c).2, Idealize.ShloMosaic.sem_eq_zero_of_no_sems (by decide) r.2⟩) (run_result m ρ)

end Cert.Proof.Ref

end
-- ==== Proof.Value.KRun.lean ====
/-
  The kernel's run with its result: every execution ends with the result array at the fold of the program's stretches and
  calls, and the arguments as they were.
-/
module

public import proofs.«01_k».proof.Proof.Gen.KernelIdeal.Frame
public import Idealize.ShloMosaic.PureOps.Ideal

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel terminates, and every unscoped buffer of the core ends at the last boundary's contents. -/
theorem run_all : θ_run defs (onTc (τ := τ) (main (F := Ideal))) ⟨m, fun _ => 0, ρ⟩ (fun r =>
    ∀ c : Dev nD, ∀ b ∈ Pipeline.ucRefs τ sig, r.2.mem (((c : Thread nD τ)).1, b) = W19 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => h)

end Cert.Proof.Run

end
-- ==== Proof.Value.Pre.lean ====
/-
  What the precondition says in the idealized reading: the waveform and the encoder's weights and biases are real.
-/
module

public import proofs.«01_k».proof.Proof.Gen.Pre_finite_inputs
public import proofs.«01_k».proof.Proof.Value.Real
public import proofs.«01_k».proof.Proof.Value.Vq
public import Idealize.ShloMosaic.Lib.ReduceAll

@[expose] public section

set_option maxRecDepth 16384

noncomputable section

namespace Cert.Proof.Pre

open Cert.Pre_finite_inputs Cert.Pre_finite_inputs.Gen Cert.Proof.Real
open Idealize.ShloMosaic

/-- A scalar has one index. -/
instance : Subsingleton S_.Idx := ⟨fun a b => funext fun i => i.elim0⟩

/-- When every absolute value of an array compares below infinity, the array is real. -/
theorem real_of {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant S_ .f32 0x7F800000#32))) (constantI S_ 1 1#1) hr hu j = 1#1)
    (i : s.Idx) : IsReal (a i) := by
  have h1 := Host.reduce_andi_all _ _ _ _ j h i
  have h2 : Ideal.cmp .olt (max (a i) (-(a i))) (Ideal.ofBits .f32 2139095040#32) = 1#1 := h1
  rw [Vq.inf_eq] at h2
  refine IsReal.of_abs ?_
  by_contra hn
  revert h2
  simp [Ideal.cmp, hn]

set_option maxHeartbeats 400000 in
/-- The precondition gives the waveform, the encoder's weights and its biases as real numbers. -/
theorem inputs (a0 : FVec Ideal S4x1x32768 .f32) (a1 : FVec Ideal S64x1x7 .f32) (a2 : FVec Ideal S64 .f32) (a3 : FVec Ideal S128x64x7 .f32)
    (a4 : FVec Ideal S128 .f32) (a5 : FVec Ideal S256x128x7 .f32) (a6 : FVec Ideal S256 .f32) (a7 : FVec Ideal S512x256x7 .f32)
    (a8 : FVec Ideal S512 .f32) (a9 : FVec Ideal S1024x512 .f32) (a10 : FVec Ideal S512x512 .f32) (a11 : FVec Ideal S512 .f32)
    (a12 : FVec Ideal S1024x512 .f32) (a13 : FVec Ideal S1024 .f32) (a14 : FVec Ideal S256x512x7 .f32) (a15 : FVec Ideal S256 .f32)
    (a16 : FVec Ideal S128x256x7 .f32) (a17 : FVec Ideal S128 .f32) (a18 : FVec Ideal S64x128x7 .f32) (a19 : FVec Ideal S64 .f32)
    (a20 : FVec Ideal S1x64x7 .f32) (a21 : FVec Ideal S1 .f32)
    (h : fn (F := Ideal) a0 a1 a2 a3 a4 a5 a6 a7 a8 a9 a10 a11 a12 a13 a14 a15 a16 a17 a18 a19 a20 a21 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h := congrFun h (Shape.Idx.first h_S_)
  unfold fn fn_part1 fn_part2 at h
  dsimp only [andi] at h
  simp only [IntOp.andi_eq_one] at h
  obtain ⟨⟨⟨⟨⟨⟨⟨⟨h0, h1⟩, h2⟩, h3⟩, h4⟩, h5⟩, h6⟩, h7⟩, h8⟩ := h
  exact ⟨real_of a0 _ _ _ _ h0, real_of a1 _ _ _ _ h1, real_of a2 _ _ _ _ h2, real_of a3 _ _ _ _ h3, real_of a4 _ _ _ _ h4,
    real_of a5 _ _ _ _ h5, real_of a6 _ _ _ _ h6, real_of a7 _ _ _ _ h7, real_of a8 _ _ _ _ h8⟩

end Cert.Proof.Pre

end
-- ==== Proof.Value.Whole.lean ====
/-
  The whole program: from equal arguments the kernel's result is the reference's.
-/
module

public import proofs.«01_k».proof.Proof.Value.ChainEnc
public import proofs.«01_k».proof.Proof.Value.ChainQ
public import proofs.«01_k».proof.Proof.Value.ChainDec
public import proofs.«01_k».proof.Proof.Value.RefReal
public import proofs.«01_k».proof.Proof.Value.RefRun
public import proofs.«01_k».proof.Proof.Value.KRun
public import proofs.«01_k».proof.Proof.Value.Pre

@[expose] public section

set_option maxRecDepth 16384

noncomputable section

namespace Cert.Proof.Chain

open Cert.Proof.Conv Cert.Proof.Real
open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)
  (U : Valuation Cert.ReferenceIdeal.τ Cert.ReferenceIdeal.sig (Elt Ideal))

/-- Layer by layer, the kernel's result array is the reference's. -/
theorem whole
    (h0 : (m ((c : Thread nD τ).loc main_arg0) : Vec Ideal S4x1x32768 .f32) = U (Proc.tc.devRef Cert.ReferenceIdeal.main_arg0))
    (h1 : (m ((c : Thread nD τ).loc main_arg1) : Vec Ideal S64x1x7 .f32) = U (Proc.tc.devRef Cert.ReferenceIdeal.main_arg1))
    (h2 : (m ((c : Thread nD τ).loc main_arg2) : Vec Ideal S64 .f32) = U (Proc.tc.devRef Cert.ReferenceIdeal.main_arg2))
    (h3 : (m ((c : Thread nD τ).loc main_arg3) : Vec Ideal S128x64x7 .f32) = U (Proc.tc.devRef Cert.ReferenceIdeal.main_arg3))
    (h4 : (m ((c : Thread nD τ).loc main_arg4) : Vec Ideal S128 .f32) = U (Proc.tc.devRef Cert.ReferenceIdeal.main_arg4))
    (h5 : (m ((c : Thread nD τ).loc main_arg5) : Vec Ideal S256x128x7 .f32) = U (Proc.tc.devRef Cert.ReferenceIdeal.main_arg5))
    (h6 : (m ((c : Thread nD τ).loc main_arg6) : Vec Ideal S256 .f32) = U (Proc.tc.devRef Cert.ReferenceIdeal.main_arg6))
    (h7 : (m ((c : Thread nD τ).loc main_arg7) : Vec Ideal S512x256x7 .f32) = U (Proc.tc.devRef Cert.ReferenceIdeal.main_arg7))
    (h8 : (m ((c : Thread nD τ).loc main_arg8) : Vec Ideal S512 .f32) = U (Proc.tc.devRef Cert.ReferenceIdeal.main_arg8))
    (h9 : (m ((c : Thread nD τ).loc main_arg9) : Vec Ideal S1024x512 .f32) = U (Proc.tc.devRef Cert.ReferenceIdeal.main_arg9))
    (h10 : (m ((c : Thread nD τ).loc main_arg10) : Vec Ideal S512x512 .f32) = U (Proc.tc.devRef Cert.ReferenceIdeal.main_arg10))
    (h11 : (m ((c : Thread nD τ).loc main_arg11) : Vec Ideal S512 .f32) = U (Proc.tc.devRef Cert.ReferenceIdeal.main_arg11))
    (h12 : (m ((c : Thread nD τ).loc main_arg12) : Vec Ideal S1024x512 .f32) = U (Proc.tc.devRef Cert.ReferenceIdeal.main_arg12))
    (h13 : (m ((c : Thread nD τ).loc main_arg13) : Vec Ideal S1024 .f32) = U (Proc.tc.devRef Cert.ReferenceIdeal.main_arg13))
    (h14 : (m ((c : Thread nD τ).loc main_arg14) : Vec Ideal S256x512x7 .f32) = U (Proc.tc.devRef Cert.ReferenceIdeal.main_arg14))
    (h15 : (m ((c : Thread nD τ).loc main_arg15) : Vec Ideal S256 .f32) = U (Proc.tc.devRef Cert.ReferenceIdeal.main_arg15))
    (h16 : (m ((c : Thread nD τ).loc main_arg16) : Vec Ideal S128x256x7 .f32) = U (Proc.tc.devRef Cert.ReferenceIdeal.main_arg16))
    (h17 : (m ((c : Thread nD τ).loc main_arg17) : Vec Ideal S128 .f32) = U (Proc.tc.devRef Cert.ReferenceIdeal.main_arg17))
    (h18 : (m ((c : Thread nD τ).loc main_arg18) : Vec Ideal S64x128x7 .f32) = U (Proc.tc.devRef Cert.ReferenceIdeal.main_arg18))
    (h19 : (m ((c : Thread nD τ).loc main_arg19) : Vec Ideal S64 .f32) = U (Proc.tc.devRef Cert.ReferenceIdeal.main_arg19))
    (h20 : (m ((c : Thread nD τ).loc main_arg20) : Vec Ideal S1x64x7 .f32) = U (Proc.tc.devRef Cert.ReferenceIdeal.main_arg20))
    (h21 : (m ((c : Thread nD τ).loc main_arg21) : Vec Ideal S1 .f32) = U (Proc.tc.devRef Cert.ReferenceIdeal.main_arg21))
    (hr : ∀ b o t, IsReal (at3 (Ref.U4 U (Proc.tc.devRef Cert.ReferenceIdeal.main_v194) : Vec Ideal Cert.ReferenceIdeal.S4x512x256 .f32) b o t)) :
    (W19 m ρ c (main_v370 : DevRef τ sig) : Vec Ideal S4x1x32768 .f32)
      = after Ref.ops U (Proc.tc.devRef Cert.ReferenceIdeal.main_v431) := by
  have k1 := e1 m ρ c U ((W0_args m ρ c main_arg1 (by decide)).trans h1) ((W0_args m ρ c main_arg2 (by decide)).trans h2)
    ((W0_args m ρ c main_arg0 (by decide)).trans h0)
  have k2 := e2 m ρ c (Ref.U1 U) (((W2_args m ρ c main_arg3 (by decide)).trans h3).trans (Ref.U1_arg U (by decide)).symm)
    (((W2_args m ρ c main_arg4 (by decide)).trans h4).trans (Ref.U1_arg U (by decide)).symm) k1
  have k3 := e3 m ρ c (Ref.U2 U) (((W4_args m ρ c main_arg5 (by decide)).trans h5).trans (Ref.U2_arg U (by decide)).symm)
    (((W4_args m ρ c main_arg6 (by decide)).trans h6).trans (Ref.U2_arg U (by decide)).symm) k2
  have k4 := e4 m ρ c (Ref.U3 U) (((W6_args m ρ c main_arg7 (by decide)).trans h7).trans (Ref.U3_arg U (by decide)).symm)
    (((W6_args m ρ c main_arg8 (by decide)).trans h8).trans (Ref.U3_arg U (by decide)).symm) k3
  have k5 := q m ρ c (Ref.U4 U) (((W9_args m ρ c main_arg9 (by decide)).trans h9).trans (Ref.U4_arg U (by decide)).symm)
    (((W9_args m ρ c main_arg10 (by decide)).trans h10).trans (Ref.U4_arg U (by decide)).symm)
    (((W8_args m ρ c main_arg11 (by decide)).trans h11).trans (Ref.U4_arg U (by decide)).symm)
    (((W9_args m ρ c main_arg12 (by decide)).trans h12).trans (Ref.U4_arg U (by decide)).symm)
    (((W8_args m ρ c main_arg13 (by decide)).trans h13).trans (Ref.U4_arg U (by decide)).symm) k4 hr
  have k6 := d1 m ρ c (Ref.U5 U) (((W10_args m ρ c main_arg14 (by decide)).trans h14).trans (Ref.U5_arg U (by decide)).symm)
    (((W10_args m ρ c main_arg15 (by decide)).trans h15).trans (Ref.U5_arg U (by decide)).symm) k5
  have k7 := d2 m ρ c (Ref.U6 U) (((W12_args m ρ c main_arg16 (by decide)).trans h16).trans (Ref.U6_arg U (by decide)).symm)
    (((W12_args m ρ c main_arg17 (by decide)).trans h17).trans (Ref.U6_arg U (by decide)).symm) k6
  have k8 := d3 m ρ c (Ref.U7 U) (((W14_args m ρ c main_arg18 (by decide)).trans h18).trans (Ref.U7_arg U (by decide)).symm)
    (((W14_args m ρ c main_arg19 (by decide)).trans h19).trans (Ref.U7_arg U (by decide)).symm) k7
  have k9 := d4 m ρ c (Ref.U8 U) (((W16_args m ρ c main_arg20 (by decide)).trans h20).trans (Ref.U8_arg U (by decide)).symm)
    (((W16_args m ρ c main_arg21 (by decide)).trans h21).trans (Ref.U8_arg U (by decide)).symm) k8
  rw [Ref.after_ops]
  funext y
  idx_vars y
  exact k9 _ _ _

end Cert.Proof.Chain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Value.Whole
public import Idealize.ShloMosaic.Adequacy
public import Idealize.ShloMosaic.Init

@[expose] public section

noncomputable section

namespace Cert.Proof

open Idealize.ShloMosaic Idealize.SL.Sem Cert.Kernel

/-- An array equal to a real one is real. -/
theorem real_at {ι : Type} {v w : ι → EReal} (h : v = w) (r : ∀ i, Real.IsReal (w i)) (i : ι) : Real.IsReal (v i) := h ▸ r i

set_option maxHeartbeats 1000000 in
/-- From finite inputs and equal arguments, the idealized kernel ends with its result array at what the fold of the program
    gives, and the reference ends with its result at the same array. -/
theorem algebraic : Cert.algebraic_KernelIdeal_ReferenceIdeal_pre_finite_inputs := by
  intro m g m' g' hpre heq
  refine ⟨fun c => Cert.KernelIdeal.Gen.W19 m g c (Proc.tc.devRef Cert.KernelIdeal.main_v370), ?_, ?_⟩
  · exact (θ_run _ _ _).mono (fun r h c => ⟨h c _ (Cert.KernelIdeal.Gen.mem_uc Cert.KernelIdeal.main_v370 (by decide)),
    (h c _ (Cert.KernelIdeal.Gen.mem_uc Cert.KernelIdeal.main_arg0 (by decide))).trans (Cert.KernelIdeal.Gen.W19_main_arg0 m g c),
    (h c _ (Cert.KernelIdeal.Gen.mem_uc Cert.KernelIdeal.main_arg1 (by decide))).trans (Cert.KernelIdeal.Gen.W19_main_arg1 m g c),
    (h c _ (Cert.KernelIdeal.Gen.mem_uc Cert.KernelIdeal.main_arg2 (by decide))).trans (Cert.KernelIdeal.Gen.W19_main_arg2 m g c),
    (h c _ (Cert.KernelIdeal.Gen.mem_uc Cert.KernelIdeal.main_arg3 (by decide))).trans (Cert.KernelIdeal.Gen.W19_main_arg3 m g c),
    (h c _ (Cert.KernelIdeal.Gen.mem_uc Cert.KernelIdeal.main_arg4 (by decide))).trans (Cert.KernelIdeal.Gen.W19_main_arg4 m g c),
    (h c _ (Cert.KernelIdeal.Gen.mem_uc Cert.KernelIdeal.main_arg5 (by decide))).trans (Cert.KernelIdeal.Gen.W19_main_arg5 m g c),
    (h c _ (Cert.KernelIdeal.Gen.mem_uc Cert.KernelIdeal.main_arg6 (by decide))).trans (Cert.KernelIdeal.Gen.W19_main_arg6 m g c),
    (h c _ (Cert.KernelIdeal.Gen.mem_uc Cert.KernelIdeal.main_arg7 (by decide))).trans (Cert.KernelIdeal.Gen.W19_main_arg7 m g c),
    (h c _ (Cert.KernelIdeal.Gen.mem_uc Cert.KernelIdeal.main_arg8 (by decide))).trans (Cert.KernelIdeal.Gen.W19_main_arg8 m g c),
    (h c _ (Cert.KernelIdeal.Gen.mem_uc Cert.KernelIdeal.main_arg9 (by decide))).trans (Cert.KernelIdeal.Gen.W19_main_arg9 m g c),
    (h c _ (Cert.KernelIdeal.Gen.mem_uc Cert.KernelIdeal.main_arg10 (by decide))).trans (Cert.KernelIdeal.Gen.W19_main_arg10 m g c),
    (h c _ (Cert.KernelIdeal.Gen.mem_uc Cert.KernelIdeal.main_arg11 (by decide))).trans (Cert.KernelIdeal.Gen.W19_main_arg11 m g c),
    (h c _ (Cert.KernelIdeal.Gen.mem_uc Cert.KernelIdeal.main_arg12 (by decide))).trans (Cert.KernelIdeal.Gen.W19_main_arg12 m g c),
    (h c _ (Cert.KernelIdeal.Gen.mem_uc Cert.KernelIdeal.main_arg13 (by decide))).trans (Cert.KernelIdeal.Gen.W19_main_arg13 m g c),
    (h c _ (Cert.KernelIdeal.Gen.mem_uc Cert.KernelIdeal.main_arg14 (by decide))).trans (Cert.KernelIdeal.Gen.W19_main_arg14 m g c),
    (h c _ (Cert.KernelIdeal.Gen.mem_uc Cert.KernelIdeal.main_arg15 (by decide))).trans (Cert.KernelIdeal.Gen.W19_main_arg15 m g c),
    (h c _ (Cert.KernelIdeal.Gen.mem_uc Cert.KernelIdeal.main_arg16 (by decide))).trans (Cert.KernelIdeal.Gen.W19_main_arg16 m g c),
    (h c _ (Cert.KernelIdeal.Gen.mem_uc Cert.KernelIdeal.main_arg17 (by decide))).trans (Cert.KernelIdeal.Gen.W19_main_arg17 m g c),
    (h c _ (Cert.KernelIdeal.Gen.mem_uc Cert.KernelIdeal.main_arg18 (by decide))).trans (Cert.KernelIdeal.Gen.W19_main_arg18 m g c),
    (h c _ (Cert.KernelIdeal.Gen.mem_uc Cert.KernelIdeal.main_arg19 (by decide))).trans (Cert.KernelIdeal.Gen.W19_main_arg19 m g c),
    (h c _ (Cert.KernelIdeal.Gen.mem_uc Cert.KernelIdeal.main_arg20 (by decide))).trans (Cert.KernelIdeal.Gen.W19_main_arg20 m g c),
    (h c _ (Cert.KernelIdeal.Gen.mem_uc Cert.KernelIdeal.main_arg21 (by decide))).trans (Cert.KernelIdeal.Gen.W19_main_arg21 m g c)⟩) (Cert.Proof.Run.run_all m g)
  · refine (θ_run _ _ _).mono (fun r h c => ⟨(h c).1.trans ?_, (h c).2⟩) (Cert.Proof.Ref.run_result m' g')
    obtain ⟨h0, h1, h2, h3, h4, h5, h6, h7, h8, h9, h10, h11, h12, h13, h14, h15, h16, h17, h18, h19, h20, h21⟩ := heq c
    obtain ⟨r0, r1, r2, r3, r4, r5, r6, r7, r8⟩ := Cert.Proof.Pre.inputs _ _ _ _ _ _ _ _ _ _ _ _ _ _ _ _ _ _ _ _ _ _ (hpre c)
    have real := Cert.Proof.Ref.embed_real (StableHlo.launchContents m' c)
      (fun i => real_at h0 r0 i) (fun i => real_at h1 r1 i) (fun i => real_at h2 r2 i)
      (fun i => real_at h3 r3 i) (fun i => real_at h4 r4 i) (fun i => real_at h5 r5 i)
      (fun i => real_at h6 r6 i) (fun i => real_at h7 r7 i) (fun i => real_at h8 r8 i)
    refine Eq.symm ?_
    exact (Cert.Proof.Chain.whole m g c (StableHlo.launchContents m' c) h0.symm h1.symm h2.symm h3.symm h4.symm h5.symm h6.symm h7.symm h8.symm h9.symm h10.symm h11.symm h12.symm h13.symm h14.symm h15.symm h16.symm h17.symm h18.symm h19.symm h20.symm h21.symm real)

/-- The certificate. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  fun m ρ _ => Cert.Proof.Ref.frame m ρ, fun m ρ _ => Cert.Proof.Ref.frame m ρ, trivial, algebraic⟩

end Cert.Proof

end
